-- ==== Defs.lean ====
def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Dgrad (m : (ℓ : Loc Cert.Dgrad.nD Cert.Dgrad.τ Cert.Dgrad.sig) → Buf (Elt Bits) ℓ) : Prop :=
  True

def Pre_DgradIdeal (m : (ℓ : Loc Cert.DgradIdeal.nD Cert.DgradIdeal.τ Cert.DgradIdeal.sig) → Buf (Elt Ideal) ℓ) : Prop :=
  True

def Pre_DgradRefIdeal (m : (ℓ : Loc Cert.DgradRefIdeal.nD Cert.DgradRefIdeal.τ Cert.DgradRefIdeal.sig) → Buf (Elt Ideal) ℓ) : Prop :=
  True

def Pre_YProj (m : (ℓ : Loc Cert.YProj.nD Cert.YProj.τ Cert.YProj.sig) → Buf (Elt Bits) ℓ) : Prop :=
  True

def Pre_YProjIdeal (m : (ℓ : Loc Cert.YProjIdeal.nD Cert.YProjIdeal.τ Cert.YProjIdeal.sig) → Buf (Elt Ideal) ℓ) : Prop :=
  True

def Pre_YProjRefIdeal (m : (ℓ : Loc Cert.YProjRefIdeal.nD Cert.YProjRefIdeal.τ Cert.YProjRefIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_GradWOutRefIdeal (m : (ℓ : Loc Cert.GradWOutRefIdeal.nD Cert.GradWOutRefIdeal.τ Cert.GradWOutRefIdeal.sig) → Buf (Elt Ideal) ℓ) : Prop :=
  True

def Pre_DpQuant (m : (ℓ : Loc Cert.DpQuant.nD Cert.DpQuant.τ Cert.DpQuant.sig) → Buf (Elt Bits) ℓ) : Prop :=
  True

def Pre_DpQuantIdeal (m : (ℓ : Loc Cert.DpQuantIdeal.nD Cert.DpQuantIdeal.τ Cert.DpQuantIdeal.sig) → Buf (Elt Ideal) ℓ) : Prop :=
  True

def Pre_DpQuantRefIdeal (m : (ℓ : Loc Cert.DpQuantRefIdeal.nD Cert.DpQuantRefIdeal.τ Cert.DpQuantRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_GradWInRefIdeal (m : (ℓ : Loc Cert.GradWInRefIdeal.nD Cert.GradWInRefIdeal.τ Cert.GradWInRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Dgrad [hDgrad : Cert.Dgrad.Facts] : Prop :=
  ∀ (m : (ℓ : Loc Cert.Dgrad.nD Cert.Dgrad.τ Cert.Dgrad.sig) → Buf (Elt Bits) ℓ) (g : Dev Cert.Dgrad.nD → PrngReg), Pre_Dgrad m →
    θ_run (Cert.Dgrad.defs (F := Bits)) (onTc (τ := Cert.Dgrad.τ) (Cert.Dgrad.main (F := Bits))) ⟨m, fun _ => 0, g⟩ (fun r => (∀ c : Dev Cert.Dgrad.nD,
      r.2.mem ((c.tc : Thread Cert.Dgrad.nD Cert.Dgrad.τ).loc Cert.Dgrad.main_arg0) = m ((c.tc : Thread Cert.Dgrad.nD Cert.Dgrad.τ).loc Cert.Dgrad.main_arg0)
      ∧ r.2.mem ((c.tc : Thread Cert.Dgrad.nD Cert.Dgrad.τ).loc Cert.Dgrad.main_arg1) = m ((c.tc : Thread Cert.Dgrad.nD Cert.Dgrad.τ).loc Cert.Dgrad.main_arg1)
      ∧ r.2.mem ((c.tc : Thread Cert.Dgrad.nD Cert.Dgrad.τ).loc Cert.Dgrad.main_arg2) = m ((c.tc : Thread Cert.Dgrad.nD Cert.Dgrad.τ).loc Cert.Dgrad.main_arg2)
      ∧ r.2.mem ((c.tc : Thread Cert.Dgrad.nD Cert.Dgrad.τ).loc Cert.Dgrad.main_arg3) = m ((c.tc : Thread Cert.Dgrad.nD Cert.Dgrad.τ).loc Cert.Dgrad.main_arg3))
      ∧ r.2.sem = fun _ => 0)

def quiescent_DgradIdeal [hDgradIdeal : Cert.DgradIdeal.Facts] : Prop :=
  ∀ (m : (ℓ : Loc Cert.DgradIdeal.nD Cert.DgradIdeal.τ Cert.DgradIdeal.sig) → Buf (Elt Ideal) ℓ) (g : Dev Cert.DgradIdeal.nD → PrngReg), Pre_DgradIdeal m →
    θ_run (Cert.DgradIdeal.defs (F := Ideal)) (onTc (τ := Cert.DgradIdeal.τ) (Cert.DgradIdeal.main (F := Ideal))) ⟨m, fun _ => 0, g⟩ (fun r => (∀ c : Dev Cert.DgradIdeal.nD,
      r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
      ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
      ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
      ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3))
      ∧ r.2.sem = fun _ => 0)

def quiescent_DgradRefIdeal [hDgradRefIdeal : Cert.DgradRefIdeal.Facts] : Prop :=
  ∀ (m : (ℓ : Loc Cert.DgradRefIdeal.nD Cert.DgradRefIdeal.τ Cert.DgradRefIdeal.sig) → Buf (Elt Ideal) ℓ) (g : Dev Cert.DgradRefIdeal.nD → PrngReg), Pre_DgradRefIdeal m →
    θ_run (Cert.DgradRefIdeal.defs (F := Ideal)) (onTc (τ := Cert.DgradRefIdeal.τ) (Cert.DgradRefIdeal.main (F := Ideal))) ⟨m, fun _ => 0, g⟩ (fun r => (∀ c : Dev Cert.DgradRefIdeal.nD,
      r.2.mem ((c.tc : Thread Cert.DgradRefIdeal.nD Cert.DgradRefIdeal.τ).loc Cert.DgradRefIdeal.main_arg0) = m ((c.tc : Thread Cert.DgradRefIdeal.nD Cert.DgradRefIdeal.τ).loc Cert.DgradRefIdeal.main_arg0)
      ∧ r.2.mem ((c.tc : Thread Cert.DgradRefIdeal.nD Cert.DgradRefIdeal.τ).loc Cert.DgradRefIdeal.main_arg1) = m ((c.tc : Thread Cert.DgradRefIdeal.nD Cert.DgradRefIdeal.τ).loc Cert.DgradRefIdeal.main_arg1)
      ∧ r.2.mem ((c.tc : Thread Cert.DgradRefIdeal.nD Cert.DgradRefIdeal.τ).loc Cert.DgradRefIdeal.main_arg2) = m ((c.tc : Thread Cert.DgradRefIdeal.nD Cert.DgradRefIdeal.τ).loc Cert.DgradRefIdeal.main_arg2)
      ∧ r.2.mem ((c.tc : Thread Cert.DgradRefIdeal.nD Cert.DgradRefIdeal.τ).loc Cert.DgradRefIdeal.main_arg3) = m ((c.tc : Thread Cert.DgradRefIdeal.nD Cert.DgradRefIdeal.τ).loc Cert.DgradRefIdeal.main_arg3))
      ∧ r.2.sem = fun _ => 0)

def quiescent_YProj [hYProj : Cert.YProj.Facts] : Prop :=
  ∀ (m : (ℓ : Loc Cert.YProj.nD Cert.YProj.τ Cert.YProj.sig) → Buf (Elt Bits) ℓ) (g : Dev Cert.YProj.nD → PrngReg), Pre_YProj m →
    θ_run (Cert.YProj.defs (F := Bits)) (onTc (τ := Cert.YProj.τ) (Cert.YProj.main (F := Bits))) ⟨m, fun _ => 0, g⟩ (fun r => (∀ c : Dev Cert.YProj.nD,
      r.2.mem ((c.tc : Thread Cert.YProj.nD Cert.YProj.τ).loc Cert.YProj.main_arg0) = m ((c.tc : Thread Cert.YProj.nD Cert.YProj.τ).loc Cert.YProj.main_arg0)
      ∧ r.2.mem ((c.tc : Thread Cert.YProj.nD Cert.YProj.τ).loc Cert.YProj.main_arg1) = m ((c.tc : Thread Cert.YProj.nD Cert.YProj.τ).loc Cert.YProj.main_arg1)
      ∧ r.2.mem ((c.tc : Thread Cert.YProj.nD Cert.YProj.τ).loc Cert.YProj.main_arg2) = m ((c.tc : Thread Cert.YProj.nD Cert.YProj.τ).loc Cert.YProj.main_arg2)
      ∧ r.2.mem ((c.tc : Thread Cert.YProj.nD Cert.YProj.τ).loc Cert.YProj.main_arg3) = m ((c.tc : Thread Cert.YProj.nD Cert.YProj.τ).loc Cert.YProj.main_arg3))
      ∧ r.2.sem = fun _ => 0)

def quiescent_YProjIdeal [hYProjIdeal : Cert.YProjIdeal.Facts] : Prop :=
  ∀ (m : (ℓ : Loc Cert.YProjIdeal.nD Cert.YProjIdeal.τ Cert.YProjIdeal.sig) → Buf (Elt Ideal) ℓ) (g : Dev Cert.YProjIdeal.nD → PrngReg), Pre_YProjIdeal m →
    θ_run (Cert.YProjIdeal.defs (F := Ideal)) (onTc (τ := Cert.YProjIdeal.τ) (Cert.YProjIdeal.main (F := Ideal))) ⟨m, fun _ => 0, g⟩ (fun r => (∀ c : Dev Cert.YProjIdeal.nD,
      r.2.mem ((c.tc : Thread Cert.YProjIdeal.nD Cert.YProjIdeal.τ).loc Cert.YProjIdeal.main_arg0) = m ((c.tc : Thread Cert.YProjIdeal.nD Cert.YProjIdeal.τ).loc Cert.YProjIdeal.main_arg0)
      ∧ r.2.mem ((c.tc : Thread Cert.YProjIdeal.nD Cert.YProjIdeal.τ).loc Cert.YProjIdeal.main_arg1) = m ((c.tc : Thread Cert.YProjIdeal.nD Cert.YProjIdeal.τ).loc Cert.YProjIdeal.main_arg1)
      ∧ r.2.mem ((c.tc : Thread Cert.YProjIdeal.nD Cert.YProjIdeal.τ).loc Cert.YProjIdeal.main_arg2) = m ((c.tc : Thread Cert.YProjIdeal.nD Cert.YProjIdeal.τ).loc Cert.YProjIdeal.main_arg2)
      ∧ r.2.mem ((c.tc : Thread Cert.YProjIdeal.nD Cert.YProjIdeal.τ).loc Cert.YProjIdeal.main_arg3) = m ((c.tc : Thread Cert.YProjIdeal.nD Cert.YProjIdeal.τ).loc Cert.YProjIdeal.main_arg3))
      ∧ r.2.sem = fun _ => 0)

def quiescent_YProjRefIdeal [hYProjRefIdeal : Cert.YProjRefIdeal.Facts] : Prop :=
  ∀ (m : (ℓ : Loc Cert.YProjRefIdeal.nD Cert.YProjRefIdeal.τ Cert.YProjRefIdeal.sig) → Buf (Elt Ideal) ℓ) (g : Dev Cert.YProjRefIdeal.nD → PrngReg), Pre_YProjRefIdeal m →
    θ_run (Cert.YProjRefIdeal.defs (F := Ideal)) (onTc (τ := Cert.YProjRefIdeal.τ) (Cert.YProjRefIdeal.main (F := Ideal))) ⟨m, fun _ => 0, g⟩ (fun r => (∀ c : Dev Cert.YProjRefIdeal.nD,
      r.2.mem ((c.tc : Thread Cert.YProjRefIdeal.nD Cert.YProjRefIdeal.τ).loc Cert.YProjRefIdeal.main_arg0) = m ((c.tc : Thread Cert.YProjRefIdeal.nD Cert.YProjRefIdeal.τ).loc Cert.YProjRefIdeal.main_arg0)
      ∧ r.2.mem ((c.tc : Thread Cert.YProjRefIdeal.nD Cert.YProjRefIdeal.τ).loc Cert.YProjRefIdeal.main_arg1) = m ((c.tc : Thread Cert.YProjRefIdeal.nD Cert.YProjRefIdeal.τ).loc Cert.YProjRefIdeal.main_arg1)
      ∧ r.2.mem ((c.tc : Thread Cert.YProjRefIdeal.nD Cert.YProjRefIdeal.τ).loc Cert.YProjRefIdeal.main_arg2) = m ((c.tc : Thread Cert.YProjRefIdeal.nD Cert.YProjRefIdeal.τ).loc Cert.YProjRefIdeal.main_arg2)
      ∧ r.2.mem ((c.tc : Thread Cert.YProjRefIdeal.nD Cert.YProjRefIdeal.τ).loc Cert.YProjRefIdeal.main_arg3) = m ((c.tc : Thread Cert.YProjRefIdeal.nD Cert.YProjRefIdeal.τ).loc Cert.YProjRefIdeal.main_arg3))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1)
      ∧ r.2.mem ((c.tc : Thread Cert.GradWOut.nD Cert.GradWOut.τ).loc Cert.GradWOut.main_arg2) = m ((c.tc : Thread Cert.GradWOut.nD Cert.GradWOut.τ).loc Cert.GradWOut.main_arg2)
      ∧ r.2.mem ((c.tc : Thread Cert.GradWOut.nD Cert.GradWOut.τ).loc Cert.GradWOut.main_arg3) = m ((c.tc : Thread Cert.GradWOut.nD Cert.GradWOut.τ).loc Cert.GradWOut.main_arg3))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1)
      ∧ r.2.mem ((c.tc : Thread Cert.GradWOutIdeal.nD Cert.GradWOutIdeal.τ).loc Cert.GradWOutIdeal.main_arg2) = m ((c.tc : Thread Cert.GradWOutIdeal.nD Cert.GradWOutIdeal.τ).loc Cert.GradWOutIdeal.main_arg2)
      ∧ r.2.mem ((c.tc : Thread Cert.GradWOutIdeal.nD Cert.GradWOutIdeal.τ).loc Cert.GradWOutIdeal.main_arg3) = m ((c.tc : Thread Cert.GradWOutIdeal.nD Cert.GradWOutIdeal.τ).loc Cert.GradWOutIdeal.main_arg3))
      ∧ r.2.sem = fun _ => 0)

def quiescent_GradWOutRefIdeal [hGradWOutRefIdeal : Cert.GradWOutRefIdeal.Facts] : Prop :=
  ∀ (m : (ℓ : Loc Cert.GradWOutRefIdeal.nD Cert.GradWOutRefIdeal.τ Cert.GradWOutRefIdeal.sig) → Buf (Elt Ideal) ℓ) (g : Dev Cert.GradWOutRefIdeal.nD → PrngReg), Pre_GradWOutRefIdeal m →
    θ_run (Cert.GradWOutRefIdeal.defs (F := Ideal)) (onTc (τ := Cert.GradWOutRefIdeal.τ) (Cert.GradWOutRefIdeal.main (F := Ideal))) ⟨m, fun _ => 0, g⟩ (fun r => (∀ c : Dev Cert.GradWOutRefIdeal.nD,
      r.2.mem ((c.tc : Thread Cert.GradWOutRefIdeal.nD Cert.GradWOutRefIdeal.τ).loc Cert.GradWOutRefIdeal.main_arg0) = m ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m ((c.tc : Thread Cert.GradWOutRefIdeal.nD Cert.GradWOutRefIdeal.τ).loc Cert.GradWOutRefIdeal.main_arg1)
      ∧ r.2.mem ((c.tc : Thread Cert.GradWOutRefIdeal.nD Cert.GradWOutRefIdeal.τ).loc Cert.GradWOutRefIdeal.main_arg2) = m ((c.tc : Thread Cert.GradWOutRefIdeal.nD Cert.GradWOutRefIdeal.τ).loc Cert.GradWOutRefIdeal.main_arg2)
      ∧ r.2.mem ((c.tc : Thread Cert.GradWOutRefIdeal.nD Cert.GradWOutRefIdeal.τ).loc Cert.GradWOutRefIdeal.main_arg3) = m ((c.tc : Thread Cert.GradWOutRefIdeal.nD Cert.GradWOutRefIdeal.τ).loc Cert.GradWOutRefIdeal.main_arg3))
      ∧ r.2.sem = fun _ => 0)

def quiescent_DpQuant [hDpQuant : Cert.DpQuant.Facts] : Prop :=
  ∀ (m : (ℓ : Loc Cert.DpQuant.nD Cert.DpQuant.τ Cert.DpQuant.sig) → Buf (Elt Bits) ℓ) (g : Dev Cert.DpQuant.nD → PrngReg), Pre_DpQuant m →
    θ_run (Cert.DpQuant.defs (F := Bits)) (onTc (τ := Cert.DpQuant.τ) (Cert.DpQuant.main (F := Bits))) ⟨m, fun _ => 0, g⟩ (fun r => (∀ c : Dev Cert.DpQuant.nD,
      r.2.mem ((c.tc : Thread Cert.DpQuant.nD Cert.DpQuant.τ).loc Cert.DpQuant.main_arg0) = m ((c.tc : Thread Cert.DpQuant.nD Cert.DpQuant.τ).loc Cert.DpQuant.main_arg0)
      ∧ r.2.mem ((c.tc : Thread Cert.DpQuant.nD Cert.DpQuant.τ).loc Cert.DpQuant.main_arg1) = m ((c.tc : Thread Cert.DpQuant.nD Cert.DpQuant.τ).loc Cert.DpQuant.main_arg1)
      ∧ r.2.mem ((c.tc : Thread Cert.DpQuant.nD Cert.DpQuant.τ).loc Cert.DpQuant.main_arg2) = m ((c.tc : Thread Cert.DpQuant.nD Cert.DpQuant.τ).loc Cert.DpQuant.main_arg2)
      ∧ r.2.mem ((c.tc : Thread Cert.DpQuant.nD Cert.DpQuant.τ).loc Cert.DpQuant.main_arg3) = m ((c.tc : Thread Cert.DpQuant.nD Cert.DpQuant.τ).loc Cert.DpQuant.main_arg3)
      ∧ r.2.mem ((c.tc : Thread Cert.DpQuant.nD Cert.DpQuant.τ).loc Cert.DpQuant.main_arg4) = m ((c.tc : Thread Cert.DpQuant.nD Cert.DpQuant.τ).loc Cert.DpQuant.main_arg4)
      ∧ r.2.mem ((c.tc : Thread Cert.DpQuant.nD Cert.DpQuant.τ).loc Cert.DpQuant.main_arg5) = m ((c.tc : Thread Cert.DpQuant.nD Cert.DpQuant.τ).loc Cert.DpQuant.main_arg5))
      ∧ r.2.sem = fun _ => 0)

def quiescent_DpQuantIdeal [hDpQuantIdeal : Cert.DpQuantIdeal.Facts] : Prop :=
  ∀ (m : (ℓ : Loc Cert.DpQuantIdeal.nD Cert.DpQuantIdeal.τ Cert.DpQuantIdeal.sig) → Buf (Elt Ideal) ℓ) (g : Dev Cert.DpQuantIdeal.nD → PrngReg), Pre_DpQuantIdeal m →
    θ_run (Cert.DpQuantIdeal.defs (F := Ideal)) (onTc (τ := Cert.DpQuantIdeal.τ) (Cert.DpQuantIdeal.main (F := Ideal))) ⟨m, fun _ => 0, g⟩ (fun r => (∀ c : Dev Cert.DpQuantIdeal.nD,
      r.2.mem ((c.tc : Thread Cert.DpQuantIdeal.nD Cert.DpQuantIdeal.τ).loc Cert.DpQuantIdeal.main_arg0) = m ((c.tc : Thread Cert.DpQuantIdeal.nD Cert.DpQuantIdeal.τ).loc Cert.DpQuantIdeal.main_arg0)
      ∧ r.2.mem ((c.tc : Thread Cert.DpQuantIdeal.nD Cert.DpQuantIdeal.τ).loc Cert.DpQuantIdeal.main_arg1) = m ((c.tc : Thread Cert.DpQuantIdeal.nD Cert.DpQuantIdeal.τ).loc Cert.DpQuantIdeal.main_arg1)
      ∧ r.2.mem ((c.tc : Thread Cert.DpQuantIdeal.nD Cert.DpQuantIdeal.τ).loc Cert.DpQuantIdeal.main_arg2) = m ((c.tc : Thread Cert.DpQuantIdeal.nD Cert.DpQuantIdeal.τ).loc Cert.DpQuantIdeal.main_arg2)
      ∧ r.2.mem ((c.tc : Thread Cert.DpQuantIdeal.nD Cert.DpQuantIdeal.τ).loc Cert.DpQuantIdeal.main_arg3) = m ((c.tc : Thread Cert.DpQuantIdeal.nD Cert.DpQuantIdeal.τ).loc Cert.DpQuantIdeal.main_arg3)
      ∧ r.2.mem ((c.tc : Thread Cert.DpQuantIdeal.nD Cert.DpQuantIdeal.τ).loc Cert.DpQuantIdeal.main_arg4) = m ((c.tc : Thread Cert.DpQuantIdeal.nD Cert.DpQuantIdeal.τ).loc Cert.DpQuantIdeal.main_arg4)
      ∧ r.2.mem ((c.tc : Thread Cert.DpQuantIdeal.nD Cert.DpQuantIdeal.τ).loc Cert.DpQuantIdeal.main_arg5) = m ((c.tc : Thread Cert.DpQuantIdeal.nD Cert.DpQuantIdeal.τ).loc Cert.DpQuantIdeal.main_arg5))
      ∧ r.2.sem = fun _ => 0)

def quiescent_DpQuantRefIdeal [hDpQuantRefIdeal : Cert.DpQuantRefIdeal.Facts] : Prop :=
  ∀ (m : (ℓ : Loc Cert.DpQuantRefIdeal.nD Cert.DpQuantRefIdeal.τ Cert.DpQuantRefIdeal.sig) → Buf (Elt Ideal) ℓ) (g : Dev Cert.DpQuantRefIdeal.nD → PrngReg), Pre_DpQuantRefIdeal m →
    θ_run (Cert.DpQuantRefIdeal.defs (F := Ideal)) (onTc (τ := Cert.DpQuantRefIdeal.τ) (Cert.DpQuantRefIdeal.main (F := Ideal))) ⟨m, fun _ => 0, g⟩ (fun r => (∀ c : Dev Cert.DpQuantRefIdeal.nD,
      r.2.mem ((c.tc : Thread Cert.DpQuantRefIdeal.nD Cert.DpQuantRefIdeal.τ).loc Cert.DpQuantRefIdeal.main_arg0) = m ((c.tc : Thread Cert.DpQuantRefIdeal.nD Cert.DpQuantRefIdeal.τ).loc Cert.DpQuantRefIdeal.main_arg0)
      ∧ r.2.mem ((c.tc : Thread Cert.DpQuantRefIdeal.nD Cert.DpQuantRefIdeal.τ).loc Cert.DpQuantRefIdeal.main_arg1) = m ((c.tc : Thread Cert.DpQuantRefIdeal.nD Cert.DpQuantRefIdeal.τ).loc Cert.DpQuantRefIdeal.main_arg1)
      ∧ r.2.mem ((c.tc : Thread Cert.DpQuantRefIdeal.nD Cert.DpQuantRefIdeal.τ).loc Cert.DpQuantRefIdeal.main_arg2) = m ((c.tc : Thread Cert.DpQuantRefIdeal.nD Cert.DpQuantRefIdeal.τ).loc Cert.DpQuantRefIdeal.main_arg2)
      ∧ r.2.mem ((c.tc : Thread Cert.DpQuantRefIdeal.nD Cert.DpQuantRefIdeal.τ).loc Cert.DpQuantRefIdeal.main_arg3) = m ((c.tc : Thread Cert.DpQuantRefIdeal.nD Cert.DpQuantRefIdeal.τ).loc Cert.DpQuantRefIdeal.main_arg3)
      ∧ r.2.mem ((c.tc : Thread Cert.DpQuantRefIdeal.nD Cert.DpQuantRefIdeal.τ).loc Cert.DpQuantRefIdeal.main_arg4) = m ((c.tc : Thread Cert.DpQuantRefIdeal.nD Cert.DpQuantRefIdeal.τ).loc Cert.DpQuantRefIdeal.main_arg4)
      ∧ r.2.mem ((c.tc : Thread Cert.DpQuantRefIdeal.nD Cert.DpQuantRefIdeal.τ).loc Cert.DpQuantRefIdeal.main_arg5) = m ((c.tc : Thread Cert.DpQuantRefIdeal.nD Cert.DpQuantRefIdeal.τ).loc Cert.DpQuantRefIdeal.main_arg5))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4)
      ∧ r.2.mem ((c.tc : Thread Cert.GradX.nD Cert.GradX.τ).loc Cert.GradX.main_arg5) = m ((c.tc : Thread Cert.GradX.nD Cert.GradX.τ).loc Cert.GradX.main_arg5)
      ∧ r.2.mem ((c.tc : Thread Cert.GradX.nD Cert.GradX.τ).loc Cert.GradX.main_arg6) = m ((c.tc : Thread Cert.GradX.nD Cert.GradX.τ).loc Cert.GradX.main_arg6))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
      ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
      ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4)
      ∧ r.2.mem ((c.tc : Thread Cert.GradXRefIdeal.nD Cert.GradXRefIdeal.τ).loc Cert.GradXRefIdeal.main_arg5) = m ((c.tc : Thread Cert.GradXRefIdeal.nD Cert.GradXRefIdeal.τ).loc Cert.GradXRefIdeal.main_arg5)
      ∧ r.2.mem ((c.tc : Thread Cert.GradXRefIdeal.nD Cert.GradXRefIdeal.τ).loc Cert.GradXRefIdeal.main_arg6) = m ((c.tc : Thread Cert.GradXRefIdeal.nD Cert.GradXRefIdeal.τ).loc Cert.GradXRefIdeal.main_arg6))
      ∧ r.2.sem = fun _ => 0)

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1)
      ∧ r.2.mem ((c.tc : Thread Cert.GradWIn.nD Cert.GradWIn.τ).loc Cert.GradWIn.main_arg2) = m ((c.tc : Thread Cert.GradWIn.nD Cert.GradWIn.τ).loc Cert.GradWIn.main_arg2)
      ∧ r.2.mem ((c.tc : Thread Cert.GradWIn.nD Cert.GradWIn.τ).loc Cert.GradWIn.main_arg3) = m ((c.tc : Thread Cert.GradWIn.nD Cert.GradWIn.τ).loc Cert.GradWIn.main_arg3))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
      ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2)
      ∧ r.2.mem ((c.tc : Thread Cert.GradWInIdeal.nD Cert.GradWInIdeal.τ).loc Cert.GradWInIdeal.main_arg3) = m ((c.tc : Thread Cert.GradWInIdeal.nD Cert.GradWInIdeal.τ).loc Cert.GradWInIdeal.main_arg3))
      ∧ r.2.sem = fun _ => 0)

def quiescent_GradWInRefIdeal [hGradWInRefIdeal : Cert.GradWInRefIdeal.Facts] : Prop :=
  ∀ (m : (ℓ : Loc Cert.GradWInRefIdeal.nD Cert.GradWInRefIdeal.τ Cert.GradWInRefIdeal.sig) → Buf (Elt Ideal) ℓ) (g : Dev Cert.GradWInRefIdeal.nD → PrngReg), Pre_GradWInRefIdeal m →
    θ_run (Cert.GradWInRefIdeal.defs (F := Ideal)) (onTc (τ := Cert.GradWInRefIdeal.τ) (Cert.GradWInRefIdeal.main (F := Ideal))) ⟨m, fun _ => 0, g⟩ (fun r => (∀ c : Dev Cert.GradWInRefIdeal.nD,
      r.2.mem ((c.tc : Thread Cert.GradWInRefIdeal.nD Cert.GradWInRefIdeal.τ).loc Cert.GradWInRefIdeal.main_arg0) = m ((c.tc : Thread Cert.GradWInRefIdeal.nD Cert.GradWInRefIdeal.τ).loc Cert.GradWInRefIdeal.main_arg0)
      ∧ r.2.mem ((c.tc : Thread Cert.GradWInRefIdeal.nD Cert.GradWInRefIdeal.τ).loc Cert.GradWInRefIdeal.main_arg1) = m ((c.tc : Thread Cert.GradWInRefIdeal.nD Cert.GradWInRefIdeal.τ).loc Cert.GradWInRefIdeal.main_arg1)
      ∧ r.2.mem ((c.tc : Thread Cert.GradWInRefIdeal.nD Cert.GradWInRefIdeal.τ).loc Cert.GradWInRefIdeal.main_arg2) = m ((c.tc : Thread Cert.GradWInRefIdeal.nD Cert.GradWInRefIdeal.τ).loc Cert.GradWInRefIdeal.main_arg2)
      ∧ r.2.mem ((c.tc : Thread Cert.GradWInRefIdeal.nD Cert.GradWInRefIdeal.τ).loc Cert.GradWInRefIdeal.main_arg3) = m ((c.tc : Thread Cert.GradWInRefIdeal.nD Cert.GradWInRefIdeal.τ).loc Cert.GradWInRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v5_0)) (v1 : (c : Dev Cert.PrepIdeal.nD) → Buf (Elt Ideal) ((c.tc : Thread Cert.PrepIdeal.nD Cert.PrepIdeal.τ).loc Cert.PrepIdeal.main_v5_1)) (v2 : (c : Dev Cert.PrepIdeal.nD) → Buf (Elt Ideal) ((c.tc : Thread Cert.PrepIdeal.nD Cert.PrepIdeal.τ).loc Cert.PrepIdeal.main_v5_2)) (v3 : (c : Dev Cert.PrepIdeal.nD) → Buf (Elt Ideal) ((c.tc : Thread Cert.PrepIdeal.nD Cert.PrepIdeal.τ).loc Cert.PrepIdeal.main_v5_3)) (v4 : (c : Dev Cert.PrepIdeal.nD) → Buf (Elt Ideal) ((c.tc : Thread Cert.PrepIdeal.nD Cert.PrepIdeal.τ).loc Cert.PrepIdeal.main_v5_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v5_0) = v0 c
          ∧ r.2.mem ((c.tc : Thread Cert.PrepIdeal.nD Cert.PrepIdeal.τ).loc Cert.PrepIdeal.main_v5_1) = v1 c
          ∧ r.2.mem ((c.tc : Thread Cert.PrepIdeal.nD Cert.PrepIdeal.τ).loc Cert.PrepIdeal.main_v5_2) = v2 c
          ∧ r.2.mem ((c.tc : Thread Cert.PrepIdeal.nD Cert.PrepIdeal.τ).loc Cert.PrepIdeal.main_v5_3) = v3 c
          ∧ r.2.mem ((c.tc : Thread Cert.PrepIdeal.nD Cert.PrepIdeal.τ).loc Cert.PrepIdeal.main_v5_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v5_0) = v0 c
          ∧ r.2.mem ((c.tc : Thread Cert.PrepRefIdeal.nD Cert.PrepRefIdeal.τ).loc Cert.PrepRefIdeal.main_v5_1) = v1 c
          ∧ r.2.mem ((c.tc : Thread Cert.PrepRefIdeal.nD Cert.PrepRefIdeal.τ).loc Cert.PrepRefIdeal.main_v5_2) = v2 c
          ∧ r.2.mem ((c.tc : Thread Cert.PrepRefIdeal.nD Cert.PrepRefIdeal.τ).loc Cert.PrepRefIdeal.main_v5_3) = v3 c
          ∧ r.2.mem ((c.tc : Thread Cert.PrepRefIdeal.nD Cert.PrepRefIdeal.τ).loc Cert.PrepRefIdeal.main_v5_4) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Dgrad_DgradIdeal : Prop :=
  True

def algebraic_DgradIdeal_DgradRefIdeal [hDgradIdeal : Cert.DgradIdeal.Facts] [hDgradRefIdeal : Cert.DgradRefIdeal.Facts] : Prop :=
  ∀ (m : (ℓ : Loc Cert.DgradIdeal.nD Cert.DgradIdeal.τ Cert.DgradIdeal.sig) → Buf (Elt Ideal) ℓ) (g : Dev Cert.DgradIdeal.nD → PrngReg)
    (m' : (ℓ : Loc Cert.DgradRefIdeal.nD Cert.DgradRefIdeal.τ Cert.DgradRefIdeal.sig) → Buf (Elt Ideal) ℓ) (g' : Dev Cert.DgradRefIdeal.nD → PrngReg), Pre_DgradIdeal m →
    (∀ c : Dev Cert.DgradIdeal.nD,
      m' ((c.tc : Thread Cert.DgradRefIdeal.nD Cert.DgradRefIdeal.τ).loc Cert.DgradRefIdeal.main_arg0) = m ((c.tc : Thread Cert.DgradIdeal.nD Cert.DgradIdeal.τ).loc Cert.DgradIdeal.main_arg0)
      ∧ m' ((c.tc : Thread Cert.DgradRefIdeal.nD Cert.DgradRefIdeal.τ).loc Cert.DgradRefIdeal.main_arg1) = m ((c.tc : Thread Cert.DgradIdeal.nD Cert.DgradIdeal.τ).loc Cert.DgradIdeal.main_arg1)
      ∧ m' ((c.tc : Thread Cert.DgradRefIdeal.nD Cert.DgradRefIdeal.τ).loc Cert.DgradRefIdeal.main_arg2) = m ((c.tc : Thread Cert.DgradIdeal.nD Cert.DgradIdeal.τ).loc Cert.DgradIdeal.main_arg2)
      ∧ m' ((c.tc : Thread Cert.DgradRefIdeal.nD Cert.DgradRefIdeal.τ).loc Cert.DgradRefIdeal.main_arg3) = m ((c.tc : Thread Cert.DgradIdeal.nD Cert.DgradIdeal.τ).loc Cert.DgradIdeal.main_arg3)) →
    ∃ (v0 : (c : Dev Cert.DgradIdeal.nD) → Buf (Elt Ideal) ((c.tc : Thread Cert.DgradIdeal.nD Cert.DgradIdeal.τ).loc Cert.DgradIdeal.main_v2)),
      θ_run (Cert.DgradIdeal.defs (F := Ideal)) (onTc (τ := Cert.DgradIdeal.τ) (Cert.DgradIdeal.main (F := Ideal))) ⟨m, fun _ => 0, g⟩ (fun r => ∀ c : Dev Cert.DgradIdeal.nD,
          r.2.mem ((c.tc : Thread Cert.DgradIdeal.nD Cert.DgradIdeal.τ).loc Cert.DgradIdeal.main_v2) = v0 c
          ∧ r.2.mem ((c.tc : Thread Cert.DgradIdeal.nD Cert.DgradIdeal.τ).loc Cert.DgradIdeal.main_arg0) = m ((c.tc : Thread Cert.DgradIdeal.nD Cert.DgradIdeal.τ).loc Cert.DgradIdeal.main_arg0)
          ∧ r.2.mem ((c.tc : Thread Cert.DgradIdeal.nD Cert.DgradIdeal.τ).loc Cert.DgradIdeal.main_arg1) = m ((c.tc : Thread Cert.DgradIdeal.nD Cert.DgradIdeal.τ).loc Cert.DgradIdeal.main_arg1)
          ∧ r.2.mem ((c.tc : Thread Cert.DgradIdeal.nD Cert.DgradIdeal.τ).loc Cert.DgradIdeal.main_arg2) = m ((c.tc : Thread Cert.DgradIdeal.nD Cert.DgradIdeal.τ).loc Cert.DgradIdeal.main_arg2)
          ∧ r.2.mem ((c.tc : Thread Cert.DgradIdeal.nD Cert.DgradIdeal.τ).loc Cert.DgradIdeal.main_arg3) = m ((c.tc : Thread Cert.DgradIdeal.nD Cert.DgradIdeal.τ).loc Cert.DgradIdeal.main_arg3))
      ∧ θ_run (Cert.DgradRefIdeal.defs (F := Ideal)) (onTc (τ := Cert.DgradRefIdeal.τ) (Cert.DgradRefIdeal.main (F := Ideal))) ⟨m', fun _ => 0, g'⟩ (fun r => ∀ c : Dev Cert.DgradRefIdeal.nD,
          r.2.mem ((c.tc : Thread Cert.DgradRefIdeal.nD Cert.DgradRefIdeal.τ).loc Cert.DgradRefIdeal.main_v2) = v0 c
          ∧ r.2.mem ((c.tc : Thread Cert.DgradRefIdeal.nD Cert.DgradRefIdeal.τ).loc Cert.DgradRefIdeal.main_arg0) = m' ((c.tc : Thread Cert.DgradRefIdeal.nD Cert.DgradRefIdeal.τ).loc Cert.DgradRefIdeal.main_arg0)
          ∧ r.2.mem ((c.tc : Thread Cert.DgradRefIdeal.nD Cert.DgradRefIdeal.τ).loc Cert.DgradRefIdeal.main_arg1) = m' ((c.tc : Thread Cert.DgradRefIdeal.nD Cert.DgradRefIdeal.τ).loc Cert.DgradRefIdeal.main_arg1)
          ∧ r.2.mem ((c.tc : Thread Cert.DgradRefIdeal.nD Cert.DgradRefIdeal.τ).loc Cert.DgradRefIdeal.main_arg2) = m' ((c.tc : Thread Cert.DgradRefIdeal.nD Cert.DgradRefIdeal.τ).loc Cert.DgradRefIdeal.main_arg2)
          ∧ r.2.mem ((c.tc : Thread Cert.DgradRefIdeal.nD Cert.DgradRefIdeal.τ).loc Cert.DgradRefIdeal.main_arg3) = m' ((c.tc : Thread Cert.DgradRefIdeal.nD Cert.DgradRefIdeal.τ).loc Cert.DgradRefIdeal.main_arg3))

def preserves_YProj_YProjIdeal : Prop :=
  True

def algebraic_YProjIdeal_YProjRefIdeal [hYProjIdeal : Cert.YProjIdeal.Facts] [hYProjRefIdeal : Cert.YProjRefIdeal.Facts] : Prop :=
  ∀ (m : (ℓ : Loc Cert.YProjIdeal.nD Cert.YProjIdeal.τ Cert.YProjIdeal.sig) → Buf (Elt Ideal) ℓ) (g : Dev Cert.YProjIdeal.nD → PrngReg)
    (m' : (ℓ : Loc Cert.YProjRefIdeal.nD Cert.YProjRefIdeal.τ Cert.YProjRefIdeal.sig) → Buf (Elt Ideal) ℓ) (g' : Dev Cert.YProjRefIdeal.nD → PrngReg), Pre_YProjIdeal m →
    (∀ c : Dev Cert.YProjIdeal.nD,
      m' ((c.tc : Thread Cert.YProjRefIdeal.nD Cert.YProjRefIdeal.τ).loc Cert.YProjRefIdeal.main_arg0) = m ((c.tc : Thread Cert.YProjIdeal.nD Cert.YProjIdeal.τ).loc Cert.YProjIdeal.main_arg0)
      ∧ m' ((c.tc : Thread Cert.YProjRefIdeal.nD Cert.YProjRefIdeal.τ).loc Cert.YProjRefIdeal.main_arg1) = m ((c.tc : Thread Cert.YProjIdeal.nD Cert.YProjIdeal.τ).loc Cert.YProjIdeal.main_arg1)
      ∧ m' ((c.tc : Thread Cert.YProjRefIdeal.nD Cert.YProjRefIdeal.τ).loc Cert.YProjRefIdeal.main_arg2) = m ((c.tc : Thread Cert.YProjIdeal.nD Cert.YProjIdeal.τ).loc Cert.YProjIdeal.main_arg2)
      ∧ m' ((c.tc : Thread Cert.YProjRefIdeal.nD Cert.YProjRefIdeal.τ).loc Cert.YProjRefIdeal.main_arg3) = m ((c.tc : Thread Cert.YProjIdeal.nD Cert.YProjIdeal.τ).loc Cert.YProjIdeal.main_arg3)) →
    ∃ (v0 : (c : Dev Cert.YProjIdeal.nD) → Buf (Elt Ideal) ((c.tc : Thread Cert.YProjIdeal.nD Cert.YProjIdeal.τ).loc Cert.YProjIdeal.main_v1_0)) (v1 : (c : Dev Cert.YProjIdeal.nD) → Buf (Elt Ideal) ((c.tc : Thread Cert.YProjIdeal.nD Cert.YProjIdeal.τ).loc Cert.YProjIdeal.main_v1_1)),
      θ_run (Cert.YProjIdeal.defs (F := Ideal)) (onTc (τ := Cert.YProjIdeal.τ) (Cert.YProjIdeal.main (F := Ideal))) ⟨m, fun _ => 0, g⟩ (fun r => ∀ c : Dev Cert.YProjIdeal.nD,
          r.2.mem ((c.tc : Thread Cert.YProjIdeal.nD Cert.YProjIdeal.τ).loc Cert.YProjIdeal.main_v1_0) = v0 c
          ∧ r.2.mem ((c.tc : Thread Cert.YProjIdeal.nD Cert.YProjIdeal.τ).loc Cert.YProjIdeal.main_v1_1) = v1 c
          ∧ r.2.mem ((c.tc : Thread Cert.YProjIdeal.nD Cert.YProjIdeal.τ).loc Cert.YProjIdeal.main_arg0) = m ((c.tc : Thread Cert.YProjIdeal.nD Cert.YProjIdeal.τ).loc Cert.YProjIdeal.main_arg0)
          ∧ r.2.mem ((c.tc : Thread Cert.YProjIdeal.nD Cert.YProjIdeal.τ).loc Cert.YProjIdeal.main_arg1) = m ((c.tc : Thread Cert.YProjIdeal.nD Cert.YProjIdeal.τ).loc Cert.YProjIdeal.main_arg1)
          ∧ r.2.mem ((c.tc : Thread Cert.YProjIdeal.nD Cert.YProjIdeal.τ).loc Cert.YProjIdeal.main_arg2) = m ((c.tc : Thread Cert.YProjIdeal.nD Cert.YProjIdeal.τ).loc Cert.YProjIdeal.main_arg2)
          ∧ r.2.mem ((c.tc : Thread Cert.YProjIdeal.nD Cert.YProjIdeal.τ).loc Cert.YProjIdeal.main_arg3) = m ((c.tc : Thread Cert.YProjIdeal.nD Cert.YProjIdeal.τ).loc Cert.YProjIdeal.main_arg3))
      ∧ θ_run (Cert.YProjRefIdeal.defs (F := Ideal)) (onTc (τ := Cert.YProjRefIdeal.τ) (Cert.YProjRefIdeal.main (F := Ideal))) ⟨m', fun _ => 0, g'⟩ (fun r => ∀ c : Dev Cert.YProjRefIdeal.nD,
          r.2.mem ((c.tc : Thread Cert.YProjRefIdeal.nD Cert.YProjRefIdeal.τ).loc Cert.YProjRefIdeal.main_v2_0) = v0 c
          ∧ r.2.mem ((c.tc : Thread Cert.YProjRefIdeal.nD Cert.YProjRefIdeal.τ).loc Cert.YProjRefIdeal.main_v2_1) = v1 c
          ∧ r.2.mem ((c.tc : Thread Cert.YProjRefIdeal.nD Cert.YProjRefIdeal.τ).loc Cert.YProjRefIdeal.main_arg0) = m' ((c.tc : Thread Cert.YProjRefIdeal.nD Cert.YProjRefIdeal.τ).loc Cert.YProjRefIdeal.main_arg0)
          ∧ r.2.mem ((c.tc : Thread Cert.YProjRefIdeal.nD Cert.YProjRefIdeal.τ).loc Cert.YProjRefIdeal.main_arg1) = m' ((c.tc : Thread Cert.YProjRefIdeal.nD Cert.YProjRefIdeal.τ).loc Cert.YProjRefIdeal.main_arg1)
          ∧ r.2.mem ((c.tc : Thread Cert.YProjRefIdeal.nD Cert.YProjRefIdeal.τ).loc Cert.YProjRefIdeal.main_arg2) = m' ((c.tc : Thread Cert.YProjRefIdeal.nD Cert.YProjRefIdeal.τ).loc Cert.YProjRefIdeal.main_arg2)
          ∧ r.2.mem ((c.tc : Thread Cert.YProjRefIdeal.nD Cert.YProjRefIdeal.τ).loc Cert.YProjRefIdeal.main_arg3) = m' ((c.tc : Thread Cert.YProjRefIdeal.nD Cert.YProjRefIdeal.τ).loc Cert.YProjRefIdeal.main_arg3))

def preserves_GradWOut_GradWOutIdeal : Prop :=
  True

def algebraic_GradWOutIdeal_GradWOutRefIdeal [hGradWOutIdeal : Cert.GradWOutIdeal.Facts] [hGradWOutRefIdeal : Cert.GradWOutRefIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.GradWOutRefIdeal.nD Cert.GradWOutRefIdeal.τ Cert.GradWOutRefIdeal.sig) → Buf (Elt Ideal) ℓ) (g' : Dev Cert.GradWOutRefIdeal.nD → PrngReg), Pre_GradWOutIdeal m →
    (∀ c : Dev Cert.GradWOutIdeal.nD,
      m' ((c.tc : Thread Cert.GradWOutRefIdeal.nD Cert.GradWOutRefIdeal.τ).loc Cert.GradWOutRefIdeal.main_arg0) = m ((c.tc : Thread Cert.GradWOutIdeal.nD Cert.GradWOutIdeal.τ).loc Cert.GradWOutIdeal.main_arg0)
      ∧ m' ((c.tc : Thread Cert.GradWOutRefIdeal.nD Cert.GradWOutRefIdeal.τ).loc Cert.GradWOutRefIdeal.main_arg1) = m ((c.tc : Thread Cert.GradWOutIdeal.nD Cert.GradWOutIdeal.τ).loc Cert.GradWOutIdeal.main_arg1)
      ∧ m' ((c.tc : Thread Cert.GradWOutRefIdeal.nD Cert.GradWOutRefIdeal.τ).loc Cert.GradWOutRefIdeal.main_arg2) = m ((c.tc : Thread Cert.GradWOutIdeal.nD Cert.GradWOutIdeal.τ).loc Cert.GradWOutIdeal.main_arg2)
      ∧ m' ((c.tc : Thread Cert.GradWOutRefIdeal.nD Cert.GradWOutRefIdeal.τ).loc Cert.GradWOutRefIdeal.main_arg3) = m ((c.tc : Thread Cert.GradWOutIdeal.nD Cert.GradWOutIdeal.τ).loc Cert.GradWOutIdeal.main_arg3)) →
    ∃ (v0 : (c : Dev Cert.GradWOutIdeal.nD) → Buf (Elt Ideal) ((c.tc : Thread Cert.GradWOutIdeal.nD Cert.GradWOutIdeal.τ).loc Cert.GradWOutIdeal.main_v1)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v1) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1)
          ∧ r.2.mem ((c.tc : Thread Cert.GradWOutIdeal.nD Cert.GradWOutIdeal.τ).loc Cert.GradWOutIdeal.main_arg2) = m ((c.tc : Thread Cert.GradWOutIdeal.nD Cert.GradWOutIdeal.τ).loc Cert.GradWOutIdeal.main_arg2)
          ∧ r.2.mem ((c.tc : Thread Cert.GradWOutIdeal.nD Cert.GradWOutIdeal.τ).loc Cert.GradWOutIdeal.main_arg3) = m ((c.tc : Thread Cert.GradWOutIdeal.nD Cert.GradWOutIdeal.τ).loc Cert.GradWOutIdeal.main_arg3))
      ∧ θ_run (Cert.GradWOutRefIdeal.defs (F := Ideal)) (onTc (τ := Cert.GradWOutRefIdeal.τ) (Cert.GradWOutRefIdeal.main (F := Ideal))) ⟨m', fun _ => 0, g'⟩ (fun r => ∀ c : Dev Cert.GradWOutRefIdeal.nD,
          r.2.mem ((c.tc : Thread Cert.GradWOutRefIdeal.nD Cert.GradWOutRefIdeal.τ).loc Cert.GradWOutRefIdeal.main_v2) = v0 c
          ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
          ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1)
          ∧ r.2.mem ((c.tc : Thread Cert.GradWOutRefIdeal.nD Cert.GradWOutRefIdeal.τ).loc Cert.GradWOutRefIdeal.main_arg2) = m' ((c.tc : Thread Cert.GradWOutRefIdeal.nD Cert.GradWOutRefIdeal.τ).loc Cert.GradWOutRefIdeal.main_arg2)
          ∧ r.2.mem ((c.tc : Thread Cert.GradWOutRefIdeal.nD Cert.GradWOutRefIdeal.τ).loc Cert.GradWOutRefIdeal.main_arg3) = m' ((c.tc : Thread Cert.GradWOutRefIdeal.nD Cert.GradWOutRefIdeal.τ).loc Cert.GradWOutRefIdeal.main_arg3))

def preserves_DpQuant_DpQuantIdeal : Prop :=
  True

def algebraic_DpQuantIdeal_DpQuantRefIdeal [hDpQuantIdeal : Cert.DpQuantIdeal.Facts] [hDpQuantRefIdeal : Cert.DpQuantRefIdeal.Facts] : Prop :=
  ∀ (m : (ℓ : Loc Cert.DpQuantIdeal.nD Cert.DpQuantIdeal.τ Cert.DpQuantIdeal.sig) → Buf (Elt Ideal) ℓ) (g : Dev Cert.DpQuantIdeal.nD → PrngReg)
    (m' : (ℓ : Loc Cert.DpQuantRefIdeal.nD Cert.DpQuantRefIdeal.τ Cert.DpQuantRefIdeal.sig) → Buf (Elt Ideal) ℓ) (g' : Dev Cert.DpQuantRefIdeal.nD → PrngReg), Pre_DpQuantIdeal m →
    (∀ c : Dev Cert.DpQuantIdeal.nD,
      m' ((c.tc : Thread Cert.DpQuantRefIdeal.nD Cert.DpQuantRefIdeal.τ).loc Cert.DpQuantRefIdeal.main_arg0) = m ((c.tc : Thread Cert.DpQuantIdeal.nD Cert.DpQuantIdeal.τ).loc Cert.DpQuantIdeal.main_arg0)
      ∧ m' ((c.tc : Thread Cert.DpQuantRefIdeal.nD Cert.DpQuantRefIdeal.τ).loc Cert.DpQuantRefIdeal.main_arg1) = m ((c.tc : Thread Cert.DpQuantIdeal.nD Cert.DpQuantIdeal.τ).loc Cert.DpQuantIdeal.main_arg1)
      ∧ m' ((c.tc : Thread Cert.DpQuantRefIdeal.nD Cert.DpQuantRefIdeal.τ).loc Cert.DpQuantRefIdeal.main_arg2) = m ((c.tc : Thread Cert.DpQuantIdeal.nD Cert.DpQuantIdeal.τ).loc Cert.DpQuantIdeal.main_arg2)
      ∧ m' ((c.tc : Thread Cert.DpQuantRefIdeal.nD Cert.DpQuantRefIdeal.τ).loc Cert.DpQuantRefIdeal.main_arg3) = m ((c.tc : Thread Cert.DpQuantIdeal.nD Cert.DpQuantIdeal.τ).loc Cert.DpQuantIdeal.main_arg3)
      ∧ m' ((c.tc : Thread Cert.DpQuantRefIdeal.nD Cert.DpQuantRefIdeal.τ).loc Cert.DpQuantRefIdeal.main_arg4) = m ((c.tc : Thread Cert.DpQuantIdeal.nD Cert.DpQuantIdeal.τ).loc Cert.DpQuantIdeal.main_arg4)
      ∧ m' ((c.tc : Thread Cert.DpQuantRefIdeal.nD Cert.DpQuantRefIdeal.τ).loc Cert.DpQuantRefIdeal.main_arg5) = m ((c.tc : Thread Cert.DpQuantIdeal.nD Cert.DpQuantIdeal.τ).loc Cert.DpQuantIdeal.main_arg5)) →
    ∃ (v0 : (c : Dev Cert.DpQuantIdeal.nD) → Buf (Elt Ideal) ((c.tc : Thread Cert.DpQuantIdeal.nD Cert.DpQuantIdeal.τ).loc Cert.DpQuantIdeal.main_v0)),
      θ_run (Cert.DpQuantIdeal.defs (F := Ideal)) (onTc (τ := Cert.DpQuantIdeal.τ) (Cert.DpQuantIdeal.main (F := Ideal))) ⟨m, fun _ => 0, g⟩ (fun r => ∀ c : Dev Cert.DpQuantIdeal.nD,
          r.2.mem ((c.tc : Thread Cert.DpQuantIdeal.nD Cert.DpQuantIdeal.τ).loc Cert.DpQuantIdeal.main_v0) = v0 c
          ∧ r.2.mem ((c.tc : Thread Cert.DpQuantIdeal.nD Cert.DpQuantIdeal.τ).loc Cert.DpQuantIdeal.main_arg0) = m ((c.tc : Thread Cert.DpQuantIdeal.nD Cert.DpQuantIdeal.τ).loc Cert.DpQuantIdeal.main_arg0)
          ∧ r.2.mem ((c.tc : Thread Cert.DpQuantIdeal.nD Cert.DpQuantIdeal.τ).loc Cert.DpQuantIdeal.main_arg1) = m ((c.tc : Thread Cert.DpQuantIdeal.nD Cert.DpQuantIdeal.τ).loc Cert.DpQuantIdeal.main_arg1)
          ∧ r.2.mem ((c.tc : Thread Cert.DpQuantIdeal.nD Cert.DpQuantIdeal.τ).loc Cert.DpQuantIdeal.main_arg2) = m ((c.tc : Thread Cert.DpQuantIdeal.nD Cert.DpQuantIdeal.τ).loc Cert.DpQuantIdeal.main_arg2)
          ∧ r.2.mem ((c.tc : Thread Cert.DpQuantIdeal.nD Cert.DpQuantIdeal.τ).loc Cert.DpQuantIdeal.main_arg3) = m ((c.tc : Thread Cert.DpQuantIdeal.nD Cert.DpQuantIdeal.τ).loc Cert.DpQuantIdeal.main_arg3)
          ∧ r.2.mem ((c.tc : Thread Cert.DpQuantIdeal.nD Cert.DpQuantIdeal.τ).loc Cert.DpQuantIdeal.main_arg4) = m ((c.tc : Thread Cert.DpQuantIdeal.nD Cert.DpQuantIdeal.τ).loc Cert.DpQuantIdeal.main_arg4)
          ∧ r.2.mem ((c.tc : Thread Cert.DpQuantIdeal.nD Cert.DpQuantIdeal.τ).loc Cert.DpQuantIdeal.main_arg5) = m ((c.tc : Thread Cert.DpQuantIdeal.nD Cert.DpQuantIdeal.τ).loc Cert.DpQuantIdeal.main_arg5))
      ∧ θ_run (Cert.DpQuantRefIdeal.defs (F := Ideal)) (onTc (τ := Cert.DpQuantRefIdeal.τ) (Cert.DpQuantRefIdeal.main (F := Ideal))) ⟨m', fun _ => 0, g'⟩ (fun r => ∀ c : Dev Cert.DpQuantRefIdeal.nD,
          r.2.mem ((c.tc : Thread Cert.DpQuantRefIdeal.nD Cert.DpQuantRefIdeal.τ).loc Cert.DpQuantRefIdeal.main_v4) = v0 c
          ∧ r.2.mem ((c.tc : Thread Cert.DpQuantRefIdeal.nD Cert.DpQuantRefIdeal.τ).loc Cert.DpQuantRefIdeal.main_arg0) = m' ((c.tc : Thread Cert.DpQuantRefIdeal.nD Cert.DpQuantRefIdeal.τ).loc Cert.DpQuantRefIdeal.main_arg0)
          ∧ r.2.mem ((c.tc : Thread Cert.DpQuantRefIdeal.nD Cert.DpQuantRefIdeal.τ).loc Cert.DpQuantRefIdeal.main_arg1) = m' ((c.tc : Thread Cert.DpQuantRefIdeal.nD Cert.DpQuantRefIdeal.τ).loc Cert.DpQuantRefIdeal.main_arg1)
          ∧ r.2.mem ((c.tc : Thread Cert.DpQuantRefIdeal.nD Cert.DpQuantRefIdeal.τ).loc Cert.DpQuantRefIdeal.main_arg2) = m' ((c.tc : Thread Cert.DpQuantRefIdeal.nD Cert.DpQuantRefIdeal.τ).loc Cert.DpQuantRefIdeal.main_arg2)
          ∧ r.2.mem ((c.tc : Thread Cert.DpQuantRefIdeal.nD Cert.DpQuantRefIdeal.τ).loc Cert.DpQuantRefIdeal.main_arg3) = m' ((c.tc : Thread Cert.DpQuantRefIdeal.nD Cert.DpQuantRefIdeal.τ).loc Cert.DpQuantRefIdeal.main_arg3)
          ∧ r.2.mem ((c.tc : Thread Cert.DpQuantRefIdeal.nD Cert.DpQuantRefIdeal.τ).loc Cert.DpQuantRefIdeal.main_arg4) = m' ((c.tc : Thread Cert.DpQuantRefIdeal.nD Cert.DpQuantRefIdeal.τ).loc Cert.DpQuantRefIdeal.main_arg4)
          ∧ r.2.mem ((c.tc : Thread Cert.DpQuantRefIdeal.nD Cert.DpQuantRefIdeal.τ).loc Cert.DpQuantRefIdeal.main_arg5) = m' ((c.tc : Thread Cert.DpQuantRefIdeal.nD Cert.DpQuantRefIdeal.τ).loc Cert.DpQuantRefIdeal.main_arg5))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)
      ∧ m' ((c.tc : Thread Cert.GradXRefIdeal.nD Cert.GradXRefIdeal.τ).loc Cert.GradXRefIdeal.main_arg5) = m ((c.tc : Thread Cert.GradXIdeal.nD Cert.GradXIdeal.τ).loc Cert.GradXIdeal.main_arg5)
      ∧ m' ((c.tc : Thread Cert.GradXRefIdeal.nD Cert.GradXRefIdeal.τ).loc Cert.GradXRefIdeal.main_arg6) = m ((c.tc : Thread Cert.GradXIdeal.nD Cert.GradXIdeal.τ).loc Cert.GradXIdeal.main_arg6)) →
    ∃ (v0 : (c : Dev Cert.GradXIdeal.nD) → Buf (Elt Ideal) ((c.tc : Thread Cert.GradXIdeal.nD Cert.GradXIdeal.τ).loc Cert.GradXIdeal.main_v4_0)) (v1 : (c : Dev Cert.GradXIdeal.nD) → Buf (Elt Ideal) ((c.tc : Thread Cert.GradXIdeal.nD Cert.GradXIdeal.τ).loc Cert.GradXIdeal.main_v4_1)) (v2 : (c : Dev Cert.GradXIdeal.nD) → Buf (Elt Ideal) ((c.tc : Thread Cert.GradXIdeal.nD Cert.GradXIdeal.τ).loc Cert.GradXIdeal.main_v4_2)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v4_0) = v0 c
          ∧ r.2.mem ((c.tc : Thread Cert.GradXIdeal.nD Cert.GradXIdeal.τ).loc Cert.GradXIdeal.main_v4_1) = v1 c
          ∧ r.2.mem ((c.tc : Thread Cert.GradXIdeal.nD Cert.GradXIdeal.τ).loc Cert.GradXIdeal.main_v4_2) = v2 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
          ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
          ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v4_0) = v0 c
          ∧ r.2.mem ((c.tc : Thread Cert.GradXRefIdeal.nD Cert.GradXRefIdeal.τ).loc Cert.GradXRefIdeal.main_v4_1) = v1 c
          ∧ r.2.mem ((c.tc : Thread Cert.GradXRefIdeal.nD Cert.GradXRefIdeal.τ).loc Cert.GradXRefIdeal.main_v4_2) = v2 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4)
          ∧ r.2.mem ((c.tc : Thread Cert.GradXRefIdeal.nD Cert.GradXRefIdeal.τ).loc Cert.GradXRefIdeal.main_arg5) = m' ((c.tc : Thread Cert.GradXRefIdeal.nD Cert.GradXRefIdeal.τ).loc Cert.GradXRefIdeal.main_arg5)
          ∧ r.2.mem ((c.tc : Thread Cert.GradXRefIdeal.nD Cert.GradXRefIdeal.τ).loc Cert.GradXRefIdeal.main_arg6) = m' ((c.tc : Thread Cert.GradXRefIdeal.nD Cert.GradXRefIdeal.τ).loc Cert.GradXRefIdeal.main_arg6))

def preserves_GradWIn_GradWInIdeal : Prop :=
  True

def algebraic_GradWInIdeal_GradWInRefIdeal [hGradWInIdeal : Cert.GradWInIdeal.Facts] [hGradWInRefIdeal : Cert.GradWInRefIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.GradWInRefIdeal.nD Cert.GradWInRefIdeal.τ Cert.GradWInRefIdeal.sig) → Buf (Elt Ideal) ℓ) (g' : Dev Cert.GradWInRefIdeal.nD → PrngReg), Pre_GradWInIdeal m →
    (∀ c : Dev Cert.GradWInIdeal.nD,
      m' ((c.tc : Thread Cert.GradWInRefIdeal.nD Cert.GradWInRefIdeal.τ).loc Cert.GradWInRefIdeal.main_arg0) = m ((c.tc : Thread Cert.GradWInIdeal.nD Cert.GradWInIdeal.τ).loc Cert.GradWInIdeal.main_arg0)
      ∧ m' ((c.tc : Thread Cert.GradWInRefIdeal.nD Cert.GradWInRefIdeal.τ).loc Cert.GradWInRefIdeal.main_arg1) = m ((c.tc : Thread Cert.GradWInIdeal.nD Cert.GradWInIdeal.τ).loc Cert.GradWInIdeal.main_arg1)
      ∧ m' ((c.tc : Thread Cert.GradWInRefIdeal.nD Cert.GradWInRefIdeal.τ).loc Cert.GradWInRefIdeal.main_arg2) = m ((c.tc : Thread Cert.GradWInIdeal.nD Cert.GradWInIdeal.τ).loc Cert.GradWInIdeal.main_arg2)
      ∧ m' ((c.tc : Thread Cert.GradWInRefIdeal.nD Cert.GradWInRefIdeal.τ).loc Cert.GradWInRefIdeal.main_arg3) = m ((c.tc : Thread Cert.GradWInIdeal.nD Cert.GradWInIdeal.τ).loc Cert.GradWInIdeal.main_arg3)) →
    ∃ (v0 : (c : Dev Cert.GradWInIdeal.nD) → Buf (Elt Ideal) ((c.tc : Thread Cert.GradWInIdeal.nD Cert.GradWInIdeal.τ).loc Cert.GradWInIdeal.main_v1)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v1) = v0 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
          ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2)
          ∧ r.2.mem ((c.tc : Thread Cert.GradWInIdeal.nD Cert.GradWInIdeal.τ).loc Cert.GradWInIdeal.main_arg3) = m ((c.tc : Thread Cert.GradWInIdeal.nD Cert.GradWInIdeal.τ).loc Cert.GradWInIdeal.main_arg3))
      ∧ θ_run (Cert.GradWInRefIdeal.defs (F := Ideal)) (onTc (τ := Cert.GradWInRefIdeal.τ) (Cert.GradWInRefIdeal.main (F := Ideal))) ⟨m', fun _ => 0, g'⟩ (fun r => ∀ c : Dev Cert.GradWInRefIdeal.nD,
          r.2.mem ((c.tc : Thread Cert.GradWInRefIdeal.nD Cert.GradWInRefIdeal.τ).loc Cert.GradWInRefIdeal.main_v2) = v0 c
          ∧ r.2.mem ((c.tc : Thread Cert.GradWInRefIdeal.nD Cert.GradWInRefIdeal.τ).loc Cert.GradWInRefIdeal.main_arg0) = m' ((c.tc : Thread Cert.GradWInRefIdeal.nD Cert.GradWInRefIdeal.τ).loc Cert.GradWInRefIdeal.main_arg0)
          ∧ r.2.mem ((c.tc : Thread Cert.GradWInRefIdeal.nD Cert.GradWInRefIdeal.τ).loc Cert.GradWInRefIdeal.main_arg1) = m' ((c.tc : Thread Cert.GradWInRefIdeal.nD Cert.GradWInRefIdeal.τ).loc Cert.GradWInRefIdeal.main_arg1)
          ∧ r.2.mem ((c.tc : Thread Cert.GradWInRefIdeal.nD Cert.GradWInRefIdeal.τ).loc Cert.GradWInRefIdeal.main_arg2) = m' ((c.tc : Thread Cert.GradWInRefIdeal.nD Cert.GradWInRefIdeal.τ).loc Cert.GradWInRefIdeal.main_arg2)
          ∧ r.2.mem ((c.tc : Thread Cert.GradWInRefIdeal.nD Cert.GradWInRefIdeal.τ).loc Cert.GradWInRefIdeal.main_arg3) = m' ((c.tc : Thread Cert.GradWInRefIdeal.nD Cert.GradWInRefIdeal.τ).loc Cert.GradWInRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v5_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v5_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v57) = v0 c
          ∧ r.2.mem ((c.tc : Thread Cert.ConvRefIdeal.nD Cert.ConvRefIdeal.τ).loc Cert.ConvRefIdeal.main_v72) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def Claim : Prop :=
  ∃ (hPrep : Cert.Prep.Facts) (hPrepIdeal : Cert.PrepIdeal.Facts) (hPrepRefIdeal : Cert.PrepRefIdeal.Facts) (hInProj : Cert.InProj.Facts) (hInProjIdeal : Cert.InProjIdeal.Facts) (hInProjRefIdeal : Cert.InProjRefIdeal.Facts) (hDgrad : Cert.Dgrad.Facts) (hDgradIdeal : Cert.DgradIdeal.Facts) (hDgradRefIdeal : Cert.DgradRefIdeal.Facts) (hYProj : Cert.YProj.Facts) (hYProjIdeal : Cert.YProjIdeal.Facts) (hYProjRefIdeal : Cert.YProjRefIdeal.Facts) (hGradWOut : Cert.GradWOut.Facts) (hGradWOutIdeal : Cert.GradWOutIdeal.Facts) (hGradWOutRefIdeal : Cert.GradWOutRefIdeal.Facts) (hDpQuant : Cert.DpQuant.Facts) (hDpQuantIdeal : Cert.DpQuantIdeal.Facts) (hDpQuantRefIdeal : Cert.DpQuantRefIdeal.Facts) (hGradX : Cert.GradX.Facts) (hGradXIdeal : Cert.GradXIdeal.Facts) (hGradXRefIdeal : Cert.GradXRefIdeal.Facts) (hGradWIn : Cert.GradWIn.Facts) (hGradWInIdeal : Cert.GradWInIdeal.Facts) (hGradWInRefIdeal : Cert.GradWInRefIdeal.Facts) (hConv : Cert.Conv.Facts) (hConvIdeal : Cert.ConvIdeal.Facts) (hConvRefIdeal : Cert.ConvRefIdeal.Facts),
    quiescent_Prep (hPrep := hPrep)
    ∧ quiescent_PrepIdeal (hPrepIdeal := hPrepIdeal)
    ∧ quiescent_PrepRefIdeal (hPrepRefIdeal := hPrepRefIdeal)
    ∧ quiescent_InProj (hInProj := hInProj)
    ∧ quiescent_InProjIdeal (hInProjIdeal := hInProjIdeal)
    ∧ quiescent_InProjRefIdeal (hInProjRefIdeal := hInProjRefIdeal)
    ∧ quiescent_Dgrad (hDgrad := hDgrad)
    ∧ quiescent_DgradIdeal (hDgradIdeal := hDgradIdeal)
    ∧ quiescent_DgradRefIdeal (hDgradRefIdeal := hDgradRefIdeal)
    ∧ quiescent_YProj (hYProj := hYProj)
    ∧ quiescent_YProjIdeal (hYProjIdeal := hYProjIdeal)
    ∧ quiescent_YProjRefIdeal (hYProjRefIdeal := hYProjRefIdeal)
    ∧ quiescent_GradWOut (hGradWOut := hGradWOut)
    ∧ quiescent_GradWOutIdeal (hGradWOutIdeal := hGradWOutIdeal)
    ∧ quiescent_GradWOutRefIdeal (hGradWOutRefIdeal := hGradWOutRefIdeal)
    ∧ quiescent_DpQuant (hDpQuant := hDpQuant)
    ∧ quiescent_DpQuantIdeal (hDpQuantIdeal := hDpQuantIdeal)
    ∧ quiescent_DpQuantRefIdeal (hDpQuantRefIdeal := hDpQuantRefIdeal)
    ∧ quiescent_GradX (hGradX := hGradX)
    ∧ quiescent_GradXIdeal (hGradXIdeal := hGradXIdeal)
    ∧ quiescent_GradXRefIdeal (hGradXRefIdeal := hGradXRefIdeal)
    ∧ quiescent_GradWIn (hGradWIn := hGradWIn)
    ∧ quiescent_GradWInIdeal (hGradWInIdeal := hGradWInIdeal)
    ∧ quiescent_GradWInRefIdeal (hGradWInRefIdeal := hGradWInRefIdeal)
    ∧ quiescent_Conv (hConv := hConv)
    ∧ quiescent_ConvIdeal (hConvIdeal := hConvIdeal)
    ∧ quiescent_ConvRefIdeal (hConvRefIdeal := hConvRefIdeal)
    ∧ preserves_Prep_PrepIdeal
    ∧ algebraic_PrepIdeal_PrepRefIdeal (hPrepIdeal := hPrepIdeal) (hPrepRefIdeal := hPrepRefIdeal)
    ∧ preserves_InProj_InProjIdeal
    ∧ algebraic_InProjIdeal_InProjRefIdeal (hInProjIdeal := hInProjIdeal) (hInProjRefIdeal := hInProjRefIdeal)
    ∧ preserves_Dgrad_DgradIdeal
    ∧ algebraic_DgradIdeal_DgradRefIdeal (hDgradIdeal := hDgradIdeal) (hDgradRefIdeal := hDgradRefIdeal)
    ∧ preserves_YProj_YProjIdeal
    ∧ algebraic_YProjIdeal_YProjRefIdeal (hYProjIdeal := hYProjIdeal) (hYProjRefIdeal := hYProjRefIdeal)
    ∧ preserves_GradWOut_GradWOutIdeal
    ∧ algebraic_GradWOutIdeal_GradWOutRefIdeal (hGradWOutIdeal := hGradWOutIdeal) (hGradWOutRefIdeal := hGradWOutRefIdeal)
    ∧ preserves_DpQuant_DpQuantIdeal
    ∧ algebraic_DpQuantIdeal_DpQuantRefIdeal (hDpQuantIdeal := hDpQuantIdeal) (hDpQuantRefIdeal := hDpQuantRefIdeal)
    ∧ preserves_GradX_GradXIdeal
    ∧ algebraic_GradXIdeal_GradXRefIdeal (hGradXIdeal := hGradXIdeal) (hGradXRefIdeal := hGradXRefIdeal)
    ∧ preserves_GradWIn_GradWInIdeal
    ∧ algebraic_GradWInIdeal_GradWInRefIdeal (hGradWInIdeal := hGradWInIdeal) (hGradWInRefIdeal := hGradWInRefIdeal)
    ∧ preserves_Conv_ConvIdeal
    ∧ algebraic_ConvIdeal_ConvRefIdeal (hConvIdeal := hConvIdeal) (hConvRefIdeal := hConvRefIdeal)
-- ==== Prep.lean ====
abbrev S1x1536x4096 : Shape := ⟨3, ![1, 1536, 4096]⟩
abbrev S4096 : Shape := ⟨1, ![4096]⟩
abbrev S_ : Shape := ⟨0, ![]⟩
abbrev S1536x4096 : Shape := ⟨2, ![1536, 4096]⟩
abbrev S1x4096 : Shape := ⟨2, ![1, 4096]⟩
abbrev S1x1 : Shape := ⟨2, ![1, 1]⟩
abbrev S1536x1 : Shape := ⟨2, ![1536, 1]⟩
abbrev S256x4096 : Shape := ⟨2, ![256, 4096]⟩
abbrev S256x1 : Shape := ⟨2, ![256, 1]⟩
abbrev S32x4096 : Shape := ⟨2, ![32, 4096]⟩
abbrev S32 : Shape := ⟨1, ![32]⟩
abbrev S32x1 : Shape := ⟨2, ![32, 1]⟩
abbrev S1x1x4096 : Shape := ⟨3, ![1, 1, 4096]⟩
abbrev S1 : Shape := ⟨1, ![1]⟩
abbrev S1x1x1 : Shape := ⟨3, ![1, 1, 1]⟩

abbrev nBuf : Space → Nat
  | .hbm => 15
  | .vmem => 13
  | .smem => 4
  | _ => 0

abbrev bufTy : (tb : Table) → Fin (tcTables nBuf tb) → BufTy
  | .hbm, ⟨0, _⟩ => ⟨S1x1536x4096, .bf16⟩
  | .hbm, ⟨1, _⟩ => ⟨S1x1536x4096, .bf16⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S1536x4096, .bf16⟩
  | .hbm, ⟨6, _⟩ => ⟨S1536x4096, .bf16⟩
  | .hbm, ⟨7, _⟩ => ⟨S1x4096, .f32⟩
  | .hbm, ⟨8, _⟩ => ⟨S1x1, .f32⟩
  | .hbm, ⟨9, _⟩ => ⟨S1x1, .f32⟩
  | .hbm, ⟨10, _⟩ => ⟨S1536x4096, .fp8e4m3⟩
  | .hbm, ⟨11, _⟩ => ⟨S1536x4096, .fp8e5m2⟩
  | .hbm, ⟨12, _⟩ => ⟨S1536x1, .f32⟩
  | .hbm, ⟨13, _⟩ => ⟨S1x1, .f32⟩
  | .hbm, ⟨14, _⟩ => ⟨S1x1, .f32⟩
  | .local _ .vmem, ⟨0, _⟩ => ⟨S1x4096, .f32⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .fp8e4m3⟩
  | .local _ .vmem, ⟨6, _⟩ => ⟨S256x4096, .fp8e4m3⟩
  | .local _ .vmem, ⟨7, _⟩ => ⟨S256x4096, .fp8e5m2⟩
  | .local _ .vmem, ⟨8, _⟩ => ⟨S256x4096, .fp8e5m2⟩
  | .local _ .vmem, ⟨9, _⟩ => ⟨S256x1, .f32⟩
  | .local _ .vmem, ⟨10, _⟩ => ⟨S256x1, .f32⟩
  | .local _ .vmem, ⟨11, _⟩ => ⟨S1x4096, .f32⟩
  | .local _ .vmem, ⟨12, _⟩ => ⟨S1x4096, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S1x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_stg1_0 : Ref sig .tc := ⟨.smem, 1, rfl⟩
abbrev cc0_stg8_0 : Ref sig .tc := ⟨.smem, 2, rfl⟩
abbrev cc0_stg9_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v415 : BitVec 1 := Scalar.cmpi .eq arg0 c5_i32
  let v416 : BitVec 32 := Scalar.extui v415
  let c0_i32_214 : BitVec 32 := 0#32
  let v417 : BitVec 1 := Scalar.cmpi .ne v416 c0_i32_214
  v417

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PrepRefIdeal.lean ====
abbrev S1x1536x4096 : Shape := ⟨3, ![1, 1536, 4096]⟩
abbrev S4096 : Shape := ⟨1, ![4096]⟩
abbrev S_ : Shape := ⟨0, ![]⟩
abbrev S1536x4096 : Shape := ⟨2, ![1536, 4096]⟩
abbrev S1x4096 : Shape := ⟨2, ![1, 4096]⟩
abbrev S1x1 : Shape := ⟨2, ![1, 1]⟩
abbrev S1536x1 : Shape := ⟨2, ![1536, 1]⟩
abbrev S1536 : Shape := ⟨1, ![1536]⟩
abbrev S1 : Shape := ⟨1, ![1]⟩

abbrev nBuf : Space → Nat
  | .hbm => 15
  | .vmem => 10
  | .smem => 0
  | _ => 0

abbrev bufTy : (tb : Table) → Fin (tcTables nBuf tb) → BufTy
  | .hbm, ⟨0, _⟩ => ⟨S1x1536x4096, .bf16⟩
  | .hbm, ⟨1, _⟩ => ⟨S1x1536x4096, .bf16⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S1536x4096, .bf16⟩
  | .hbm, ⟨6, _⟩ => ⟨S1536x4096, .bf16⟩
  | .hbm, ⟨7, _⟩ => ⟨S1x4096, .f32⟩
  | .hbm, ⟨8, _⟩ => ⟨S1x1, .f32⟩
  | .hbm, ⟨9, _⟩ => ⟨S1x1, .f32⟩
  | .hbm, ⟨10, _⟩ => ⟨S1536x4096, .fp8e4m3⟩
  | .hbm, ⟨11, _⟩ => ⟨S1536x4096, .fp8e5m2⟩
  | .hbm, ⟨12, _⟩ => ⟨S1536x1, .f32⟩
  | .hbm, ⟨13, _⟩ => ⟨S1x1, .f32⟩
  | .hbm, ⟨14, _⟩ => ⟨S1x1, .f32⟩
  | .local _ .vmem, ⟨0, _⟩ => ⟨S1536x4096, .bf16⟩
  | .local _ .vmem, ⟨1, _⟩ => ⟨S1536x4096, .bf16⟩
  | .local _ .vmem, ⟨2, _⟩ => ⟨S1x4096, .f32⟩
  | .local _ .vmem, ⟨3, _⟩ => ⟨S1x1, .f32⟩
  | .local _ .vmem, ⟨4, _⟩ => ⟨S1x1, .f32⟩
  | .local _ .vmem, ⟨5, _⟩ => ⟨S1536x4096, .fp8e4m3⟩
  | .local _ .vmem, ⟨6, _⟩ => ⟨S1536x4096, .fp8e5m2⟩
  | .local _ .vmem, ⟨7, _⟩ => ⟨S1536x1, .f32⟩
  | .local _ .vmem, ⟨8, _⟩ => ⟨S1x1, .f32⟩
  | .local _ .vmem, ⟨9, _⟩ => ⟨S1x1, .f32⟩
  | _, _ => ⟨S1x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x4096 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== InProj.lean ====
abbrev S1536x4096 : Shape := ⟨2, ![1536, 4096]⟩
abbrev S4096x4640 : Shape := ⟨2, ![4096, 4640]⟩
abbrev S_ : Shape := ⟨0, ![]⟩
abbrev S4640x4096 : Shape := ⟨2, ![4640, 4096]⟩
abbrev S1x1 : Shape := ⟨2, ![1, 1]⟩
abbrev S12x4640x128 : Shape := ⟨3, ![12, 4640, 128]⟩
abbrev S928x4096 : Shape := ⟨2, ![928, 4096]⟩
abbrev S12x928x128 : Shape := ⟨3, ![12, 928, 128]⟩
abbrev S928x1536 : Shape := ⟨2, ![928, 1536]⟩
abbrev S928x128 : Shape := ⟨2, ![928, 128]⟩
abbrev S1x928x128 : Shape := ⟨3, ![1, 928, 128]⟩

abbrev nBuf : Space → Nat
  | .hbm => 8
  | .vmem => 5
  | .smem => 2
  | _ => 0

abbrev bufTy : (tb : Table) → Fin (tcTables nBuf tb) → BufTy
  | .hbm, ⟨0, _⟩ => ⟨S1536x4096, .fp8e4m3⟩
  | .hbm, ⟨1, _⟩ => ⟨S4096x4640, .fp8e4m3⟩
  | .hbm, ⟨2, _⟩ => ⟨S_, .f32⟩
  | .hbm, ⟨3, _⟩ => ⟨S_, .f32⟩
  | .hbm, ⟨4, _⟩ => ⟨S4640x4096, .fp8e4m3⟩
  | .hbm, ⟨5, _⟩ => ⟨S1x1, .f32⟩
  | .hbm, ⟨6, _⟩ => ⟨S1x1, .f32⟩
  | .hbm, ⟨7, _⟩ => ⟨S12x4640x128, .f32⟩
  | .local _ .vmem, ⟨0, _⟩ => ⟨S928x4096, .fp8e4m3⟩
  | .local _ .vmem, ⟨1, _⟩ => ⟨S928x4096, .fp8e4m3⟩
  | .local _ .vmem, ⟨2, _⟩ => ⟨S1536x4096, .fp8e4m3⟩
  | .local _ .vmem, ⟨3, _⟩ => ⟨S12x928x128, .f32⟩
  | .local _ .vmem, ⟨4, _⟩ => ⟨S12x928x128, .f32⟩
  | .local _ .smem, ⟨0, _⟩ => ⟨S1x1, .f32⟩
  | .local _ .smem, ⟨1, _⟩ => ⟨S1x1, .f32⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S928x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S12x928x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S1536x4096 : Shape := ⟨2, ![1536, 4096]⟩
abbrev S4096x4640 : Shape := ⟨2, ![4096, 4640]⟩
abbrev S_ : Shape := ⟨0, ![]⟩
abbrev S1x1 : Shape := ⟨2, ![1, 1]⟩
abbrev S12x4640x128 : Shape := ⟨3, ![12, 4640, 128]⟩
abbrev S1536x4640 : Shape := ⟨2, ![1536, 4640]⟩
abbrev S12x128x4640 : Shape := ⟨3, ![12, 128, 4640]⟩

abbrev nBuf : Space → Nat
  | .hbm => 7
  | .vmem => 5
  | .smem => 0
  | _ => 0

abbrev bufTy : (tb : Table) → Fin (tcTables nBuf tb) → BufTy
  | .hbm, ⟨0, _⟩ => ⟨S1536x4096, .fp8e4m3⟩
  | .hbm, ⟨1, _⟩ => ⟨S4096x4640, .fp8e4m3⟩
  | .hbm, ⟨2, _⟩ => ⟨S_, .f32⟩
  | .hbm, ⟨3, _⟩ => ⟨S_, .f32⟩
  | .hbm, ⟨4, _⟩ => ⟨S1x1, .f32⟩
  | .hbm, ⟨5, _⟩ => ⟨S1x1, .f32⟩
  | .hbm, ⟨6, _⟩ => ⟨S12x4640x128, .f32⟩
  | .local _ .vmem, ⟨0, _⟩ => ⟨S1536x4096, .fp8e4m3⟩
  | .local _ .vmem, ⟨1, _⟩ => ⟨S4096x4640, .fp8e4m3⟩
  | .local _ .vmem, ⟨2, _⟩ => ⟨S1x1, .f32⟩
  | .local _ .vmem, ⟨3, _⟩ => ⟨S1x1, .f32⟩
  | .local _ .vmem, ⟨4, _⟩ => ⟨S12x4640x128, .f32⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4640 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x4640x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dgrad.lean ====
abbrev S1536x4096 : Shape := ⟨2, ![1536, 4096]⟩
abbrev S2048x4096 : Shape := ⟨2, ![2048, 4096]⟩
abbrev S_ : Shape := ⟨0, ![]⟩
abbrev S1x1 : Shape := ⟨2, ![1, 1]⟩
abbrev S12x2048x128 : Shape := ⟨3, ![12, 2048, 128]⟩
abbrev S512x4096 : Shape := ⟨2, ![512, 4096]⟩
abbrev S12x512x128 : Shape := ⟨3, ![12, 512, 128]⟩
abbrev S512x1536 : Shape := ⟨2, ![512, 1536]⟩
abbrev S512x128 : Shape := ⟨2, ![512, 128]⟩
abbrev S1x512x128 : Shape := ⟨3, ![1, 512, 128]⟩

abbrev nBuf : Space → Nat
  | .hbm => 7
  | .vmem => 5
  | .smem => 2
  | _ => 0

abbrev bufTy : (tb : Table) → Fin (tcTables nBuf tb) → BufTy
  | .hbm, ⟨0, _⟩ => ⟨S1536x4096, .fp8e5m2⟩
  | .hbm, ⟨1, _⟩ => ⟨S2048x4096, .fp8e4m3⟩
  | .hbm, ⟨2, _⟩ => ⟨S_, .f32⟩
  | .hbm, ⟨3, _⟩ => ⟨S_, .f32⟩
  | .hbm, ⟨4, _⟩ => ⟨S1x1, .f32⟩
  | .hbm, ⟨5, _⟩ => ⟨S1x1, .f32⟩
  | .hbm, ⟨6, _⟩ => ⟨S12x2048x128, .f32⟩
  | .local _ .vmem, ⟨0, _⟩ => ⟨S512x4096, .fp8e4m3⟩
  | .local _ .vmem, ⟨1, _⟩ => ⟨S512x4096, .fp8e4m3⟩
  | .local _ .vmem, ⟨2, _⟩ => ⟨S1536x4096, .fp8e5m2⟩
  | .local _ .vmem, ⟨3, _⟩ => ⟨S12x512x128, .f32⟩
  | .local _ .vmem, ⟨4, _⟩ => ⟨S12x512x128, .f32⟩
  | .local _ .smem, ⟨0, _⟩ => ⟨S1x1, .f32⟩
  | .local _ .smem, ⟨1, _⟩ => ⟨S1x1, .f32⟩
  | _, _ => ⟨S1536x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x4096 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S12x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DgradRefIdeal.lean ====
abbrev S1536x4096 : Shape := ⟨2, ![1536, 4096]⟩
abbrev S2048x4096 : Shape := ⟨2, ![2048, 4096]⟩
abbrev S_ : Shape := ⟨0, ![]⟩
abbrev S1x1 : Shape := ⟨2, ![1, 1]⟩
abbrev S12x2048x128 : Shape := ⟨3, ![12, 2048, 128]⟩
abbrev S1536x2048 : Shape := ⟨2, ![1536, 2048]⟩
abbrev S12x128x2048 : Shape := ⟨3, ![12, 128, 2048]⟩

abbrev nBuf : Space → Nat
  | .hbm => 7
  | .vmem => 5
  | .smem => 0
  | _ => 0

abbrev bufTy : (tb : Table) → Fin (tcTables nBuf tb) → BufTy
  | .hbm, ⟨0, _⟩ => ⟨S1536x4096, .fp8e5m2⟩
  | .hbm, ⟨1, _⟩ => ⟨S2048x4096, .fp8e4m3⟩
  | .hbm, ⟨2, _⟩ => ⟨S_, .f32⟩
  | .hbm, ⟨3, _⟩ => ⟨S_, .f32⟩
  | .hbm, ⟨4, _⟩ => ⟨S1x1, .f32⟩
  | .hbm, ⟨5, _⟩ => ⟨S1x1, .f32⟩
  | .hbm, ⟨6, _⟩ => ⟨S12x2048x128, .f32⟩
  | .local _ .vmem, ⟨0, _⟩ => ⟨S1536x4096, .fp8e5m2⟩
  | .local _ .vmem, ⟨1, _⟩ => ⟨S2048x4096, .fp8e4m3⟩
  | .local _ .vmem, ⟨2, _⟩ => ⟨S1x1, .f32⟩
  | .local _ .vmem, ⟨3, _⟩ => ⟨S1x1, .f32⟩
  | .local _ .vmem, ⟨4, _⟩ => ⟨S12x2048x128, .f32⟩
  | _, _ => ⟨S1536x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== YProj.lean ====
abbrev S1536x2048 : Shape := ⟨2, ![1536, 2048]⟩
abbrev S2048x4096 : Shape := ⟨2, ![2048, 4096]⟩
abbrev S1x128 : Shape := ⟨2, ![1, 128]⟩
abbrev S_ : Shape := ⟨0, ![]⟩
abbrev S1x1 : Shape := ⟨2, ![1, 1]⟩
abbrev S1536x4096 : Shape := ⟨2, ![1536, 4096]⟩
abbrev S256x2048 : Shape := ⟨2, ![256, 2048]⟩
abbrev S256x4096 : Shape := ⟨2, ![256, 4096]⟩

abbrev nBuf : Space → Nat
  | .hbm => 7
  | .vmem => 8
  | .smem => 1
  | _ => 0

abbrev bufTy : (tb : Table) → Fin (tcTables nBuf tb) → BufTy
  | .hbm, ⟨0, _⟩ => ⟨S1536x2048, .f32⟩
  | .hbm, ⟨1, _⟩ => ⟨S2048x4096, .fp8e4m3⟩
  | .hbm, ⟨2, _⟩ => ⟨S1x128, .f32⟩
  | .hbm, ⟨3, _⟩ => ⟨S_, .f32⟩
  | .hbm, ⟨4, _⟩ => ⟨S1x1, .f32⟩
  | .hbm, ⟨5, _⟩ => ⟨S1536x4096, .bf16⟩
  | .hbm, ⟨6, _⟩ => ⟨S1536x2048, .fp8e4m3⟩
  | .local _ .vmem, ⟨0, _⟩ => ⟨S1x128, .f32⟩
  | .local _ .vmem, ⟨1, _⟩ => ⟨S256x2048, .f32⟩
  | .local _ .vmem, ⟨2, _⟩ => ⟨S256x2048, .f32⟩
  | .local _ .vmem, ⟨3, _⟩ => ⟨S2048x4096, .fp8e4m3⟩
  | .local _ .vmem, ⟨4, _⟩ => ⟨S256x4096, .bf16⟩
  | .local _ .vmem, ⟨5, _⟩ => ⟨S256x4096, .bf16⟩
  | .local _ .vmem, ⟨6, _⟩ => ⟨S256x2048, .fp8e4m3⟩
  | .local _ .vmem, ⟨7, _⟩ => ⟨S256x2048, .fp8e4m3⟩
  | .local _ .smem, ⟨0, _⟩ => ⟨S1x1, .f32⟩
  | _, _ => ⟨S1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== YProjRefIdeal.lean ====
abbrev S1536x2048 : Shape := ⟨2, ![1536, 2048]⟩
abbrev S2048x4096 : Shape := ⟨2, ![2048, 4096]⟩
abbrev S1x128 : Shape := ⟨2, ![1, 128]⟩
abbrev S_ : Shape := ⟨0, ![]⟩
abbrev S1x1 : Shape := ⟨2, ![1, 1]⟩
abbrev S1536x4096 : Shape := ⟨2, ![1536, 4096]⟩

abbrev nBuf : Space → Nat
  | .hbm => 8
  | .vmem => 6
  | .smem => 0
  | _ => 0

abbrev bufTy : (tb : Table) → Fin (tcTables nBuf tb) → BufTy
  | .hbm, ⟨0, _⟩ => ⟨S1536x2048, .f32⟩
  | .hbm, ⟨1, _⟩ => ⟨S2048x4096, .fp8e4m3⟩
  | .hbm, ⟨2, _⟩ => ⟨S1x128, .f32⟩
  | .hbm, ⟨3, _⟩ => ⟨S_, .f32⟩
  | .hbm, ⟨4, _⟩ => ⟨S1x1, .f32⟩
  | .hbm, ⟨5, _⟩ => ⟨S1x1, .f32⟩
  | .hbm, ⟨6, _⟩ => ⟨S1536x4096, .bf16⟩
  | .hbm, ⟨7, _⟩ => ⟨S1536x2048, .fp8e4m3⟩
  | .local _ .vmem, ⟨0, _⟩ => ⟨S1536x2048, .f32⟩
  | .local _ .vmem, ⟨1, _⟩ => ⟨S2048x4096, .fp8e4m3⟩
  | .local _ .vmem, ⟨2, _⟩ => ⟨S1x1, .f32⟩
  | .local _ .vmem, ⟨3, _⟩ => ⟨S1x1, .f32⟩
  | .local _ .vmem, ⟨4, _⟩ => ⟨S1536x4096, .bf16⟩
  | .local _ .vmem, ⟨5, _⟩ => ⟨S1536x2048, .fp8e4m3⟩
  | _, _ => ⟨S1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GradWOut.lean ====
abbrev S1536x2048 : Shape := ⟨2, ![1536, 2048]⟩
abbrev S1536x4096 : Shape := ⟨2, ![1536, 4096]⟩
abbrev S1x128 : Shape := ⟨2, ![1, 128]⟩
abbrev S_ : Shape := ⟨0, ![]⟩
abbrev S1x1 : Shape := ⟨2, ![1, 1]⟩
abbrev S2048x4096 : Shape := ⟨2, ![2048, 4096]⟩
abbrev S1536x256 : Shape := ⟨2, ![1536, 256]⟩
abbrev S256x4096 : Shape := ⟨2, ![256, 4096]⟩

abbrev nBuf : Space → Nat
  | .hbm => 6
  | .vmem => 6
  | .smem => 1
  | _ => 0

abbrev bufTy : (tb : Table) → Fin (tcTables nBuf tb) → BufTy
  | .hbm, ⟨0, _⟩ => ⟨S1536x2048, .fp8e4m3⟩
  | .hbm, ⟨1, _⟩ => ⟨S1536x4096, .fp8e5m2⟩
  | .hbm, ⟨2, _⟩ => ⟨S1x128, .f32⟩
  | .hbm, ⟨3, _⟩ => ⟨S_, .f32⟩
  | .hbm, ⟨4, _⟩ => ⟨S1x1, .f32⟩
  | .hbm, ⟨5, _⟩ => ⟨S2048x4096, .f32⟩
  | .local _ .vmem, ⟨0, _⟩ => ⟨S1x128, .f32⟩
  | .local _ .vmem, ⟨1, _⟩ => ⟨S1536x256, .fp8e4m3⟩
  | .local _ .vmem, ⟨2, _⟩ => ⟨S1536x256, .fp8e4m3⟩
  | .local _ .vmem, ⟨3, _⟩ => ⟨S1536x4096, .fp8e5m2⟩
  | .local _ .vmem, ⟨4, _⟩ => ⟨S256x4096, .f32⟩
  | .local _ .vmem, ⟨5, _⟩ => ⟨S256x4096, .f32⟩
  | .local _ .smem, ⟨0, _⟩ => ⟨S1x1, .f32⟩
  | _, _ => ⟨S1536x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x4096 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GradWOutRefIdeal.lean ====
abbrev S1536x2048 : Shape := ⟨2, ![1536, 2048]⟩
abbrev S1536x4096 : Shape := ⟨2, ![1536, 4096]⟩
abbrev S1x128 : Shape := ⟨2, ![1, 128]⟩
abbrev S_ : Shape := ⟨0, ![]⟩
abbrev S1x1 : Shape := ⟨2, ![1, 1]⟩
abbrev S2048x4096 : Shape := ⟨2, ![2048, 4096]⟩

abbrev nBuf : Space → Nat
  | .hbm => 7
  | .vmem => 5
  | .smem => 0
  | _ => 0

abbrev bufTy : (tb : Table) → Fin (tcTables nBuf tb) → BufTy
  | .hbm, ⟨0, _⟩ => ⟨S1536x2048, .fp8e4m3⟩
  | .hbm, ⟨1, _⟩ => ⟨S1536x4096, .fp8e5m2⟩
  | .hbm, ⟨2, _⟩ => ⟨S1x128, .f32⟩
  | .hbm, ⟨3, _⟩ => ⟨S_, .f32⟩
  | .hbm, ⟨4, _⟩ => ⟨S1x1, .f32⟩
  | .hbm, ⟨5, _⟩ => ⟨S1x1, .f32⟩
  | .hbm, ⟨6, _⟩ => ⟨S2048x4096, .f32⟩
  | .local _ .vmem, ⟨0, _⟩ => ⟨S1536x2048, .fp8e4m3⟩
  | .local _ .vmem, ⟨1, _⟩ => ⟨S1536x4096, .fp8e5m2⟩
  | .local _ .vmem, ⟨2, _⟩ => ⟨S1x1, .f32⟩
  | .local _ .vmem, ⟨3, _⟩ => ⟨S1x1, .f32⟩
  | .local _ .vmem, ⟨4, _⟩ => ⟨S2048x4096, .f32⟩
  | _, _ => ⟨S1536x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4096 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DpQuant.lean ====
abbrev S1x128 : Shape := ⟨2, ![1, 128]⟩
abbrev S12x2048x128 : Shape := ⟨3, ![12, 2048, 128]⟩
abbrev S12x256x128 : Shape := ⟨3, ![12, 256, 128]⟩
abbrev S12x32x128 : Shape := ⟨3, ![12, 32, 128]⟩
abbrev S4640x1536 : Shape := ⟨2, ![4640, 1536]⟩
abbrev S1x2048x128 : Shape := ⟨3, ![1, 2048, 128]⟩
abbrev S1x256x128 : Shape := ⟨3, ![1, 256, 128]⟩
abbrev S1x32x128 : Shape := ⟨3, ![1, 32, 128]⟩
abbrev S4640x128 : Shape := ⟨2, ![4640, 128]⟩
abbrev S1x1 : Shape := ⟨2, ![1, 1]⟩
abbrev S2048x128 : Shape := ⟨2, ![2048, 128]⟩
abbrev S256x128 : Shape := ⟨2, ![256, 128]⟩
abbrev S32x128 : Shape := ⟨2, ![32, 128]⟩

abbrev nBuf : Space → Nat
  | .hbm => 7
  | .vmem => 13
  | .smem => 0
  | _ => 0

abbrev bufTy : (tb : Table) → Fin (tcTables nBuf tb) → BufTy
  | .hbm, ⟨0, _⟩ => ⟨S1x128, .f32⟩
  | .hbm, ⟨1, _⟩ => ⟨S12x2048x128, .f32⟩
  | .hbm, ⟨2, _⟩ => ⟨S12x2048x128, .f32⟩
  | .hbm, ⟨3, _⟩ => ⟨S12x256x128, .f32⟩
  | .hbm, ⟨4, _⟩ => ⟨S12x256x128, .f32⟩
  | .hbm, ⟨5, _⟩ => ⟨S12x32x128, .f32⟩
  | .hbm, ⟨6, _⟩ => ⟨S4640x1536, .fp8e5m2⟩
  | .local _ .vmem, ⟨0, _⟩ => ⟨S1x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x32x128, .f32⟩
  | .local _ .vmem, ⟨10, _⟩ => ⟨S1x32x128, .f32⟩
  | .local _ .vmem, ⟨11, _⟩ => ⟨S4640x128, .fp8e5m2⟩
  | .local _ .vmem, ⟨12, _⟩ => ⟨S4640x128, .fp8e5m2⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4640x128 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DpQuantRefIdeal.lean ====
abbrev S1x128 : Shape := ⟨2, ![1, 128]⟩
abbrev S12x2048x128 : Shape := ⟨3, ![12, 2048, 128]⟩
abbrev S12x256x128 : Shape := ⟨3, ![12, 256, 128]⟩
abbrev S12x32x128 : Shape := ⟨3, ![12, 32, 128]⟩
abbrev S12x4640x128 : Shape := ⟨3, ![12, 4640, 128]⟩
abbrev S4640x12x128 : Shape := ⟨3, ![4640, 12, 128]⟩
abbrev S4640x1536 : Shape := ⟨2, ![4640, 1536]⟩
abbrev S1x1 : Shape := ⟨2, ![1, 1]⟩

abbrev nBuf : Space → Nat
  | .hbm => 11
  | .vmem => 3
  | .smem => 0
  | _ => 0

abbrev bufTy : (tb : Table) → Fin (tcTables nBuf tb) → BufTy
  | .hbm, ⟨0, _⟩ => ⟨S1x128, .f32⟩
  | .hbm, ⟨1, _⟩ => ⟨S12x2048x128, .f32⟩
  | .hbm, ⟨2, _⟩ => ⟨S12x2048x128, .f32⟩
  | .hbm, ⟨3, _⟩ => ⟨S12x256x128, .f32⟩
  | .hbm, ⟨4, _⟩ => ⟨S12x256x128, .f32⟩
  | .hbm, ⟨5, _⟩ => ⟨S12x32x128, .f32⟩
  | .hbm, ⟨6, _⟩ => ⟨S12x4640x128, .f32⟩
  | .hbm, ⟨7, _⟩ => ⟨S4640x12x128, .f32⟩
  | .hbm, ⟨8, _⟩ => ⟨S4640x1536, .f32⟩
  | .hbm, ⟨9, _⟩ => ⟨S1x1, .f32⟩
  | .hbm, ⟨10, _⟩ => ⟨S4640x1536, .fp8e5m2⟩
  | .local _ .vmem, ⟨0, _⟩ => ⟨S1x1, .f32⟩
  | .local _ .vmem, ⟨1, _⟩ => ⟨S4640x1536, .f32⟩
  | .local _ .vmem, ⟨2, _⟩ => ⟨S4640x1536, .fp8e5m2⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4640x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4640x1536 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GradX.lean ====
abbrev S4640x1536 : Shape := ⟨2, ![4640, 1536]⟩
abbrev S4096x4640 : Shape := ⟨2, ![4096, 4640]⟩
abbrev S1x1536x4096 : Shape := ⟨3, ![1, 1536, 4096]⟩
abbrev S1536x1 : Shape := ⟨2, ![1536, 1]⟩
abbrev S4096 : Shape := ⟨1, ![4096]⟩
abbrev S1x128 : Shape := ⟨2, ![1, 128]⟩
abbrev S_ : Shape := ⟨0, ![]⟩
abbrev S4640x4096 : Shape := ⟨2, ![4640, 4096]⟩
abbrev S1536x4096 : Shape := ⟨2, ![1536, 4096]⟩
abbrev S1x4096 : Shape := ⟨2, ![1, 4096]⟩
abbrev S1x1 : Shape := ⟨2, ![1, 1]⟩
abbrev S4640x256 : Shape := ⟨2, ![4640, 256]⟩
abbrev S256x4096 : Shape := ⟨2, ![256, 4096]⟩
abbrev S256x1 : Shape := ⟨2, ![256, 1]⟩
abbrev S256 : Shape := ⟨1, ![256]⟩

abbrev nBuf : Space → Nat
  | .hbm => 14
  | .vmem => 15
  | .smem => 1
  | _ => 0

abbrev bufTy : (tb : Table) → Fin (tcTables nBuf tb) → BufTy
  | .hbm, ⟨0, _⟩ => ⟨S4640x1536, .fp8e5m2⟩
  | .hbm, ⟨1, _⟩ => ⟨S4096x4640, .fp8e4m3⟩
  | .hbm, ⟨2, _⟩ => ⟨S1x1536x4096, .bf16⟩
  | .hbm, ⟨3, _⟩ => ⟨S1536x1, .f32⟩
  | .hbm, ⟨4, _⟩ => ⟨S4096, .f32⟩
  | .hbm, ⟨5, _⟩ => ⟨S1x128, .f32⟩
  | .hbm, ⟨6, _⟩ => ⟨S_, .f32⟩
  | .hbm, ⟨7, _⟩ => ⟨S4640x4096, .fp8e4m3⟩
  | .hbm, ⟨8, _⟩ => ⟨S1536x4096, .bf16⟩
  | .hbm, ⟨9, _⟩ => ⟨S1x4096, .f32⟩
  | .hbm, ⟨10, _⟩ => ⟨S1x1, .f32⟩
  | .hbm, ⟨11, _⟩ => ⟨S1536x4096, .bf16⟩
  | .hbm, ⟨12, _⟩ => ⟨S1536x1, .f32⟩
  | .hbm, ⟨13, _⟩ => ⟨S1x4096, .f32⟩
  | .local _ .vmem, ⟨0, _⟩ => ⟨S1x128, .f32⟩
  | .local _ .vmem, ⟨1, _⟩ => ⟨S1x4096, .f32⟩
  | .local _ .vmem, ⟨2, _⟩ => ⟨S4640x256, .fp8e5m2⟩
  | .local _ .vmem, ⟨3, _⟩ => ⟨S4640x256, .fp8e5m2⟩
  | .local _ .vmem, ⟨4, _⟩ => ⟨S4640x4096, .fp8e4m3⟩
  | .local _ .vmem, ⟨5, _⟩ => ⟨S256x4096, .bf16⟩
  | .local _ .vmem, ⟨6, _⟩ => ⟨S256x4096, .bf16⟩
  | .local _ .vmem, ⟨7, _⟩ => ⟨S256x1, .f32⟩
  | .local _ .vmem, ⟨8, _⟩ => ⟨S256x1, .f32⟩
  | .local _ .vmem, ⟨9, _⟩ => ⟨S256x4096, .bf16⟩
  | .local _ .vmem, ⟨10, _⟩ => ⟨S256x4096, .bf16⟩
  | .local _ .vmem, ⟨11, _⟩ => ⟨S256x1, .f32⟩
  | .local _ .vmem, ⟨12, _⟩ => ⟨S256x1, .f32⟩
  | .local _ .vmem, ⟨13, _⟩ => ⟨S1x4096, .f32⟩
  | .local _ .vmem, ⟨14, _⟩ => ⟨S1x4096, .f32⟩
  | .local _ .smem, ⟨0, _⟩ => ⟨S1x1, .f32⟩
  | _, _ => ⟨S4640x1536, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4640x256 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4640x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GradXRefIdeal.lean ====
abbrev S4640x1536 : Shape := ⟨2, ![4640, 1536]⟩
abbrev S4096x4640 : Shape := ⟨2, ![4096, 4640]⟩
abbrev S1x1536x4096 : Shape := ⟨3, ![1, 1536, 4096]⟩
abbrev S1536x1 : Shape := ⟨2, ![1536, 1]⟩
abbrev S4096 : Shape := ⟨1, ![4096]⟩
abbrev S1x128 : Shape := ⟨2, ![1, 128]⟩
abbrev S_ : Shape := ⟨0, ![]⟩
abbrev S1536x4096 : Shape := ⟨2, ![1536, 4096]⟩
abbrev S1x4096 : Shape := ⟨2, ![1, 4096]⟩
abbrev S1x1 : Shape := ⟨2, ![1, 1]⟩
abbrev S1536 : Shape := ⟨1, ![1536]⟩

abbrev nBuf : Space → Nat
  | .hbm => 14
  | .vmem => 10
  | .smem => 0
  | _ => 0

abbrev bufTy : (tb : Table) → Fin (tcTables nBuf tb) → BufTy
  | .hbm, ⟨0, _⟩ => ⟨S4640x1536, .fp8e5m2⟩
  | .hbm, ⟨1, _⟩ => ⟨S4096x4640, .fp8e4m3⟩
  | .hbm, ⟨2, _⟩ => ⟨S1x1536x4096, .bf16⟩
  | .hbm, ⟨3, _⟩ => ⟨S1536x1, .f32⟩
  | .hbm, ⟨4, _⟩ => ⟨S4096, .f32⟩
  | .hbm, ⟨5, _⟩ => ⟨S1x128, .f32⟩
  | .hbm, ⟨6, _⟩ => ⟨S_, .f32⟩
  | .hbm, ⟨7, _⟩ => ⟨S1536x4096, .bf16⟩
  | .hbm, ⟨8, _⟩ => ⟨S1x4096, .f32⟩
  | .hbm, ⟨9, _⟩ => ⟨S1x1, .f32⟩
  | .hbm, ⟨10, _⟩ => ⟨S1x1, .f32⟩
  | .hbm, ⟨11, _⟩ => ⟨S1536x4096, .bf16⟩
  | .hbm, ⟨12, _⟩ => ⟨S1536x1, .f32⟩
  | .hbm, ⟨13, _⟩ => ⟨S1x4096, .f32⟩
  | .local _ .vmem, ⟨0, _⟩ => ⟨S4640x1536, .fp8e5m2⟩
  | .local _ .vmem, ⟨1, _⟩ => ⟨S4096x4640, .fp8e4m3⟩
  | .local _ .vmem, ⟨2, _⟩ => ⟨S1536x4096, .bf16⟩
  | .local _ .vmem, ⟨3, _⟩ => ⟨S1536x1, .f32⟩
  | .local _ .vmem, ⟨4, _⟩ => ⟨S1x4096, .f32⟩
  | .local _ .vmem, ⟨5, _⟩ => ⟨S1x1, .f32⟩
  | .local _ .vmem, ⟨6, _⟩ => ⟨S1x1, .f32⟩
  | .local _ .vmem, ⟨7, _⟩ => ⟨S1536x4096, .bf16⟩
  | .local _ .vmem, ⟨8, _⟩ => ⟨S1536x1, .f32⟩
  | .local _ .vmem, ⟨9, _⟩ => ⟨S1x4096, .f32⟩
  | _, _ => ⟨S4640x1536, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4640x1536 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4640 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== GradWIn.lean ====
abbrev S4640x1536 : Shape := ⟨2, ![4640, 1536]⟩
abbrev S1536x4096 : Shape := ⟨2, ![1536, 4096]⟩
abbrev S1x128 : Shape := ⟨2, ![1, 128]⟩
abbrev S_ : Shape := ⟨0, ![]⟩
abbrev S1x1 : Shape := ⟨2, ![1, 1]⟩
abbrev S4640x4096 : Shape := ⟨2, ![4640, 4096]⟩
abbrev S160x1536 : Shape := ⟨2, ![160, 1536]⟩
abbrev S160x4096 : Shape := ⟨2, ![160, 4096]⟩

abbrev nBuf : Space → Nat
  | .hbm => 6
  | .vmem => 6
  | .smem => 1
  | _ => 0

abbrev bufTy : (tb : Table) → Fin (tcTables nBuf tb) → BufTy
  | .hbm, ⟨0, _⟩ => ⟨S4640x1536, .fp8e5m2⟩
  | .hbm, ⟨1, _⟩ => ⟨S1536x4096, .fp8e4m3⟩
  | .hbm, ⟨2, _⟩ => ⟨S1x128, .f32⟩
  | .hbm, ⟨3, _⟩ => ⟨S_, .f32⟩
  | .hbm, ⟨4, _⟩ => ⟨S1x1, .f32⟩
  | .hbm, ⟨5, _⟩ => ⟨S4640x4096, .f32⟩
  | .local _ .vmem, ⟨0, _⟩ => ⟨S1x128, .f32⟩
  | .local _ .vmem, ⟨1, _⟩ => ⟨S160x1536, .fp8e5m2⟩
  | .local _ .vmem, ⟨2, _⟩ => ⟨S160x1536, .fp8e5m2⟩
  | .local _ .vmem, ⟨3, _⟩ => ⟨S1536x4096, .fp8e4m3⟩
  | .local _ .vmem, ⟨4, _⟩ => ⟨S160x4096, .f32⟩
  | .local _ .vmem, ⟨5, _⟩ => ⟨S160x4096, .f32⟩
  | .local _ .smem, ⟨0, _⟩ => ⟨S1x1, .f32⟩
  | _, _ => ⟨S4640x1536, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S160x1536 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S160x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GradWInRefIdeal.lean ====
abbrev S4640x1536 : Shape := ⟨2, ![4640, 1536]⟩
abbrev S1536x4096 : Shape := ⟨2, ![1536, 4096]⟩
abbrev S1x128 : Shape := ⟨2, ![1, 128]⟩
abbrev S_ : Shape := ⟨0, ![]⟩
abbrev S1x1 : Shape := ⟨2, ![1, 1]⟩
abbrev S4640x4096 : Shape := ⟨2, ![4640, 4096]⟩
abbrev S4096x4640 : Shape := ⟨2, ![4096, 4640]⟩

abbrev nBuf : Space → Nat
  | .hbm => 7
  | .vmem => 5
  | .smem => 0
  | _ => 0

abbrev bufTy : (tb : Table) → Fin (tcTables nBuf tb) → BufTy
  | .hbm, ⟨0, _⟩ => ⟨S4640x1536, .fp8e5m2⟩
  | .hbm, ⟨1, _⟩ => ⟨S1536x4096, .fp8e4m3⟩
  | .hbm, ⟨2, _⟩ => ⟨S1x128, .f32⟩
  | .hbm, ⟨3, _⟩ => ⟨S_, .f32⟩
  | .hbm, ⟨4, _⟩ => ⟨S1x1, .f32⟩
  | .hbm, ⟨5, _⟩ => ⟨S1x1, .f32⟩
  | .hbm, ⟨6, _⟩ => ⟨S4640x4096, .f32⟩
  | .local _ .vmem, ⟨0, _⟩ => ⟨S4640x1536, .fp8e5m2⟩
  | .local _ .vmem, ⟨1, _⟩ => ⟨S1536x4096, .fp8e4m3⟩
  | .local _ .vmem, ⟨2, _⟩ => ⟨S1x1, .f32⟩
  | .local _ .vmem, ⟨3, _⟩ => ⟨S1x1, .f32⟩
  | .local _ .vmem, ⟨4, _⟩ => ⟨S4640x4096, .f32⟩
  | _, _ => ⟨S4640x1536, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4640x1536 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4640x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Conv.lean ====
abbrev S12x4640x128 : Shape := ⟨3, ![12, 4640, 128]⟩
abbrev S2560x4 : Shape := ⟨2, ![2560, 4]⟩
abbrev S2560 : Shape := ⟨1, ![2560]⟩
abbrev S4x2560 : Shape := ⟨2, ![4, 2560]⟩
abbrev S1x2560 : Shape := ⟨2, ![1, 2560]⟩
abbrev S5x2560 : Shape := ⟨2, ![5, 2560]⟩
abbrev S5x2560x1 : Shape := ⟨3, ![5, 2560, 1]⟩
abbrev S5x2560x128 : Shape := ⟨3, ![5, 2560, 128]⟩
abbrev S2x1536x128 : Shape := ⟨3, ![2, 1536, 128]⟩
abbrev S1x128x128 : Shape := ⟨3, ![1, 128, 128]⟩
abbrev S5x128x128 : Shape := ⟨3, ![5, 128, 128]⟩
abbrev S2x1280x128 : Shape := ⟨3, ![2, 1280, 128]⟩
abbrev S128x128 : Shape := ⟨2, ![128, 128]⟩
abbrev S1280x128 : Shape := ⟨2, ![1280, 128]⟩
abbrev S1x1280x128 : Shape := ⟨3, ![1, 1280, 128]⟩
abbrev S128 : Shape := ⟨1, ![128]⟩
abbrev S1x128 : Shape := ⟨2, ![1, 128]⟩

abbrev nBuf : Space → Nat
  | .hbm => 10
  | .vmem => 13
  | .smem => 0
  | _ => 0

abbrev bufTy : (tb : Table) → Fin (tcTables nBuf tb) → BufTy
  | .hbm, ⟨0, _⟩ => ⟨S12x4640x128, .f32⟩
  | .hbm, ⟨1, _⟩ => ⟨S2560x4, .f32⟩
  | .hbm, ⟨2, _⟩ => ⟨S2560, .f32⟩
  | .hbm, ⟨3, _⟩ => ⟨S4x2560, .f32⟩
  | .hbm, ⟨4, _⟩ => ⟨S1x2560, .f32⟩
  | .hbm, ⟨5, _⟩ => ⟨S5x2560, .f32⟩
  | .hbm, ⟨6, _⟩ => ⟨S5x2560x1, .f32⟩
  | .hbm, ⟨7, _⟩ => ⟨S5x2560x128, .f32⟩
  | .hbm, ⟨8, _⟩ => ⟨S2x1536x128, .fp8e4m3⟩
  | .hbm, ⟨9, _⟩ => ⟨S2x1536x128, .fp8e4m3⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S5x128x128, .f32⟩
  | .local _ .vmem, ⟨5, _⟩ => ⟨S5x128x128, .f32⟩
  | .local _ .vmem, ⟨6, _⟩ => ⟨S5x128x128, .f32⟩
  | .local _ .vmem, ⟨7, _⟩ => ⟨S5x128x128, .f32⟩
  | .local _ .vmem, ⟨8, _⟩ => ⟨S1x128x128, .fp8e4m3⟩
  | .local _ .vmem, ⟨9, _⟩ => ⟨S1x128x128, .fp8e4m3⟩
  | .local _ .vmem, ⟨10, _⟩ => ⟨S1x128x128, .fp8e4m3⟩
  | .local _ .vmem, ⟨11, _⟩ => ⟨S1x128x128, .fp8e4m3⟩
  | .local _ .vmem, ⟨12, _⟩ => ⟨S2x1280x128, .f32⟩
  | _, _ => ⟨S12x4640x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 2], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 3 → Nat :=
  let arg1 : BitVec 32 := BitVec.ofNat 32 (i 1).val
  let v131 : Index := Scalar.indexCast arg1
  let c0_62 : Index := 0#32
  let c0_63 : Index := 0#32
  ![v131.toNat, 0, 0]
def k0_off2 (i : grid0.Coords) : Fin 3 → Nat :=
  let arg1 : BitVec 32 := BitVec.ofNat 32 (i 1).val
  let v6 : Index := Scalar.indexCast arg1
  let c1024 : Index := 1024#32
  let c0_3 : Index := 0#32
  ![v6.toNat, 1024, 0]
def k0_off3 (i : grid0.Coords) : Fin 3 → Nat :=
  let arg1 : BitVec 32 := BitVec.ofNat 32 (i 1).val
  let v47 : Index := Scalar.indexCast arg1
  let c1152 : Index := 1152#32
  let c0_20 : Index := 0#32
  ![v47.toNat, 1152, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S5x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S12x4640x128 : Shape := ⟨3, ![12, 4640, 128]⟩
abbrev S2560x4 : Shape := ⟨2, ![2560, 4]⟩
abbrev S2560 : Shape := ⟨1, ![2560]⟩
abbrev S12x2560x128 : Shape := ⟨3, ![12, 2560, 128]⟩
abbrev S12x128x2560 : Shape := ⟨3, ![12, 128, 2560]⟩
abbrev S1536x2560 : Shape := ⟨2, ![1536, 2560]⟩
abbrev S_ : Shape := ⟨0, ![]⟩
abbrev S1539x2560 : Shape := ⟨2, ![1539, 2560]⟩
abbrev S2560x1 : Shape := ⟨2, ![2560, 1]⟩
abbrev S1x2560 : Shape := ⟨2, ![1, 2560]⟩
abbrev S1536x256 : Shape := ⟨2, ![1536, 256]⟩
abbrev S1536x2x128 : Shape := ⟨3, ![1536, 2, 128]⟩
abbrev S1536x2 : Shape := ⟨2, ![1536, 2]⟩
abbrev S1536x2x1 : Shape := ⟨3, ![1536, 2, 1]⟩
abbrev S2x1536x128 : Shape := ⟨3, ![2, 1536, 128]⟩

abbrev nBuf : Space → Nat
  | .hbm => 107
  | .vmem => 0
  | .smem => 0
  | _ => 0

abbrev bufTy : (tb : Table) → Fin (tcTables nBuf tb) → BufTy
  | .hbm, ⟨0, _⟩ => ⟨S12x4640x128, .f32⟩
  | .hbm, ⟨1, _⟩ => ⟨S2560x4, .f32⟩
  | .hbm, ⟨2, _⟩ => ⟨S2560, .f32⟩
  | .hbm, ⟨3, _⟩ => ⟨S12x2560x128, .f32⟩
  | .hbm, ⟨4, _⟩ => ⟨S12x128x2560, .f32⟩
  | .hbm, ⟨5, _⟩ => ⟨S1536x2560, .f32⟩
  | .hbm, ⟨6, _⟩ => ⟨S_, .i32⟩
  | .hbm, ⟨7, _⟩ => ⟨S_, .f32⟩
  | .hbm, ⟨8, _⟩ => ⟨S1539x2560, .f32⟩
  | .hbm, ⟨9, _⟩ => ⟨S2560x1, .f32⟩
  | .hbm, ⟨10, _⟩ => ⟨S2560, .f32⟩
  | .hbm, ⟨11, _⟩ => ⟨S1536x2560, .f32⟩
  | .hbm, ⟨12, _⟩ => ⟨S1x2560, .f32⟩
  | .hbm, ⟨13, _⟩ => ⟨S1536x2560, .f32⟩
  | .hbm, ⟨14, _⟩ => ⟨S1536x2560, .f32⟩
  | .hbm, ⟨15, _⟩ => ⟨S_, .f32⟩
  | .hbm, ⟨16, _⟩ => ⟨S1536x2560, .f32⟩
  | .hbm, ⟨17, _⟩ => ⟨S1536x2560, .f32⟩
  | .hbm, ⟨18, _⟩ => ⟨S2560x1, .f32⟩
  | .hbm, ⟨19, _⟩ => ⟨S2560, .f32⟩
  | .hbm, ⟨20, _⟩ => ⟨S1536x2560, .f32⟩
  | .hbm, ⟨21, _⟩ => ⟨S1x2560, .f32⟩
  | .hbm, ⟨22, _⟩ => ⟨S1536x2560, .f32⟩
  | .hbm, ⟨23, _⟩ => ⟨S1536x2560, .f32⟩
  | .hbm, ⟨24, _⟩ => ⟨S1536x2560, .f32⟩
  | .hbm, ⟨25, _⟩ => ⟨S2560x1, .f32⟩
  | .hbm, ⟨26, _⟩ => ⟨S2560, .f32⟩
  | .hbm, ⟨27, _⟩ => ⟨S1536x2560, .f32⟩
  | .hbm, ⟨28, _⟩ => ⟨S1x2560, .f32⟩
  | .hbm, ⟨29, _⟩ => ⟨S1536x2560, .f32⟩
  | .hbm, ⟨30, _⟩ => ⟨S1536x2560, .f32⟩
  | .hbm, ⟨31, _⟩ => ⟨S1536x2560, .f32⟩
  | .hbm, ⟨32, _⟩ => ⟨S2560x1, .f32⟩
  | .hbm, ⟨33, _⟩ => ⟨S2560, .f32⟩
  | .hbm, ⟨34, _⟩ => ⟨S1536x2560, .f32⟩
  | .hbm, ⟨35, _⟩ => ⟨S1x2560, .f32⟩
  | .hbm, ⟨36, _⟩ => ⟨S1536x2560, .f32⟩
  | .hbm, ⟨37, _⟩ => ⟨S1536x2560, .f32⟩
  | .hbm, ⟨38, _⟩ => ⟨S1536x2560, .f32⟩
  | .hbm, ⟨39, _⟩ => ⟨S1x2560, .f32⟩
  | .hbm, ⟨40, _⟩ => ⟨S1536x2560, .f32⟩
  | .hbm, ⟨41, _⟩ => ⟨S1536x2560, .f32⟩
  | .hbm, ⟨42, _⟩ => ⟨S1536x2560, .f32⟩
  | .hbm, ⟨43, _⟩ => ⟨S1536x2560, .f32⟩
  | .hbm, ⟨44, _⟩ => ⟨S_, .f32⟩
  | .hbm, ⟨45, _⟩ => ⟨S1536x2560, .f32⟩
  | .hbm, ⟨46, _⟩ => ⟨S1536x2560, .f32⟩
  | .hbm, ⟨47, _⟩ => ⟨S_, .f32⟩
  | .hbm, ⟨48, _⟩ => ⟨S1536x2560, .f32⟩
  | .hbm, ⟨49, _⟩ => ⟨S1536x2560, .f32⟩
  | .hbm, ⟨50, _⟩ => ⟨S1536x2560, .f32⟩
  | .hbm, ⟨51, _⟩ => ⟨S1536x256, .f32⟩
  | .hbm, ⟨52, _⟩ => ⟨S1536x2x128, .f32⟩
  | .hbm, ⟨53, _⟩ => ⟨S1536x2x128, .f32⟩
  | .hbm, ⟨54, _⟩ => ⟨S_, .f32⟩
  | .hbm, ⟨55, _⟩ => ⟨S1536x2, .f32⟩
  | .hbm, ⟨56, _⟩ => ⟨S1536x2x1, .f32⟩
  | .hbm, ⟨57, _⟩ => ⟨S_, .f32⟩
  | .hbm, ⟨58, _⟩ => ⟨S1536x2x1, .f32⟩
  | .hbm, ⟨59, _⟩ => ⟨S1536x2x1, .i1⟩
  | .hbm, ⟨60, _⟩ => ⟨S_, .f32⟩
  | .hbm, ⟨61, _⟩ => ⟨S1536x2x1, .f32⟩
  | .hbm, ⟨62, _⟩ => ⟨S1536x2x1, .f32⟩
  | .hbm, ⟨63, _⟩ => ⟨S_, .f32⟩
  | .hbm, ⟨64, _⟩ => ⟨S_, .f32⟩
  | .hbm, ⟨65, _⟩ => ⟨S1536x2x1, .f32⟩
  | .hbm, ⟨66, _⟩ => ⟨S1536x2x1, .f32⟩
  | .hbm, ⟨67, _⟩ => ⟨S1536x2x128, .f32⟩
  | .hbm, ⟨68, _⟩ => ⟨S1536x2x128, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S1536x2x128, .f32⟩
  | .hbm, ⟨73, _⟩ => ⟨S1536x2x128, .f32⟩
  | .hbm, ⟨74, _⟩ => ⟨S_, .f32⟩
  | .hbm, ⟨75, _⟩ => ⟨S1536x2x128, .f32⟩
  | .hbm, ⟨76, _⟩ => ⟨S1536x2x128, .f32⟩
  | .hbm, ⟨77, _⟩ => ⟨S1536x2x128, .fp8e4m3⟩
  | .hbm, ⟨78, _⟩ => ⟨S2x1536x128, .fp8e4m3⟩
  | .hbm, ⟨79, _⟩ => ⟨S1536x256, .f32⟩
  | .hbm, ⟨80, _⟩ => ⟨S1536x2x128, .f32⟩
  | .hbm, ⟨81, _⟩ => ⟨S1536x2x128, .f32⟩
  | .hbm, ⟨82, _⟩ => ⟨S_, .f32⟩
  | .hbm, ⟨83, _⟩ => ⟨S1536x2, .f32⟩
  | .hbm, ⟨84, _⟩ => ⟨S1536x2x1, .f32⟩
  | .hbm, ⟨85, _⟩ => ⟨S_, .f32⟩
  | .hbm, ⟨86, _⟩ => ⟨S1536x2x1, .f32⟩
  | .hbm, ⟨87, _⟩ => ⟨S1536x2x1, .i1⟩
  | .hbm, ⟨88, _⟩ => ⟨S_, .f32⟩
  | .hbm, ⟨89, _⟩ => ⟨S1536x2x1, .f32⟩
  | .hbm, ⟨90, _⟩ => ⟨S1536x2x1, .f32⟩
  | .hbm, ⟨91, _⟩ => ⟨S_, .f32⟩
  | .hbm, ⟨92, _⟩ => ⟨S_, .f32⟩
  | .hbm, ⟨93, _⟩ => ⟨S1536x2x1, .f32⟩
  | .hbm, ⟨94, _⟩ => ⟨S1536x2x1, .f32⟩
  | .hbm, ⟨95, _⟩ => ⟨S1536x2x128, .f32⟩
  | .hbm, ⟨96, _⟩ => ⟨S1536x2x128, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S1536x2x128, .f32⟩
  | .hbm, ⟨101, _⟩ => ⟨S1536x2x128, .f32⟩
  | .hbm, ⟨102, _⟩ => ⟨S_, .f32⟩
  | .hbm, ⟨103, _⟩ => ⟨S1536x2x128, .f32⟩
  | .hbm, ⟨104, _⟩ => ⟨S1536x2x128, .f32⟩
  | .hbm, ⟨105, _⟩ => ⟨S1536x2x128, .fp8e4m3⟩
  | .hbm, ⟨106, _⟩ => ⟨S2x1536x128, .fp8e4m3⟩
  | _, _ => ⟨S12x4640x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_2 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_call1_v0 : Ref sig .tc := ⟨.hbm, 64, rfl⟩
abbrev main_call1_v1 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_cst_7 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_call3_v0 : Ref sig .tc := ⟨.hbm, 92, rfl⟩
abbrev main_call3_v1 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_12 : Ref sig .tc := ⟨.hbm, 97, rfl⟩
abbrev main_cst_13 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== Proof.PrepSpec.lean ====
module

public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Prep

/-- The reciprocal root of a row's mean square. -/
def rr (X : FVec Ideal ⟨3, ![1, 1536, 4096]⟩ .bf16) : FVec Ideal ⟨2, ![1536, 1]⟩ .f32 := fun j =>
  Ideal.rsqrt (Ideal.div (∑ d : Fin 4096, X (ix3 0 (j 0) d) * X (ix3 0 (j 0) d)) (Ideal.ofBits .f32 0x45800000#32)
    + Ideal.ofBits .f32 0x3727C5AC#32)

/-- The normalized activation. -/
def h (X : FVec Ideal ⟨3, ![1, 1536, 4096]⟩ .bf16) (nw : FVec Ideal ⟨1, ![4096]⟩ .f32) (i : Fin 1536) (d : Fin 4096) : EReal :=
  X (ix3 0 i d) * rr X (ix2 i 0) * nw (ix1 d)

/-- The activation's codes. -/
def hc (X : FVec Ideal ⟨3, ![1, 1536, 4096]⟩ .bf16) (nw : FVec Ideal ⟨1, ![4096]⟩ .f32) (s : FVec Ideal ⟨0, ![]⟩ .f32) :
    FVec Ideal ⟨2, ![1536, 4096]⟩ .fp8e4m3 := fun j =>
  min (Ideal.ofBits .f32 0x43E00000#32) (max (Ideal.ofBits .f32 0xC3E00000#32) (Ideal.div (h X nw (j 0) (j 1)) (s ix0)))

/-- The output gradient's codes. -/
def dyc (Y : FVec Ideal ⟨3, ![1, 1536, 4096]⟩ .bf16) (s : FVec Ideal ⟨0, ![]⟩ .f32) :
    FVec Ideal ⟨2, ![1536, 4096]⟩ .fp8e5m2 := fun j =>
  min (Ideal.ofBits .f32 0x47600000#32) (max (Ideal.ofBits .f32 0xC7600000#32) (Ideal.div (Y (ix3 0 (j 0) (j 1))) (s ix0)))

/-- The largest magnitude of a matrix. -/
def amax (f : Fin 1536 → Fin 4096 → EReal) : FVec Ideal ⟨2, ![1, 1]⟩ .f32 := fun _ =>
  Finset.fold max (Ideal.ofBits .f32 0xFF800000#32 : EReal) (fun i : Fin 1536 =>
    Finset.fold max (Ideal.ofBits .f32 0xFF800000#32 : EReal) (fun d : Fin 4096 => (FloatOps.absf (F := Ideal) (φ := .f32) (f i d) : EReal)) Finset.univ) Finset.univ

/-- The largest magnitude of the activation. -/
def amaxH (X : FVec Ideal ⟨3, ![1, 1536, 4096]⟩ .bf16) (nw : FVec Ideal ⟨1, ![4096]⟩ .f32) : FVec Ideal ⟨2, ![1, 1]⟩ .f32 :=
  amax (h X nw)

/-- The largest magnitude of the output gradient. -/
def amaxDy (Y : FVec Ideal ⟨3, ![1, 1536, 4096]⟩ .bf16) : FVec Ideal ⟨2, ![1, 1]⟩ .f32 := amax fun i d => Y (ix3 0 i d)

theorem absf_nonneg (x : EReal) : 0 ≤ (FloatOps.absf (F := Ideal) (φ := .f32) x : EReal) := by
  show 0 ≤ max x (-x)
  rcases le_total 0 x with h | h
  · exact le_max_of_le_left h
  · exact le_max_of_le_right (by simpa using EReal.neg_le_neg_iff.mpr h)

theorem amax_le (f : Fin 1536 → Fin 4096 → EReal) (j) (z : EReal) : amax f j ≤ z ↔
    (Ideal.ofBits .f32 0xFF800000#32 : EReal) ≤ z ∧ ∀ i d, (FloatOps.absf (F := Ideal) (φ := .f32) (f i d) : EReal) ≤ z := by
  unfold amax
  rw [Finset.fold_max_le]
  simp only [Finset.fold_max_le, Finset.mem_univ, true_implies]
  constructor
  · rintro ⟨a, b⟩; exact ⟨a, fun i d => (b i).2 d⟩
  · rintro ⟨a, b⟩; exact ⟨a, fun i => ⟨a, fun d => b i d⟩⟩

end Cert.Prep

end
-- ==== Proof.PrepRows.lean ====
module

public import proofs.«01_k».proof.Proof.Gen.PrepIdeal.Value
public import proofs.«01_k».proof.Proof.PrepSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
namespace Cert.PrepIdeal.Final

open Cert.PrepIdeal Cert.PrepIdeal.Gen

variable (m : (ℓ : Loc nD τ sig) → Buf (Elt Ideal) ℓ)

/-- The block index of every window at every grid point. -/
theorem idx : ∀ t : Fin cfg0.N, win0_0.index t = ![0, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

/-- A slab's rows. -/
theorem slabH0 (c : Dev nD) (t : Fin cfg0.N) (x : Fin 32) (d : Fin 4096) (i : Fin 1536) (hi : i.val = 256 * t.val + 0 + x.val) :
    k0_pay10 (F := Ideal) (iblk m c 2 t) (View.ld (iblk m c 3 t) (Rect.unit ![0, 0] ![32, 4096] inb_S256x4096_S32x4096_0_0)) (ix2 x d) = Cert.Prep.h (m ((c : Thread nD τ).loc main_arg0)) (m ((c : Thread nD τ).loc main_arg2)) i d := by
  pointwise [k0_pay10, k0_pay7, k0_pay8, k0_pay9, Cert.Prep.h, Cert.Prep.rr]
  blk_point [iblk, V, idx t]

/-- A slab's rows. -/
theorem slabH1 (c : Dev nD) (t : Fin cfg0.N) (x : Fin 32) (d : Fin 4096) (i : Fin 1536) (hi : i.val = 256 * t.val + 32 + x.val) :
    k0_pay10 (F := Ideal) (iblk m c 2 t) (View.ld (iblk m c 3 t) (Rect.unit ![32, 0] ![32, 4096] inb_S256x4096_S32x4096_32_0)) (ix2 x d) = Cert.Prep.h (m ((c : Thread nD τ).loc main_arg0)) (m ((c : Thread nD τ).loc main_arg2)) i d := by
  pointwise [k0_pay10, k0_pay7, k0_pay8, k0_pay9, Cert.Prep.h, Cert.Prep.rr]
  blk_point [iblk, V, idx t]

/-- A slab's rows. -/
theorem slabH2 (c : Dev nD) (t : Fin cfg0.N) (x : Fin 32) (d : Fin 4096) (i : Fin 1536) (hi : i.val = 256 * t.val + 64 + x.val) :
    k0_pay10 (F := Ideal) (iblk m c 2 t) (View.ld (iblk m c 3 t) (Rect.unit ![64, 0] ![32, 4096] inb_S256x4096_S32x4096_64_0)) (ix2 x d) = Cert.Prep.h (m ((c : Thread nD τ).loc main_arg0)) (m ((c : Thread nD τ).loc main_arg2)) i d := by
  pointwise [k0_pay10, k0_pay7, k0_pay8, k0_pay9, Cert.Prep.h, Cert.Prep.rr]
  blk_point [iblk, V, idx t]

/-- A slab's rows. -/
theorem slabH3 (c : Dev nD) (t : Fin cfg0.N) (x : Fin 32) (d : Fin 4096) (i : Fin 1536) (hi : i.val = 256 * t.val + 96 + x.val) :
    k0_pay10 (F := Ideal) (iblk m c 2 t) (View.ld (iblk m c 3 t) (Rect.unit ![96, 0] ![32, 4096] inb_S256x4096_S32x4096_96_0)) (ix2 x d) = Cert.Prep.h (m ((c : Thread nD τ).loc main_arg0)) (m ((c : Thread nD τ).loc main_arg2)) i d := by
  pointwise [k0_pay10, k0_pay7, k0_pay8, k0_pay9, Cert.Prep.h, Cert.Prep.rr]
  blk_point [iblk, V, idx t]

/-- A slab's rows. -/
theorem slabH4 (c : Dev nD) (t : Fin cfg0.N) (x : Fin 32) (d : Fin 4096) (i : Fin 1536) (hi : i.val = 256 * t.val + 128 + x.val) :
    k0_pay10 (F := Ideal) (iblk m c 2 t) (View.ld (iblk m c 3 t) (Rect.unit ![128, 0] ![32, 4096] inb_S256x4096_S32x4096_128_0)) (ix2 x d) = Cert.Prep.h (m ((c : Thread nD τ).loc main_arg0)) (m ((c : Thread nD τ).loc main_arg2)) i d := by
  pointwise [k0_pay10, k0_pay7, k0_pay8, k0_pay9, Cert.Prep.h, Cert.Prep.rr]
  blk_point [iblk, V, idx t]

/-- A slab's rows. -/
theorem slabH5 (c : Dev nD) (t : Fin cfg0.N) (x : Fin 32) (d : Fin 4096) (i : Fin 1536) (hi : i.val = 256 * t.val + 160 + x.val) :
    k0_pay10 (F := Ideal) (iblk m c 2 t) (View.ld (iblk m c 3 t) (Rect.unit ![160, 0] ![32, 4096] inb_S256x4096_S32x4096_160_0)) (ix2 x d) = Cert.Prep.h (m ((c : Thread nD τ).loc main_arg0)) (m ((c : Thread nD τ).loc main_arg2)) i d := by
  pointwise [k0_pay10, k0_pay7, k0_pay8, k0_pay9, Cert.Prep.h, Cert.Prep.rr]
  blk_point [iblk, V, idx t]

/-- A slab's rows. -/
theorem slabH6 (c : Dev nD) (t : Fin cfg0.N) (x : Fin 32) (d : Fin 4096) (i : Fin 1536) (hi : i.val = 256 * t.val + 192 + x.val) :
    k0_pay10 (F := Ideal) (iblk m c 2 t) (View.ld (iblk m c 3 t) (Rect.unit ![192, 0] ![32, 4096] inb_S256x4096_S32x4096_192_0)) (ix2 x d) = Cert.Prep.h (m ((c : Thread nD τ).loc main_arg0)) (m ((c : Thread nD τ).loc main_arg2)) i d := by
  pointwise [k0_pay10, k0_pay7, k0_pay8, k0_pay9, Cert.Prep.h, Cert.Prep.rr]
  blk_point [iblk, V, idx t]

/-- A slab's rows. -/
theorem slabH7 (c : Dev nD) (t : Fin cfg0.N) (x : Fin 32) (d : Fin 4096) (i : Fin 1536) (hi : i.val = 256 * t.val + 224 + x.val) :
    k0_pay10 (F := Ideal) (iblk m c 2 t) (View.ld (iblk m c 3 t) (Rect.unit ![224, 0] ![32, 4096] inb_S256x4096_S32x4096_224_0)) (ix2 x d) = Cert.Prep.h (m ((c : Thread nD τ).loc main_arg0)) (m ((c : Thread nD τ).loc main_arg2)) i d := by
  pointwise [k0_pay10, k0_pay7, k0_pay8, k0_pay9, Cert.Prep.h, Cert.Prep.rr]
  blk_point [iblk, V, idx t]

/-- A slab's rows. -/
theorem slabY0 (c : Dev nD) (t : Fin cfg0.N) (x : Fin 32) (d : Fin 4096) (i : Fin 1536) (hi : i.val = 256 * t.val + 0 + x.val) :
    k0_pay15 (F := Ideal) (View.ld (iblk m c 4 t) (Rect.unit ![0, 0] ![32, 4096] inb_S256x4096_S32x4096_0_0)) (ix2 x d) = (m ((c : Thread nD τ).loc main_arg1)) (ix3 0 i d) := by
  pointwise [k0_pay15]
  blk_point [iblk, V, idx t]

/-- A slab's rows. -/
theorem slabY1 (c : Dev nD) (t : Fin cfg0.N) (x : Fin 32) (d : Fin 4096) (i : Fin 1536) (hi : i.val = 256 * t.val + 32 + x.val) :
    k0_pay15 (F := Ideal) (View.ld (iblk m c 4 t) (Rect.unit ![32, 0] ![32, 4096] inb_S256x4096_S32x4096_32_0)) (ix2 x d) = (m ((c : Thread nD τ).loc main_arg1)) (ix3 0 i d) := by
  pointwise [k0_pay15]
  blk_point [iblk, V, idx t]

/-- A slab's rows. -/
theorem slabY2 (c : Dev nD) (t : Fin cfg0.N) (x : Fin 32) (d : Fin 4096) (i : Fin 1536) (hi : i.val = 256 * t.val + 64 + x.val) :
    k0_pay15 (F := Ideal) (View.ld (iblk m c 4 t) (Rect.unit ![64, 0] ![32, 4096] inb_S256x4096_S32x4096_64_0)) (ix2 x d) = (m ((c : Thread nD τ).loc main_arg1)) (ix3 0 i d) := by
  pointwise [k0_pay15]
  blk_point [iblk, V, idx t]

/-- A slab's rows. -/
theorem slabY3 (c : Dev nD) (t : Fin cfg0.N) (x : Fin 32) (d : Fin 4096) (i : Fin 1536) (hi : i.val = 256 * t.val + 96 + x.val) :
    k0_pay15 (F := Ideal) (View.ld (iblk m c 4 t) (Rect.unit ![96, 0] ![32, 4096] inb_S256x4096_S32x4096_96_0)) (ix2 x d) = (m ((c : Thread nD τ).loc main_arg1)) (ix3 0 i d) := by
  pointwise [k0_pay15]
  blk_point [iblk, V, idx t]

/-- A slab's rows. -/
theorem slabY4 (c : Dev nD) (t : Fin cfg0.N) (x : Fin 32) (d : Fin 4096) (i : Fin 1536) (hi : i.val = 256 * t.val + 128 + x.val) :
    k0_pay15 (F := Ideal) (View.ld (iblk m c 4 t) (Rect.unit ![128, 0] ![32, 4096] inb_S256x4096_S32x4096_128_0)) (ix2 x d) = (m ((c : Thread nD τ).loc main_arg1)) (ix3 0 i d) := by
  pointwise [k0_pay15]
  blk_point [iblk, V, idx t]

/-- A slab's rows. -/
theorem slabY5 (c : Dev nD) (t : Fin cfg0.N) (x : Fin 32) (d : Fin 4096) (i : Fin 1536) (hi : i.val = 256 * t.val + 160 + x.val) :
    k0_pay15 (F := Ideal) (View.ld (iblk m c 4 t) (Rect.unit ![160, 0] ![32, 4096] inb_S256x4096_S32x4096_160_0)) (ix2 x d) = (m ((c : Thread nD τ).loc main_arg1)) (ix3 0 i d) := by
  pointwise [k0_pay15]
  blk_point [iblk, V, idx t]

/-- A slab's rows. -/
theorem slabY6 (c : Dev nD) (t : Fin cfg0.N) (x : Fin 32) (d : Fin 4096) (i : Fin 1536) (hi : i.val = 256 * t.val + 192 + x.val) :
    k0_pay15 (F := Ideal) (View.ld (iblk m c 4 t) (Rect.unit ![192, 0] ![32, 4096] inb_S256x4096_S32x4096_192_0)) (ix2 x d) = (m ((c : Thread nD τ).loc main_arg1)) (ix3 0 i d) := by
  pointwise [k0_pay15]
  blk_point [iblk, V, idx t]

/-- A slab's rows. -/
theorem slabY7 (c : Dev nD) (t : Fin cfg0.N) (x : Fin 32) (d : Fin 4096) (i : Fin 1536) (hi : i.val = 256 * t.val + 224 + x.val) :
    k0_pay15 (F := Ideal) (View.ld (iblk m c 4 t) (Rect.unit ![224, 0] ![32, 4096] inb_S256x4096_S32x4096_224_0)) (ix2 x d) = (m ((c : Thread nD τ).loc main_arg1)) (ix3 0 i d) := by
  pointwise [k0_pay15]
  blk_point [iblk, V, idx t]

/-- A slab's rows. -/
theorem slabR0 (c : Dev nD) (t : Fin cfg0.N) (x : Fin 32) (d : Fin 1) (i : Fin 1536) (hi : i.val = 256 * t.val + 0 + x.val) :
    k0_pay9 (F := Ideal) (View.ld (iblk m c 3 t) (Rect.unit ![0, 0] ![32, 4096] inb_S256x4096_S32x4096_0_0)) (ix2 x d) = Cert.Prep.rr (m ((c : Thread nD τ).loc main_arg0)) (ix2 i d) := by
  pointwise [k0_pay9, k0_pay8, Cert.Prep.rr]
  blk_point [iblk, V, idx t]

/-- A slab's rows. -/
theorem slabR1 (c : Dev nD) (t : Fin cfg0.N) (x : Fin 32) (d : Fin 1) (i : Fin 1536) (hi : i.val = 256 * t.val + 32 + x.val) :
    k0_pay9 (F := Ideal) (View.ld (iblk m c 3 t) (Rect.unit ![32, 0] ![32, 4096] inb_S256x4096_S32x4096_32_0)) (ix2 x d) = Cert.Prep.rr (m ((c : Thread nD τ).loc main_arg0)) (ix2 i d) := by
  pointwise [k0_pay9, k0_pay8, Cert.Prep.rr]
  blk_point [iblk, V, idx t]

/-- A slab's rows. -/
theorem slabR2 (c : Dev nD) (t : Fin cfg0.N) (x : Fin 32) (d : Fin 1) (i : Fin 1536) (hi : i.val = 256 * t.val + 64 + x.val) :
    k0_pay9 (F := Ideal) (View.ld (iblk m c 3 t) (Rect.unit ![64, 0] ![32, 4096] inb_S256x4096_S32x4096_64_0)) (ix2 x d) = Cert.Prep.rr (m ((c : Thread nD τ).loc main_arg0)) (ix2 i d) := by
  pointwise [k0_pay9, k0_pay8, Cert.Prep.rr]
  blk_point [iblk, V, idx t]

/-- A slab's rows. -/
theorem slabR3 (c : Dev nD) (t : Fin cfg0.N) (x : Fin 32) (d : Fin 1) (i : Fin 1536) (hi : i.val = 256 * t.val + 96 + x.val) :
    k0_pay9 (F := Ideal) (View.ld (iblk m c 3 t) (Rect.unit ![96, 0] ![32, 4096] inb_S256x4096_S32x4096_96_0)) (ix2 x d) = Cert.Prep.rr (m ((c : Thread nD τ).loc main_arg0)) (ix2 i d) := by
  pointwise [k0_pay9, k0_pay8, Cert.Prep.rr]
  blk_point [iblk, V, idx t]

/-- A slab's rows. -/
theorem slabR4 (c : Dev nD) (t : Fin cfg0.N) (x : Fin 32) (d : Fin 1) (i : Fin 1536) (hi : i.val = 256 * t.val + 128 + x.val) :
    k0_pay9 (F := Ideal) (View.ld (iblk m c 3 t) (Rect.unit ![128, 0] ![32, 4096] inb_S256x4096_S32x4096_128_0)) (ix2 x d) = Cert.Prep.rr (m ((c : Thread nD τ).loc main_arg0)) (ix2 i d) := by
  pointwise [k0_pay9, k0_pay8, Cert.Prep.rr]
  blk_point [iblk, V, idx t]

/-- A slab's rows. -/
theorem slabR5 (c : Dev nD) (t : Fin cfg0.N) (x : Fin 32) (d : Fin 1) (i : Fin 1536) (hi : i.val = 256 * t.val + 160 + x.val) :
    k0_pay9 (F := Ideal) (View.ld (iblk m c 3 t) (Rect.unit ![160, 0] ![32, 4096] inb_S256x4096_S32x4096_160_0)) (ix2 x d) = Cert.Prep.rr (m ((c : Thread nD τ).loc main_arg0)) (ix2 i d) := by
  pointwise [k0_pay9, k0_pay8, Cert.Prep.rr]
  blk_point [iblk, V, idx t]

/-- A slab's rows. -/
theorem slabR6 (c : Dev nD) (t : Fin cfg0.N) (x : Fin 32) (d : Fin 1) (i : Fin 1536) (hi : i.val = 256 * t.val + 192 + x.val) :
    k0_pay9 (F := Ideal) (View.ld (iblk m c 3 t) (Rect.unit ![192, 0] ![32, 4096] inb_S256x4096_S32x4096_192_0)) (ix2 x d) = Cert.Prep.rr (m ((c : Thread nD τ).loc main_arg0)) (ix2 i d) := by
  pointwise [k0_pay9, k0_pay8, Cert.Prep.rr]
  blk_point [iblk, V, idx t]

/-- A slab's rows. -/
theorem slabR7 (c : Dev nD) (t : Fin cfg0.N) (x : Fin 32) (d : Fin 1) (i : Fin 1536) (hi : i.val = 256 * t.val + 224 + x.val) :
    k0_pay9 (F := Ideal) (View.ld (iblk m c 3 t) (Rect.unit ![224, 0] ![32, 4096] inb_S256x4096_S32x4096_224_0)) (ix2 x d) = Cert.Prep.rr (m ((c : Thread nD τ).loc main_arg0)) (ix2 i d) := by
  pointwise [k0_pay9, k0_pay8, Cert.Prep.rr]
  blk_point [iblk, V, idx t]

end Cert.PrepIdeal.Final

end
-- ==== Proof.PrepCodes.lean ====
module

public import proofs.«01_k».proof.Proof.Gen.PrepIdeal.Value
public import proofs.«01_k».proof.Proof.PrepRows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
namespace Cert.PrepIdeal.Final

open Cert.PrepIdeal Cert.PrepIdeal.Gen

variable (m : (ℓ : Loc nD τ sig) → Buf (Elt Ideal) ℓ)

theorem scalH (c : Dev nD) (t : Fin cfg0.N) : (View.ld (iblk m c 0 t) (Rect.unit ![0, 0] ![1, 1] inb_S1x1_S1x1_0_0) (Shape.Idx.first (show 0 < S1x1.numel by decide))) = (m ((c : Thread nD τ).loc main_arg3)) ix0 := by
  pointwise
  blk_point [iblk, V, idx t]

theorem scalY (c : Dev nD) (t : Fin cfg0.N) : (View.ld (iblk m c 1 t) (Rect.unit ![0, 0] ![1, 1] inb_S1x1_S1x1_0_0) (Shape.Idx.first (show 0 < S1x1.numel by decide))) = (m ((c : Thread nD τ).loc main_arg4)) ix0 := by
  pointwise
  blk_point [iblk, V, idx t]

theorem codesH (s : Elt Ideal .f32) (v5 : Vec Ideal S1x4096 .f32) (v7 : Vec Ideal S32x4096 .bf16) (x : S32x4096.Idx) :
    k0_pay14 (F := Ideal) (k0_pay12 s v5 v7) (Scalar.ofBits .f32 0x43E00000#32) k0_pay13 x
      = min (Ideal.ofBits .f32 0x43E00000#32) (max (Ideal.ofBits .f32 0xC3E00000#32)
          (Ideal.div (k0_pay10 (F := Ideal) v5 v7 (ix2 (x 0) (x 1))) s)) := by
  pointwise [k0_pay14, k0_pay13, k0_pay12]

theorem codesY (s : Elt Ideal .f32) (v7 : Vec Ideal S32x4096 .bf16) (x : S32x4096.Idx) :
    k0_pay17 (F := Ideal) s v7 x
      = min (Ideal.ofBits .f32 0x47600000#32) (max (Ideal.ofBits .f32 0xC7600000#32)
          (Ideal.div (k0_pay15 (F := Ideal) v7 (ix2 (x 0) (x 1))) s)) := by
  pointwise [k0_pay17, k0_pay15]

theorem pieceH0 (c : Dev nD) (t : Fin cfg0.N) (x : S32x4096.Idx) (j : S1536x4096.Idx) (h0 : (j 0).val = 256 * t.val + 0 + (x 0).val)
    (h1 : (j 1).val = (x 1).val) : k0_pay14 (F := Ideal) (k0_pay12 (View.ld (iblk m c 0 t) (Rect.unit ![0, 0] ![1, 1] inb_S1x1_S1x1_0_0) (Shape.Idx.first (show 0 < S1x1.numel by decide))) (iblk m c 2 t) (View.ld (iblk m c 3 t) (Rect.unit ![0, 0] ![32, 4096] inb_S256x4096_S32x4096_0_0))) (Scalar.ofBits .f32 0x43E00000#32) k0_pay13 x = Cert.Prep.hc (m ((c : Thread nD τ).loc main_arg0)) (m ((c : Thread nD τ).loc main_arg2)) (m ((c : Thread nD τ).loc main_arg3)) j := by
  have e : x 1 = j 1 := Fin.ext h1.symm
  rw [codesH, scalH, slabH0 m c t (x 0) (x 1) (j 0) h0, e]
  rfl

theorem pieceH1 (c : Dev nD) (t : Fin cfg0.N) (x : S32x4096.Idx) (j : S1536x4096.Idx) (h0 : (j 0).val = 256 * t.val + 32 + (x 0).val)
    (h1 : (j 1).val = (x 1).val) : k0_pay14 (F := Ideal) (k0_pay12 (View.ld (iblk m c 0 t) (Rect.unit ![0, 0] ![1, 1] inb_S1x1_S1x1_0_0) (Shape.Idx.first (show 0 < S1x1.numel by decide))) (iblk m c 2 t) (View.ld (iblk m c 3 t) (Rect.unit ![32, 0] ![32, 4096] inb_S256x4096_S32x4096_32_0))) (Scalar.ofBits .f32 0x43E00000#32) k0_pay13 x = Cert.Prep.hc (m ((c : Thread nD τ).loc main_arg0)) (m ((c : Thread nD τ).loc main_arg2)) (m ((c : Thread nD τ).loc main_arg3)) j := by
  have e : x 1 = j 1 := Fin.ext h1.symm
  rw [codesH, scalH, slabH1 m c t (x 0) (x 1) (j 0) h0, e]
  rfl

theorem pieceH2 (c : Dev nD) (t : Fin cfg0.N) (x : S32x4096.Idx) (j : S1536x4096.Idx) (h0 : (j 0).val = 256 * t.val + 64 + (x 0).val)
    (h1 : (j 1).val = (x 1).val) : k0_pay14 (F := Ideal) (k0_pay12 (View.ld (iblk m c 0 t) (Rect.unit ![0, 0] ![1, 1] inb_S1x1_S1x1_0_0) (Shape.Idx.first (show 0 < S1x1.numel by decide))) (iblk m c 2 t) (View.ld (iblk m c 3 t) (Rect.unit ![64, 0] ![32, 4096] inb_S256x4096_S32x4096_64_0))) (Scalar.ofBits .f32 0x43E00000#32) k0_pay13 x = Cert.Prep.hc (m ((c : Thread nD τ).loc main_arg0)) (m ((c : Thread nD τ).loc main_arg2)) (m ((c : Thread nD τ).loc main_arg3)) j := by
  have e : x 1 = j 1 := Fin.ext h1.symm
  rw [codesH, scalH, slabH2 m c t (x 0) (x 1) (j 0) h0, e]
  rfl

theorem pieceH3 (c : Dev nD) (t : Fin cfg0.N) (x : S32x4096.Idx) (j : S1536x4096.Idx) (h0 : (j 0).val = 256 * t.val + 96 + (x 0).val)
    (h1 : (j 1).val = (x 1).val) : k0_pay14 (F := Ideal) (k0_pay12 (View.ld (iblk m c 0 t) (Rect.unit ![0, 0] ![1, 1] inb_S1x1_S1x1_0_0) (Shape.Idx.first (show 0 < S1x1.numel by decide))) (iblk m c 2 t) (View.ld (iblk m c 3 t) (Rect.unit ![96, 0] ![32, 4096] inb_S256x4096_S32x4096_96_0))) (Scalar.ofBits .f32 0x43E00000#32) k0_pay13 x = Cert.Prep.hc (m ((c : Thread nD τ).loc main_arg0)) (m ((c : Thread nD τ).loc main_arg2)) (m ((c : Thread nD τ).loc main_arg3)) j := by
  have e : x 1 = j 1 := Fin.ext h1.symm
  rw [codesH, scalH, slabH3 m c t (x 0) (x 1) (j 0) h0, e]
  rfl

theorem pieceH4 (c : Dev nD) (t : Fin cfg0.N) (x : S32x4096.Idx) (j : S1536x4096.Idx) (h0 : (j 0).val = 256 * t.val + 128 + (x 0).val)
    (h1 : (j 1).val = (x 1).val) : k0_pay14 (F := Ideal) (k0_pay12 (View.ld (iblk m c 0 t) (Rect.unit ![0, 0] ![1, 1] inb_S1x1_S1x1_0_0) (Shape.Idx.first (show 0 < S1x1.numel by decide))) (iblk m c 2 t) (View.ld (iblk m c 3 t) (Rect.unit ![128, 0] ![32, 4096] inb_S256x4096_S32x4096_128_0))) (Scalar.ofBits .f32 0x43E00000#32) k0_pay13 x = Cert.Prep.hc (m ((c : Thread nD τ).loc main_arg0)) (m ((c : Thread nD τ).loc main_arg2)) (m ((c : Thread nD τ).loc main_arg3)) j := by
  have e : x 1 = j 1 := Fin.ext h1.symm
  rw [codesH, scalH, slabH4 m c t (x 0) (x 1) (j 0) h0, e]
  rfl

theorem pieceH5 (c : Dev nD) (t : Fin cfg0.N) (x : S32x4096.Idx) (j : S1536x4096.Idx) (h0 : (j 0).val = 256 * t.val + 160 + (x 0).val)
    (h1 : (j 1).val = (x 1).val) : k0_pay14 (F := Ideal) (k0_pay12 (View.ld (iblk m c 0 t) (Rect.unit ![0, 0] ![1, 1] inb_S1x1_S1x1_0_0) (Shape.Idx.first (show 0 < S1x1.numel by decide))) (iblk m c 2 t) (View.ld (iblk m c 3 t) (Rect.unit ![160, 0] ![32, 4096] inb_S256x4096_S32x4096_160_0))) (Scalar.ofBits .f32 0x43E00000#32) k0_pay13 x = Cert.Prep.hc (m ((c : Thread nD τ).loc main_arg0)) (m ((c : Thread nD τ).loc main_arg2)) (m ((c : Thread nD τ).loc main_arg3)) j := by
  have e : x 1 = j 1 := Fin.ext h1.symm
  rw [codesH, scalH, slabH5 m c t (x 0) (x 1) (j 0) h0, e]
  rfl

theorem pieceH6 (c : Dev nD) (t : Fin cfg0.N) (x : S32x4096.Idx) (j : S1536x4096.Idx) (h0 : (j 0).val = 256 * t.val + 192 + (x 0).val)
    (h1 : (j 1).val = (x 1).val) : k0_pay14 (F := Ideal) (k0_pay12 (View.ld (iblk m c 0 t) (Rect.unit ![0, 0] ![1, 1] inb_S1x1_S1x1_0_0) (Shape.Idx.first (show 0 < S1x1.numel by decide))) (iblk m c 2 t) (View.ld (iblk m c 3 t) (Rect.unit ![192, 0] ![32, 4096] inb_S256x4096_S32x4096_192_0))) (Scalar.ofBits .f32 0x43E00000#32) k0_pay13 x = Cert.Prep.hc (m ((c : Thread nD τ).loc main_arg0)) (m ((c : Thread nD τ).loc main_arg2)) (m ((c : Thread nD τ).loc main_arg3)) j := by
  have e : x 1 = j 1 := Fin.ext h1.symm
  rw [codesH, scalH, slabH6 m c t (x 0) (x 1) (j 0) h0, e]
  rfl

theorem pieceH7 (c : Dev nD) (t : Fin cfg0.N) (x : S32x4096.Idx) (j : S1536x4096.Idx) (h0 : (j 0).val = 256 * t.val + 224 + (x 0).val)
    (h1 : (j 1).val = (x 1).val) : k0_pay14 (F := Ideal) (k0_pay12 (View.ld (iblk m c 0 t) (Rect.unit ![0, 0] ![1, 1] inb_S1x1_S1x1_0_0) (Shape.Idx.first (show 0 < S1x1.numel by decide))) (iblk m c 2 t) (View.ld (iblk m c 3 t) (Rect.unit ![224, 0] ![32, 4096] inb_S256x4096_S32x4096_224_0))) (Scalar.ofBits .f32 0x43E00000#32) k0_pay13 x = Cert.Prep.hc (m ((c : Thread nD τ).loc main_arg0)) (m ((c : Thread nD τ).loc main_arg2)) (m ((c : Thread nD τ).loc main_arg3)) j := by
  have e : x 1 = j 1 := Fin.ext h1.symm
  rw [codesH, scalH, slabH7 m c t (x 0) (x 1) (j 0) h0, e]
  rfl

/-- What result 0 holds after the run. -/
theorem final5 (c : Dev nD) : (dats m 0 c).arrAt 5 (cfgs 0).N
    = Cert.Prep.hc (m ((c : Thread nD τ).loc main_arg0)) (m ((c : Thread nD τ).loc main_arg2)) (m ((c : Thread nD τ).loc main_arg3)) := by
  refine (dats m 0 c).arrAt_eq_of_covers 5 _ (by decide +kernel) fun t hf y => ?_
  have ht : t.val < 6 := lt_of_lt_of_eq t.isLt N_0
  have e0 : ((((cfg0.win 5).blk t).view.emb y) 0).val = 256 * t.val + (y 0).val := by
    blk_simp [idx t] <;> try omega
  have e1 : ((((cfg0.win 5).blk t).view.emb y) 1).val = (y 1).val := by
    blk_simp [idx t] <;> try omega
  have key : ∀ j : S1536x4096.Idx, (j 0).val = 256 * t.val + (y 0).val → (j 1).val = (y 1).val →
      (outsAt0 m c t.val t.isLt).1 y = Cert.Prep.hc (m ((c : Thread nD τ).loc main_arg0)) (m ((c : Thread nD τ).loc main_arg2)) (m ((c : Thread nD τ).loc main_arg3)) j := by
    intro j j0 j1
    by_cases h0 : t.val % 6 = 0
    · rw [outsAt0_A m c t h0 (by omega)]
      frame_out
      canon_tiles y hy
      · exact pieceH7 m c t _ _ (by omega) (by omega)
      · exact pieceH6 m c t _ _ (by omega) (by omega)
      · exact pieceH5 m c t _ _ (by omega) (by omega)
      · exact pieceH4 m c t _ _ (by omega) (by omega)
      · exact pieceH3 m c t _ _ (by omega) (by omega)
      · exact pieceH2 m c t _ _ (by omega) (by omega)
      · exact pieceH1 m c t _ _ (by omega) (by omega)
      · exact pieceH0 m c t _ _ (by omega) (by omega)
    · by_cases h1 : t.val % 6 = 5
      · rw [outsAt0_C m c t h0 h1]
        frame_out
        canon_tiles y hy
        · exact pieceH7 m c t _ _ (by omega) (by omega)
        · exact pieceH6 m c t _ _ (by omega) (by omega)
        · exact pieceH5 m c t _ _ (by omega) (by omega)
        · exact pieceH4 m c t _ _ (by omega) (by omega)
        · exact pieceH3 m c t _ _ (by omega) (by omega)
        · exact pieceH2 m c t _ _ (by omega) (by omega)
        · exact pieceH1 m c t _ _ (by omega) (by omega)
        · exact pieceH0 m c t _ _ (by omega) (by omega)
      · rw [outsAt0_B m c t h0 h1]
        frame_out
        canon_tiles y hy
        · exact pieceH7 m c t _ _ (by omega) (by omega)
        · exact pieceH6 m c t _ _ (by omega) (by omega)
        · exact pieceH5 m c t _ _ (by omega) (by omega)
        · exact pieceH4 m c t _ _ (by omega) (by omega)
        · exact pieceH3 m c t _ _ (by omega) (by omega)
        · exact pieceH2 m c t _ _ (by omega) (by omega)
        · exact pieceH1 m c t _ _ (by omega) (by omega)
        · exact pieceH0 m c t _ _ (by omega) (by omega)
  rw [after0_5]
  exact key _ e0 e1

theorem pieceY0 (c : Dev nD) (t : Fin cfg0.N) (x : S32x4096.Idx) (j : S1536x4096.Idx) (h0 : (j 0).val = 256 * t.val + 0 + (x 0).val)
    (h1 : (j 1).val = (x 1).val) : k0_pay17 (F := Ideal) (View.ld (iblk m c 1 t) (Rect.unit ![0, 0] ![1, 1] inb_S1x1_S1x1_0_0) (Shape.Idx.first (show 0 < S1x1.numel by decide))) (View.ld (iblk m c 4 t) (Rect.unit ![0, 0] ![32, 4096] inb_S256x4096_S32x4096_0_0)) x = Cert.Prep.dyc (m ((c : Thread nD τ).loc main_arg1)) (m ((c : Thread nD τ).loc main_arg4)) j := by
  have e : x 1 = j 1 := Fin.ext h1.symm
  rw [codesY, scalY, slabY0 m c t (x 0) (x 1) (j 0) h0, e]
  rfl

theorem pieceY1 (c : Dev nD) (t : Fin cfg0.N) (x : S32x4096.Idx) (j : S1536x4096.Idx) (h0 : (j 0).val = 256 * t.val + 32 + (x 0).val)
    (h1 : (j 1).val = (x 1).val) : k0_pay17 (F := Ideal) (View.ld (iblk m c 1 t) (Rect.unit ![0, 0] ![1, 1] inb_S1x1_S1x1_0_0) (Shape.Idx.first (show 0 < S1x1.numel by decide))) (View.ld (iblk m c 4 t) (Rect.unit ![32, 0] ![32, 4096] inb_S256x4096_S32x4096_32_0)) x = Cert.Prep.dyc (m ((c : Thread nD τ).loc main_arg1)) (m ((c : Thread nD τ).loc main_arg4)) j := by
  have e : x 1 = j 1 := Fin.ext h1.symm
  rw [codesY, scalY, slabY1 m c t (x 0) (x 1) (j 0) h0, e]
  rfl

theorem pieceY2 (c : Dev nD) (t : Fin cfg0.N) (x : S32x4096.Idx) (j : S1536x4096.Idx) (h0 : (j 0).val = 256 * t.val + 64 + (x 0).val)
    (h1 : (j 1).val = (x 1).val) : k0_pay17 (F := Ideal) (View.ld (iblk m c 1 t) (Rect.unit ![0, 0] ![1, 1] inb_S1x1_S1x1_0_0) (Shape.Idx.first (show 0 < S1x1.numel by decide))) (View.ld (iblk m c 4 t) (Rect.unit ![64, 0] ![32, 4096] inb_S256x4096_S32x4096_64_0)) x = Cert.Prep.dyc (m ((c : Thread nD τ).loc main_arg1)) (m ((c : Thread nD τ).loc main_arg4)) j := by
  have e : x 1 = j 1 := Fin.ext h1.symm
  rw [codesY, scalY, slabY2 m c t (x 0) (x 1) (j 0) h0, e]
  rfl

theorem pieceY3 (c : Dev nD) (t : Fin cfg0.N) (x : S32x4096.Idx) (j : S1536x4096.Idx) (h0 : (j 0).val = 256 * t.val + 96 + (x 0).val)
    (h1 : (j 1).val = (x 1).val) : k0_pay17 (F := Ideal) (View.ld (iblk m c 1 t) (Rect.unit ![0, 0] ![1, 1] inb_S1x1_S1x1_0_0) (Shape.Idx.first (show 0 < S1x1.numel by decide))) (View.ld (iblk m c 4 t) (Rect.unit ![96, 0] ![32, 4096] inb_S256x4096_S32x4096_96_0)) x = Cert.Prep.dyc (m ((c : Thread nD τ).loc main_arg1)) (m ((c : Thread nD τ).loc main_arg4)) j := by
  have e : x 1 = j 1 := Fin.ext h1.symm
  rw [codesY, scalY, slabY3 m c t (x 0) (x 1) (j 0) h0, e]
  rfl

theorem pieceY4 (c : Dev nD) (t : Fin cfg0.N) (x : S32x4096.Idx) (j : S1536x4096.Idx) (h0 : (j 0).val = 256 * t.val + 128 + (x 0).val)
    (h1 : (j 1).val = (x 1).val) : k0_pay17 (F := Ideal) (View.ld (iblk m c 1 t) (Rect.unit ![0, 0] ![1, 1] inb_S1x1_S1x1_0_0) (Shape.Idx.first (show 0 < S1x1.numel by decide))) (View.ld (iblk m c 4 t) (Rect.unit ![128, 0] ![32, 4096] inb_S256x4096_S32x4096_128_0)) x = Cert.Prep.dyc (m ((c : Thread nD τ).loc main_arg1)) (m ((c : Thread nD τ).loc main_arg4)) j := by
  have e : x 1 = j 1 := Fin.ext h1.symm
  rw [codesY, scalY, slabY4 m c t (x 0) (x 1) (j 0) h0, e]
  rfl

theorem pieceY5 (c : Dev nD) (t : Fin cfg0.N) (x : S32x4096.Idx) (j : S1536x4096.Idx) (h0 : (j 0).val = 256 * t.val + 160 + (x 0).val)
    (h1 : (j 1).val = (x 1).val) : k0_pay17 (F := Ideal) (View.ld (iblk m c 1 t) (Rect.unit ![0, 0] ![1, 1] inb_S1x1_S1x1_0_0) (Shape.Idx.first (show 0 < S1x1.numel by decide))) (View.ld (iblk m c 4 t) (Rect.unit ![160, 0] ![32, 4096] inb_S256x4096_S32x4096_160_0)) x = Cert.Prep.dyc (m ((c : Thread nD τ).loc main_arg1)) (m ((c : Thread nD τ).loc main_arg4)) j := by
  have e : x 1 = j 1 := Fin.ext h1.symm
  rw [codesY, scalY, slabY5 m c t (x 0) (x 1) (j 0) h0, e]
  rfl

theorem pieceY6 (c : Dev nD) (t : Fin cfg0.N) (x : S32x4096.Idx) (j : S1536x4096.Idx) (h0 : (j 0).val = 256 * t.val + 192 + (x 0).val)
    (h1 : (j 1).val = (x 1).val) : k0_pay17 (F := Ideal) (View.ld (iblk m c 1 t) (Rect.unit ![0, 0] ![1, 1] inb_S1x1_S1x1_0_0) (Shape.Idx.first (show 0 < S1x1.numel by decide))) (View.ld (iblk m c 4 t) (Rect.unit ![192, 0] ![32, 4096] inb_S256x4096_S32x4096_192_0)) x = Cert.Prep.dyc (m ((c : Thread nD τ).loc main_arg1)) (m ((c : Thread nD τ).loc main_arg4)) j := by
  have e : x 1 = j 1 := Fin.ext h1.symm
  rw [codesY, scalY, slabY6 m c t (x 0) (x 1) (j 0) h0, e]
  rfl

theorem pieceY7 (c : Dev nD) (t : Fin cfg0.N) (x : S32x4096.Idx) (j : S1536x4096.Idx) (h0 : (j 0).val = 256 * t.val + 224 + (x 0).val)
    (h1 : (j 1).val = (x 1).val) : k0_pay17 (F := Ideal) (View.ld (iblk m c 1 t) (Rect.unit ![0, 0] ![1, 1] inb_S1x1_S1x1_0_0) (Shape.Idx.first (show 0 < S1x1.numel by decide))) (View.ld (iblk m c 4 t) (Rect.unit ![224, 0] ![32, 4096] inb_S256x4096_S32x4096_224_0)) x = Cert.Prep.dyc (m ((c : Thread nD τ).loc main_arg1)) (m ((c : Thread nD τ).loc main_arg4)) j := by
  have e : x 1 = j 1 := Fin.ext h1.symm
  rw [codesY, scalY, slabY7 m c t (x 0) (x 1) (j 0) h0, e]
  rfl

/-- What result 1 holds after the run. -/
theorem final6 (c : Dev nD) : (dats m 0 c).arrAt 6 (cfgs 0).N
    = Cert.Prep.dyc (m ((c : Thread nD τ).loc main_arg1)) (m ((c : Thread nD τ).loc main_arg4)) := by
  refine (dats m 0 c).arrAt_eq_of_covers 6 _ (by decide +kernel) fun t hf y => ?_
  have ht : t.val < 6 := lt_of_lt_of_eq t.isLt N_0
  have e0 : ((((cfg0.win 6).blk t).view.emb y) 0).val = 256 * t.val + (y 0).val := by
    blk_simp [idx t] <;> try omega
  have e1 : ((((cfg0.win 6).blk t).view.emb y) 1).val = (y 1).val := by
    blk_simp [idx t] <;> try omega
  have key : ∀ j : S1536x4096.Idx, (j 0).val = 256 * t.val + (y 0).val → (j 1).val = (y 1).val →
      (outsAt0 m c t.val t.isLt).2.1 y = Cert.Prep.dyc (m ((c : Thread nD τ).loc main_arg1)) (m ((c : Thread nD τ).loc main_arg4)) j := by
    intro j j0 j1
    by_cases h0 : t.val % 6 = 0
    · rw [outsAt0_A m c t h0 (by omega)]
      frame_out
      canon_tiles y hy
      · exact pieceY7 m c t _ _ (by omega) (by omega)
      · exact pieceY6 m c t _ _ (by omega) (by omega)
      · exact pieceY5 m c t _ _ (by omega) (by omega)
      · exact pieceY4 m c t _ _ (by omega) (by omega)
      · exact pieceY3 m c t _ _ (by omega) (by omega)
      · exact pieceY2 m c t _ _ (by omega) (by omega)
      · exact pieceY1 m c t _ _ (by omega) (by omega)
      · exact pieceY0 m c t _ _ (by omega) (by omega)
    · by_cases h1 : t.val % 6 = 5
      · rw [outsAt0_C m c t h0 h1]
        frame_out
        canon_tiles y hy
        · exact pieceY7 m c t _ _ (by omega) (by omega)
        · exact pieceY6 m c t _ _ (by omega) (by omega)
        · exact pieceY5 m c t _ _ (by omega) (by omega)
        · exact pieceY4 m c t _ _ (by omega) (by omega)
        · exact pieceY3 m c t _ _ (by omega) (by omega)
        · exact pieceY2 m c t _ _ (by omega) (by omega)
        · exact pieceY1 m c t _ _ (by omega) (by omega)
        · exact pieceY0 m c t _ _ (by omega) (by omega)
      · rw [outsAt0_B m c t h0 h1]
        frame_out
        canon_tiles y hy
        · exact pieceY7 m c t _ _ (by omega) (by omega)
        · exact pieceY6 m c t _ _ (by omega) (by omega)
        · exact pieceY5 m c t _ _ (by omega) (by omega)
        · exact pieceY4 m c t _ _ (by omega) (by omega)
        · exact pieceY3 m c t _ _ (by omega) (by omega)
        · exact pieceY2 m c t _ _ (by omega) (by omega)
        · exact pieceY1 m c t _ _ (by omega) (by omega)
        · exact pieceY0 m c t _ _ (by omega) (by omega)
  rw [after0_6]
  exact key _ e0 e1

theorem pieceR0 (c : Dev nD) (t : Fin cfg0.N) (x : S32x1.Idx) (j : S1536x1.Idx) (h0 : (j 0).val = 256 * t.val + 0 + (x 0).val)
    (h1 : (j 1).val = (x 1).val) : k0_pay9 (F := Ideal) (View.ld (iblk m c 3 t) (Rect.unit ![0, 0] ![32, 4096] inb_S256x4096_S32x4096_0_0)) x = Cert.Prep.rr (m ((c : Thread nD τ).loc main_arg0)) j := by
  have e : x 1 = j 1 := Fin.ext h1.symm
  have a := slabR0 m c t (x 0) (x 1) (j 0) h0
  refine Eq.trans (congrArg _ ?_) a
  funext k
  match k with
  | 0 => rfl
  | 1 => rfl

theorem pieceR1 (c : Dev nD) (t : Fin cfg0.N) (x : S32x1.Idx) (j : S1536x1.Idx) (h0 : (j 0).val = 256 * t.val + 32 + (x 0).val)
    (h1 : (j 1).val = (x 1).val) : k0_pay9 (F := Ideal) (View.ld (iblk m c 3 t) (Rect.unit ![32, 0] ![32, 4096] inb_S256x4096_S32x4096_32_0)) x = Cert.Prep.rr (m ((c : Thread nD τ).loc main_arg0)) j := by
  have e : x 1 = j 1 := Fin.ext h1.symm
  have a := slabR1 m c t (x 0) (x 1) (j 0) h0
  refine Eq.trans (congrArg _ ?_) a
  funext k
  match k with
  | 0 => rfl
  | 1 => rfl

theorem pieceR2 (c : Dev nD) (t : Fin cfg0.N) (x : S32x1.Idx) (j : S1536x1.Idx) (h0 : (j 0).val = 256 * t.val + 64 + (x 0).val)
    (h1 : (j 1).val = (x 1).val) : k0_pay9 (F := Ideal) (View.ld (iblk m c 3 t) (Rect.unit ![64, 0] ![32, 4096] inb_S256x4096_S32x4096_64_0)) x = Cert.Prep.rr (m ((c : Thread nD τ).loc main_arg0)) j := by
  have e : x 1 = j 1 := Fin.ext h1.symm
  have a := slabR2 m c t (x 0) (x 1) (j 0) h0
  refine Eq.trans (congrArg _ ?_) a
  funext k
  match k with
  | 0 => rfl
  | 1 => rfl

theorem pieceR3 (c : Dev nD) (t : Fin cfg0.N) (x : S32x1.Idx) (j : S1536x1.Idx) (h0 : (j 0).val = 256 * t.val + 96 + (x 0).val)
    (h1 : (j 1).val = (x 1).val) : k0_pay9 (F := Ideal) (View.ld (iblk m c 3 t) (Rect.unit ![96, 0] ![32, 4096] inb_S256x4096_S32x4096_96_0)) x = Cert.Prep.rr (m ((c : Thread nD τ).loc main_arg0)) j := by
  have e : x 1 = j 1 := Fin.ext h1.symm
  have a := slabR3 m c t (x 0) (x 1) (j 0) h0
  refine Eq.trans (congrArg _ ?_) a
  funext k
  match k with
  | 0 => rfl
  | 1 => rfl

theorem pieceR4 (c : Dev nD) (t : Fin cfg0.N) (x : S32x1.Idx) (j : S1536x1.Idx) (h0 : (j 0).val = 256 * t.val + 128 + (x 0).val)
    (h1 : (j 1).val = (x 1).val) : k0_pay9 (F := Ideal) (View.ld (iblk m c 3 t) (Rect.unit ![128, 0] ![32, 4096] inb_S256x4096_S32x4096_128_0)) x = Cert.Prep.rr (m ((c : Thread nD τ).loc main_arg0)) j := by
  have e : x 1 = j 1 := Fin.ext h1.symm
  have a := slabR4 m c t (x 0) (x 1) (j 0) h0
  refine Eq.trans (congrArg _ ?_) a
  funext k
  match k with
  | 0 => rfl
  | 1 => rfl

theorem pieceR5 (c : Dev nD) (t : Fin cfg0.N) (x : S32x1.Idx) (j : S1536x1.Idx) (h0 : (j 0).val = 256 * t.val + 160 + (x 0).val)
    (h1 : (j 1).val = (x 1).val) : k0_pay9 (F := Ideal) (View.ld (iblk m c 3 t) (Rect.unit ![160, 0] ![32, 4096] inb_S256x4096_S32x4096_160_0)) x = Cert.Prep.rr (m ((c : Thread nD τ).loc main_arg0)) j := by
  have e : x 1 = j 1 := Fin.ext h1.symm
  have a := slabR5 m c t (x 0) (x 1) (j 0) h0
  refine Eq.trans (congrArg _ ?_) a
  funext k
  match k with
  | 0 => rfl
  | 1 => rfl

theorem pieceR6 (c : Dev nD) (t : Fin cfg0.N) (x : S32x1.Idx) (j : S1536x1.Idx) (h0 : (j 0).val = 256 * t.val + 192 + (x 0).val)
    (h1 : (j 1).val = (x 1).val) : k0_pay9 (F := Ideal) (View.ld (iblk m c 3 t) (Rect.unit ![192, 0] ![32, 4096] inb_S256x4096_S32x4096_192_0)) x = Cert.Prep.rr (m ((c : Thread nD τ).loc main_arg0)) j := by
  have e : x 1 = j 1 := Fin.ext h1.symm
  have a := slabR6 m c t (x 0) (x 1) (j 0) h0
  refine Eq.trans (congrArg _ ?_) a
  funext k
  match k with
  | 0 => rfl
  | 1 => rfl

theorem pieceR7 (c : Dev nD) (t : Fin cfg0.N) (x : S32x1.Idx) (j : S1536x1.Idx) (h0 : (j 0).val = 256 * t.val + 224 + (x 0).val)
    (h1 : (j 1).val = (x 1).val) : k0_pay9 (F := Ideal) (View.ld (iblk m c 3 t) (Rect.unit ![224, 0] ![32, 4096] inb_S256x4096_S32x4096_224_0)) x = Cert.Prep.rr (m ((c : Thread nD τ).loc main_arg0)) j := by
  have e : x 1 = j 1 := Fin.ext h1.symm
  have a := slabR7 m c t (x 0) (x 1) (j 0) h0
  refine Eq.trans (congrArg _ ?_) a
  funext k
  match k with
  | 0 => rfl
  | 1 => rfl

/-- What result 2 holds after the run. -/
theorem final7 (c : Dev nD) : (dats m 0 c).arrAt 7 (cfgs 0).N
    = Cert.Prep.rr (m ((c : Thread nD τ).loc main_arg0)) := by
  refine (dats m 0 c).arrAt_eq_of_covers 7 _ (by decide +kernel) fun t hf y => ?_
  have ht : t.val < 6 := lt_of_lt_of_eq t.isLt N_0
  have e0 : ((((cfg0.win 7).blk t).view.emb y) 0).val = 256 * t.val + (y 0).val := by
    blk_simp [idx t] <;> try omega
  have e1 : ((((cfg0.win 7).blk t).view.emb y) 1).val = (y 1).val := by
    blk_simp [idx t] <;> try omega
  have key : ∀ j : S1536x1.Idx, (j 0).val = 256 * t.val + (y 0).val → (j 1).val = (y 1).val →
      (outsAt0 m c t.val t.isLt).2.2.1 y = Cert.Prep.rr (m ((c : Thread nD τ).loc main_arg0)) j := by
    intro j j0 j1
    by_cases h0 : t.val % 6 = 0
    · rw [outsAt0_A m c t h0 (by omega)]
      frame_out
      canon_tiles y hy
      · exact pieceR7 m c t _ _ (by omega) (by omega)
      · exact pieceR6 m c t _ _ (by omega) (by omega)
      · exact pieceR5 m c t _ _ (by omega) (by omega)
      · exact pieceR4 m c t _ _ (by omega) (by omega)
      · exact pieceR3 m c t _ _ (by omega) (by omega)
      · exact pieceR2 m c t _ _ (by omega) (by omega)
      · exact pieceR1 m c t _ _ (by omega) (by omega)
      · exact pieceR0 m c t _ _ (by omega) (by omega)
    · by_cases h1 : t.val % 6 = 5
      · rw [outsAt0_C m c t h0 h1]
        frame_out
        canon_tiles y hy
        · exact pieceR7 m c t _ _ (by omega) (by omega)
        · exact pieceR6 m c t _ _ (by omega) (by omega)
        · exact pieceR5 m c t _ _ (by omega) (by omega)
        · exact pieceR4 m c t _ _ (by omega) (by omega)
        · exact pieceR3 m c t _ _ (by omega) (by omega)
        · exact pieceR2 m c t _ _ (by omega) (by omega)
        · exact pieceR1 m c t _ _ (by omega) (by omega)
        · exact pieceR0 m c t _ _ (by omega) (by omega)
      · rw [outsAt0_B m c t h0 h1]
        frame_out
        canon_tiles y hy
        · exact pieceR7 m c t _ _ (by omega) (by omega)
        · exact pieceR6 m c t _ _ (by omega) (by omega)
        · exact pieceR5 m c t _ _ (by omega) (by omega)
        · exact pieceR4 m c t _ _ (by omega) (by omega)
        · exact pieceR3 m c t _ _ (by omega) (by omega)
        · exact pieceR2 m c t _ _ (by omega) (by omega)
        · exact pieceR1 m c t _ _ (by omega) (by omega)
        · exact pieceR0 m c t _ _ (by omega) (by omega)
  rw [after0_7]
  exact key _ e0 e1

end Cert.PrepIdeal.Final

end
-- ==== Proof.PrepMax.lean ====
module

public import proofs.«01_k».proof.Proof.Gen.PrepIdeal.Value
public import proofs.«01_k».proof.Proof.PrepRows
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
namespace Cert.PrepIdeal.Final

open Cert.PrepIdeal Cert.PrepIdeal.Gen

variable (m : (ℓ : Loc nD τ sig) → Buf (Elt Ideal) ℓ)

/-- A scratch carried from the point before, read back. -/
theorem read_whole {κ : Kind} {Val : EltTy → Type} (b : Ref sig κ) (h : (Memref.whole b).IsWhole)
    (X : b.ty.shape.Idx → Val b.ty.elt) : View.read Val (View.whole b) (h.unread X) = X := h.read_unread X

theorem pay3_le (a : FVec Ideal S1x4096 .f32) (z : EReal) : (k0_pay3 (F := Ideal) a : EReal) ≤ z ↔
    (Ideal.ofBits .f32 0xFF800000#32 : EReal) ≤ z ∧ ∀ d : Fin 4096, (a (ix2 0 d) : EReal) ≤ z := by
  pointwise [k0_pay3]
  rw [Finset.fold_max_le]
  simp

theorem pay4_le (a : FVec Ideal S1x4096 .f32) (z : EReal) : (k0_pay4 (F := Ideal) a : EReal) ≤ z ↔
    (Ideal.ofBits .f32 0xFF800000#32 : EReal) ≤ z ∧ ∀ d : Fin 4096, (a (ix2 0 d) : EReal) ≤ z := pay3_le a z

theorem pay11_le (v5 : Vec Ideal S1x4096 .f32) (v7 : Vec Ideal S32x4096 .bf16) (a : Vec Ideal S1x4096 .f32) (j : S1x4096.Idx) (z : EReal) :
    (k0_pay11 (F := Ideal) v5 v7 a j : EReal) ≤ z ↔ (a j : EReal) ≤ z ∧ (Ideal.ofBits .f32 0xFF800000#32 : EReal) ≤ z
      ∧ ∀ x : Fin 32, (FloatOps.absf (k0_pay10 (F := Ideal) v5 v7 (ix2 x (j 1))) : EReal) ≤ z := by
  pointwise [k0_pay11]
  rw [max_le_iff, Finset.fold_max_le]
  simp

theorem pay16_le (v7 : Vec Ideal S32x4096 .bf16) (a : Vec Ideal S1x4096 .f32) (j : S1x4096.Idx) (z : EReal) :
    (k0_pay16 (F := Ideal) v7 a j : EReal) ≤ z ↔ (a j : EReal) ≤ z ∧ (Ideal.ofBits .f32 0xFF800000#32 : EReal) ≤ z
      ∧ ∀ x : Fin 32, (FloatOps.absf (k0_pay15 (F := Ideal) v7 (ix2 x (j 1))) : EReal) ≤ z := by
  pointwise [k0_pay16]
  rw [max_le_iff, Finset.fold_max_le]
  simp

/-- One point's running maximum. -/
abbrev stepH (c : Dev nD) (t : Fin cfg0.N) (a : Vec Ideal S1x4096 .f32) : Vec Ideal S1x4096 .f32 :=
  (k0_pay11 (F := Ideal) (iblk m c 2 t) (View.ld (iblk m c 3 t) (Rect.unit ![224, 0] ![32, 4096] inb_S256x4096_S32x4096_224_0)) (k0_pay11 (F := Ideal) (iblk m c 2 t) (View.ld (iblk m c 3 t) (Rect.unit ![192, 0] ![32, 4096] inb_S256x4096_S32x4096_192_0)) (k0_pay11 (F := Ideal) (iblk m c 2 t) (View.ld (iblk m c 3 t) (Rect.unit ![160, 0] ![32, 4096] inb_S256x4096_S32x4096_160_0)) (k0_pay11 (F := Ideal) (iblk m c 2 t) (View.ld (iblk m c 3 t) (Rect.unit ![128, 0] ![32, 4096] inb_S256x4096_S32x4096_128_0)) (k0_pay11 (F := Ideal) (iblk m c 2 t) (View.ld (iblk m c 3 t) (Rect.unit ![96, 0] ![32, 4096] inb_S256x4096_S32x4096_96_0)) (k0_pay11 (F := Ideal) (iblk m c 2 t) (View.ld (iblk m c 3 t) (Rect.unit ![64, 0] ![32, 4096] inb_S256x4096_S32x4096_64_0)) (k0_pay11 (F := Ideal) (iblk m c 2 t) (View.ld (iblk m c 3 t) (Rect.unit ![32, 0] ![32, 4096] inb_S256x4096_S32x4096_32_0)) (k0_pay11 (F := Ideal) (iblk m c 2 t) (View.ld (iblk m c 3 t) (Rect.unit ![0, 0] ![32, 4096] inb_S256x4096_S32x4096_0_0)) a))))))))

theorem stepH_le (c : Dev nD) (t : Fin cfg0.N) (a : Vec Ideal S1x4096 .f32) (j : S1x4096.Idx) (z : EReal) :
    (stepH m c t a j : EReal) ≤ z ↔ (a j : EReal) ≤ z ∧ (Ideal.ofBits .f32 0xFF800000#32 : EReal) ≤ z
      ∧ ∀ i : Fin 1536, i.val / 256 = t.val → (FloatOps.absf (F := Ideal) (φ := .f32) (Cert.Prep.h (m ((c : Thread nD τ).loc main_arg0)) (m ((c : Thread nD τ).loc main_arg2)) i (j 1)) : EReal) ≤ z := by
  have ht : t.val < 6 := lt_of_lt_of_eq t.isLt N_0
  unfold stepH
  rw [pay11_le, pay11_le, pay11_le, pay11_le, pay11_le, pay11_le, pay11_le, pay11_le]
  constructor
  · rintro ⟨⟨⟨⟨⟨⟨⟨⟨ha, hb, h0⟩, _, h1⟩, _, h2⟩, _, h3⟩, _, h4⟩, _, h5⟩, _, h6⟩, _, h7⟩
    refine ⟨ha, hb, fun i hi => ?_⟩
    have hx : i.val % 32 < 32 := Nat.mod_lt _ (by decide)
    have hq : i.val % 256 / 32 = 0 ∨ i.val % 256 / 32 = 1 ∨ i.val % 256 / 32 = 2 ∨ i.val % 256 / 32 = 3
        ∨ i.val % 256 / 32 = 4 ∨ i.val % 256 / 32 = 5 ∨ i.val % 256 / 32 = 6 ∨ i.val % 256 / 32 = 7 := by omega
    rcases hq with q | q | q | q | q | q | q | q
    · have := h0 ⟨i.val % 32, hx⟩
      rw [slabH0 m c t ⟨i.val % 32, hx⟩ (j 1) i (by show i.val = 256 * t.val + 0 + i.val % 32; omega)] at this
      exact this
    · have := h1 ⟨i.val % 32, hx⟩
      rw [slabH1 m c t ⟨i.val % 32, hx⟩ (j 1) i (by show i.val = 256 * t.val + 32 + i.val % 32; omega)] at this
      exact this
    · have := h2 ⟨i.val % 32, hx⟩
      rw [slabH2 m c t ⟨i.val % 32, hx⟩ (j 1) i (by show i.val = 256 * t.val + 64 + i.val % 32; omega)] at this
      exact this
    · have := h3 ⟨i.val % 32, hx⟩
      rw [slabH3 m c t ⟨i.val % 32, hx⟩ (j 1) i (by show i.val = 256 * t.val + 96 + i.val % 32; omega)] at this
      exact this
    · have := h4 ⟨i.val % 32, hx⟩
      rw [slabH4 m c t ⟨i.val % 32, hx⟩ (j 1) i (by show i.val = 256 * t.val + 128 + i.val % 32; omega)] at this
      exact this
    · have := h5 ⟨i.val % 32, hx⟩
      rw [slabH5 m c t ⟨i.val % 32, hx⟩ (j 1) i (by show i.val = 256 * t.val + 160 + i.val % 32; omega)] at this
      exact this
    · have := h6 ⟨i.val % 32, hx⟩
      rw [slabH6 m c t ⟨i.val % 32, hx⟩ (j 1) i (by show i.val = 256 * t.val + 192 + i.val % 32; omega)] at this
      exact this
    · have := h7 ⟨i.val % 32, hx⟩
      rw [slabH7 m c t ⟨i.val % 32, hx⟩ (j 1) i (by show i.val = 256 * t.val + 224 + i.val % 32; omega)] at this
      exact this
  · rintro ⟨ha, hb, h⟩
    refine ⟨⟨⟨⟨⟨⟨⟨⟨ha, hb, ?_⟩, hb, ?_⟩, hb, ?_⟩, hb, ?_⟩, hb, ?_⟩, hb, ?_⟩, hb, ?_⟩, hb, ?_⟩ <;> intro x
    · rw [slabH0 m c t x (j 1) ⟨256 * t.val + 0 + x.val, by have := x.isLt; omega⟩ rfl]
      exact h _ (by show (256 * t.val + 0 + x.val) / 256 = t.val; have := x.isLt; omega)
    · rw [slabH1 m c t x (j 1) ⟨256 * t.val + 32 + x.val, by have := x.isLt; omega⟩ rfl]
      exact h _ (by show (256 * t.val + 32 + x.val) / 256 = t.val; have := x.isLt; omega)
    · rw [slabH2 m c t x (j 1) ⟨256 * t.val + 64 + x.val, by have := x.isLt; omega⟩ rfl]
      exact h _ (by show (256 * t.val + 64 + x.val) / 256 = t.val; have := x.isLt; omega)
    · rw [slabH3 m c t x (j 1) ⟨256 * t.val + 96 + x.val, by have := x.isLt; omega⟩ rfl]
      exact h _ (by show (256 * t.val + 96 + x.val) / 256 = t.val; have := x.isLt; omega)
    · rw [slabH4 m c t x (j 1) ⟨256 * t.val + 128 + x.val, by have := x.isLt; omega⟩ rfl]
      exact h _ (by show (256 * t.val + 128 + x.val) / 256 = t.val; have := x.isLt; omega)
    · rw [slabH5 m c t x (j 1) ⟨256 * t.val + 160 + x.val, by have := x.isLt; omega⟩ rfl]
      exact h _ (by show (256 * t.val + 160 + x.val) / 256 = t.val; have := x.isLt; omega)
    · rw [slabH6 m c t x (j 1) ⟨256 * t.val + 192 + x.val, by have := x.isLt; omega⟩ rfl]
      exact h _ (by show (256 * t.val + 192 + x.val) / 256 = t.val; have := x.isLt; omega)
    · rw [slabH7 m c t x (j 1) ⟨256 * t.val + 224 + x.val, by have := x.isLt; omega⟩ rfl]
      exact h _ (by show (256 * t.val + 224 + x.val) / 256 = t.val; have := x.isLt; omega)

/-- One point's running maximum. -/
abbrev stepY (c : Dev nD) (t : Fin cfg0.N) (a : Vec Ideal S1x4096 .f32) : Vec Ideal S1x4096 .f32 :=
  (k0_pay16 (F := Ideal) (View.ld (iblk m c 4 t) (Rect.unit ![224, 0] ![32, 4096] inb_S256x4096_S32x4096_224_0)) (k0_pay16 (F := Ideal) (View.ld (iblk m c 4 t) (Rect.unit ![192, 0] ![32, 4096] inb_S256x4096_S32x4096_192_0)) (k0_pay16 (F := Ideal) (View.ld (iblk m c 4 t) (Rect.unit ![160, 0] ![32, 4096] inb_S256x4096_S32x4096_160_0)) (k0_pay16 (F := Ideal) (View.ld (iblk m c 4 t) (Rect.unit ![128, 0] ![32, 4096] inb_S256x4096_S32x4096_128_0)) (k0_pay16 (F := Ideal) (View.ld (iblk m c 4 t) (Rect.unit ![96, 0] ![32, 4096] inb_S256x4096_S32x4096_96_0)) (k0_pay16 (F := Ideal) (View.ld (iblk m c 4 t) (Rect.unit ![64, 0] ![32, 4096] inb_S256x4096_S32x4096_64_0)) (k0_pay16 (F := Ideal) (View.ld (iblk m c 4 t) (Rect.unit ![32, 0] ![32, 4096] inb_S256x4096_S32x4096_32_0)) (k0_pay16 (F := Ideal) (View.ld (iblk m c 4 t) (Rect.unit ![0, 0] ![32, 4096] inb_S256x4096_S32x4096_0_0)) a))))))))

theorem stepY_le (c : Dev nD) (t : Fin cfg0.N) (a : Vec Ideal S1x4096 .f32) (j : S1x4096.Idx) (z : EReal) :
    (stepY m c t a j : EReal) ≤ z ↔ (a j : EReal) ≤ z ∧ (Ideal.ofBits .f32 0xFF800000#32 : EReal) ≤ z
      ∧ ∀ i : Fin 1536, i.val / 256 = t.val → (FloatOps.absf (F := Ideal) (φ := .f32) ((m ((c : Thread nD τ).loc main_arg1)) (ix3 0 i (j 1))) : EReal) ≤ z := by
  have ht : t.val < 6 := lt_of_lt_of_eq t.isLt N_0
  unfold stepY
  rw [pay16_le, pay16_le, pay16_le, pay16_le, pay16_le, pay16_le, pay16_le, pay16_le]
  constructor
  · rintro ⟨⟨⟨⟨⟨⟨⟨⟨ha, hb, h0⟩, _, h1⟩, _, h2⟩, _, h3⟩, _, h4⟩, _, h5⟩, _, h6⟩, _, h7⟩
    refine ⟨ha, hb, fun i hi => ?_⟩
    have hx : i.val % 32 < 32 := Nat.mod_lt _ (by decide)
    have hq : i.val % 256 / 32 = 0 ∨ i.val % 256 / 32 = 1 ∨ i.val % 256 / 32 = 2 ∨ i.val % 256 / 32 = 3
        ∨ i.val % 256 / 32 = 4 ∨ i.val % 256 / 32 = 5 ∨ i.val % 256 / 32 = 6 ∨ i.val % 256 / 32 = 7 := by omega
    rcases hq with q | q | q | q | q | q | q | q
    · have := h0 ⟨i.val % 32, hx⟩
      rw [slabY0 m c t ⟨i.val % 32, hx⟩ (j 1) i (by show i.val = 256 * t.val + 0 + i.val % 32; omega)] at this
      exact this
    · have := h1 ⟨i.val % 32, hx⟩
      rw [slabY1 m c t ⟨i.val % 32, hx⟩ (j 1) i (by show i.val = 256 * t.val + 32 + i.val % 32; omega)] at this
      exact this
    · have := h2 ⟨i.val % 32, hx⟩
      rw [slabY2 m c t ⟨i.val % 32, hx⟩ (j 1) i (by show i.val = 256 * t.val + 64 + i.val % 32; omega)] at this
      exact this
    · have := h3 ⟨i.val % 32, hx⟩
      rw [slabY3 m c t ⟨i.val % 32, hx⟩ (j 1) i (by show i.val = 256 * t.val + 96 + i.val % 32; omega)] at this
      exact this
    · have := h4 ⟨i.val % 32, hx⟩
      rw [slabY4 m c t ⟨i.val % 32, hx⟩ (j 1) i (by show i.val = 256 * t.val + 128 + i.val % 32; omega)] at this
      exact this
    · have := h5 ⟨i.val % 32, hx⟩
      rw [slabY5 m c t ⟨i.val % 32, hx⟩ (j 1) i (by show i.val = 256 * t.val + 160 + i.val % 32; omega)] at this
      exact this
    · have := h6 ⟨i.val % 32, hx⟩
      rw [slabY6 m c t ⟨i.val % 32, hx⟩ (j 1) i (by show i.val = 256 * t.val + 192 + i.val % 32; omega)] at this
      exact this
    · have := h7 ⟨i.val % 32, hx⟩
      rw [slabY7 m c t ⟨i.val % 32, hx⟩ (j 1) i (by show i.val = 256 * t.val + 224 + i.val % 32; omega)] at this
      exact this
  · rintro ⟨ha, hb, h⟩
    refine ⟨⟨⟨⟨⟨⟨⟨⟨ha, hb, ?_⟩, hb, ?_⟩, hb, ?_⟩, hb, ?_⟩, hb, ?_⟩, hb, ?_⟩, hb, ?_⟩, hb, ?_⟩ <;> intro x
    · rw [slabY0 m c t x (j 1) ⟨256 * t.val + 0 + x.val, by have := x.isLt; omega⟩ rfl]
      exact h _ (by show (256 * t.val + 0 + x.val) / 256 = t.val; have := x.isLt; omega)
    · rw [slabY1 m c t x (j 1) ⟨256 * t.val + 32 + x.val, by have := x.isLt; omega⟩ rfl]
      exact h _ (by show (256 * t.val + 32 + x.val) / 256 = t.val; have := x.isLt; omega)
    · rw [slabY2 m c t x (j 1) ⟨256 * t.val + 64 + x.val, by have := x.isLt; omega⟩ rfl]
      exact h _ (by show (256 * t.val + 64 + x.val) / 256 = t.val; have := x.isLt; omega)
    · rw [slabY3 m c t x (j 1) ⟨256 * t.val + 96 + x.val, by have := x.isLt; omega⟩ rfl]
      exact h _ (by show (256 * t.val + 96 + x.val) / 256 = t.val; have := x.isLt; omega)
    · rw [slabY4 m c t x (j 1) ⟨256 * t.val + 128 + x.val, by have := x.isLt; omega⟩ rfl]
      exact h _ (by show (256 * t.val + 128 + x.val) / 256 = t.val; have := x.isLt; omega)
    · rw [slabY5 m c t x (j 1) ⟨256 * t.val + 160 + x.val, by have := x.isLt; omega⟩ rfl]
      exact h _ (by show (256 * t.val + 160 + x.val) / 256 = t.val; have := x.isLt; omega)
    · rw [slabY6 m c t x (j 1) ⟨256 * t.val + 192 + x.val, by have := x.isLt; omega⟩ rfl]
      exact h _ (by show (256 * t.val + 192 + x.val) / 256 = t.val; have := x.isLt; omega)
    · rw [slabY7 m c t x (j 1) ⟨256 * t.val + 224 + x.val, by have := x.isLt; omega⟩ rfl]
      exact h _ (by show (256 * t.val + 224 + x.val) / 256 = t.val; have := x.isLt; omega)

/-- The running maximum after a point bounds exactly the rows read so far. -/
theorem runH (c : Dev nD) : ∀ (n : ℕ) (hn : n < cfg0.N) (j : S1x4096.Idx) (z : EReal),
    ((outsAt0 m c n hn).2.2.2.2.2.1 j : EReal) ≤ z ↔ (0 : EReal) ≤ z ∧ (Ideal.ofBits .f32 0xFF800000#32 : EReal) ≤ z
      ∧ ∀ i : Fin 1536, i.val < 256 * (n + 1) → (FloatOps.absf (F := Ideal) (φ := .f32) (Cert.Prep.h (m ((c : Thread nD τ).loc main_arg0)) (m ((c : Thread nD τ).loc main_arg2)) i (j 1)) : EReal) ≤ z := by
  intro n
  induction n with
  | zero =>
    intro hn j z
    have e : (outsAt0 m c 0 hn).2.2.2.2.2.1 = stepH m c ⟨0, hn⟩ (k0_pay5 (F := Ideal)) := by
      have := congrArg (fun p => p.2.2.2.2.2.1) (outsAt0_A m c ⟨0, hn⟩ rfl (by show ¬ 0 % 6 = 5; decide))
      refine this.trans ?_
      dsimp only
      frame_out
      rfl
    rw [e, stepH_le]
    have z5 : (k0_pay5 (F := Ideal) j : EReal) = 0 := by pointwise [k0_pay5]
    rw [z5]
    refine and_congr_right fun _ => and_congr_right fun _ => forall_congr' fun i => ?_
    refine imp_congr_left ?_
    show i.val / 256 = 0 ↔ i.val < 256 * (0 + 1)
    omega
  | succ n ih =>
    intro hn j z
    have hN : n + 1 < 6 := lt_of_lt_of_eq hn N_0
    have e : (outsAt0 m c (n + 1) hn).2.2.2.2.2.1 = stepH m c ⟨n + 1, hn⟩ (outsAt0 m c n (Nat.lt_of_succ_lt hn)).2.2.2.2.2.1 := by
      by_cases h1 : (n + 1) % 6 = 5
      · have := congrArg (fun p => p.2.2.2.2.2.1) (outsAt0_C m c ⟨n + 1, hn⟩ (by show ¬ (n + 1) % 6 = 0; omega) h1)
        refine this.trans ?_
        dsimp only
        frame_out
        rw [read_whole]
        rfl
      · have := congrArg (fun p => p.2.2.2.2.2.1) (outsAt0_B m c ⟨n + 1, hn⟩ (by show ¬ (n + 1) % 6 = 0; omega) h1)
        refine this.trans ?_
        dsimp only
        frame_out
        rw [read_whole]
        rfl
    rw [e, stepH_le, ih]
    constructor
    · rintro ⟨⟨a, b, h⟩, _, h'⟩
      refine ⟨a, b, fun i hi => ?_⟩
      by_cases hc : i.val < 256 * (n + 1)
      · exact h i hc
      · exact h' i (by show i.val / 256 = n + 1; omega)
    · rintro ⟨a, b, h⟩
      exact ⟨⟨a, b, fun i hi => h i (by omega)⟩, b, fun i hi => h i (by
        have hi' : i.val / 256 = n + 1 := hi
        omega)⟩

/-- The running maximum after a point bounds exactly the rows read so far. -/
theorem runY (c : Dev nD) : ∀ (n : ℕ) (hn : n < cfg0.N) (j : S1x4096.Idx) (z : EReal),
    ((outsAt0 m c n hn).2.2.2.2.2.2 j : EReal) ≤ z ↔ (0 : EReal) ≤ z ∧ (Ideal.ofBits .f32 0xFF800000#32 : EReal) ≤ z
      ∧ ∀ i : Fin 1536, i.val < 256 * (n + 1) → (FloatOps.absf (F := Ideal) (φ := .f32) ((m ((c : Thread nD τ).loc main_arg1)) (ix3 0 i (j 1))) : EReal) ≤ z := by
  intro n
  induction n with
  | zero =>
    intro hn j z
    have e : (outsAt0 m c 0 hn).2.2.2.2.2.2 = stepY m c ⟨0, hn⟩ (k0_pay5 (F := Ideal)) := by
      have := congrArg (fun p => p.2.2.2.2.2.2) (outsAt0_A m c ⟨0, hn⟩ rfl (by show ¬ 0 % 6 = 5; decide))
      refine this.trans ?_
      dsimp only
      frame_out
      rfl
    rw [e, stepY_le]
    have z5 : (k0_pay5 (F := Ideal) j : EReal) = 0 := by pointwise [k0_pay5]
    rw [z5]
    refine and_congr_right fun _ => and_congr_right fun _ => forall_congr' fun i => ?_
    refine imp_congr_left ?_
    show i.val / 256 = 0 ↔ i.val < 256 * (0 + 1)
    omega
  | succ n ih =>
    intro hn j z
    have hN : n + 1 < 6 := lt_of_lt_of_eq hn N_0
    have e : (outsAt0 m c (n + 1) hn).2.2.2.2.2.2 = stepY m c ⟨n + 1, hn⟩ (outsAt0 m c n (Nat.lt_of_succ_lt hn)).2.2.2.2.2.2 := by
      by_cases h1 : (n + 1) % 6 = 5
      · have := congrArg (fun p => p.2.2.2.2.2.2) (outsAt0_C m c ⟨n + 1, hn⟩ (by show ¬ (n + 1) % 6 = 0; omega) h1)
        refine this.trans ?_
        dsimp only
        frame_out
        rw [read_whole]
        rfl
      · have := congrArg (fun p => p.2.2.2.2.2.2) (outsAt0_B m c ⟨n + 1, hn⟩ (by show ¬ (n + 1) % 6 = 0; omega) h1)
        refine this.trans ?_
        dsimp only
        frame_out
        rw [read_whole]
        rfl
    rw [e, stepY_le, ih]
    constructor
    · rintro ⟨⟨a, b, h⟩, _, h'⟩
      refine ⟨a, b, fun i hi => ?_⟩
      by_cases hc : i.val < 256 * (n + 1)
      · exact h i hc
      · exact h' i (by show i.val / 256 = n + 1; omega)
    · rintro ⟨a, b, h⟩
      exact ⟨⟨a, b, fun i hi => h i (by omega)⟩, b, fun i hi => h i (by
        have hi' : i.val / 256 = n + 1 := hi
        omega)⟩

/-- What result 3 holds after the run. -/
theorem final8 (c : Dev nD) : (dats m 0 c).arrAt 8 (cfgs 0).N
    = Cert.Prep.amaxH (m ((c : Thread nD τ).loc main_arg0)) (m ((c : Thread nD τ).loc main_arg2)) := by
  refine (dats m 0 c).arrAt_eq_of_covers 8 _ (by decide +kernel) fun t hf y => ?_
  have ht : t.val < 6 := lt_of_lt_of_eq t.isLt N_0
  have h5 : t.val % 6 = 5 := (flush0_8 t).mp hf
  blk_simp
  rw [after0_8]
  have e : (outsAt0 m c t.val t.isLt).2.2.2.1 y = k0_pay3 (F := Ideal) (outsAt0 m c t.val t.isLt).2.2.2.2.2.1 := by
    rw [outsAt0_C m c t (by omega) h5]
    frame_out
  rw [e]
  refine eq_of_forall_ge_iff (α := EReal) fun z => ?_
  show (k0_pay3 (F := Ideal) (outsAt0 m c t.val t.isLt).2.2.2.2.2.1 : EReal) ≤ z ↔ (Cert.Prep.amax _ _ : EReal) ≤ z
  rw [pay3_le, Cert.Prep.amax_le]
  refine and_congr_right fun hb => ?_
  constructor
  · intro h i d
    exact ((runH m c t.val t.isLt (ix2 0 d) z).mp (h d)).2.2 i (by have := i.isLt; omega)
  · intro h d
    exact (runH m c t.val t.isLt (ix2 0 d) z).mpr ⟨(Cert.Prep.absf_nonneg _).trans (h 0 0), hb, fun i _ => h i d⟩

/-- What result 4 holds after the run. -/
theorem final9 (c : Dev nD) : (dats m 0 c).arrAt 9 (cfgs 0).N
    = Cert.Prep.amaxDy (m ((c : Thread nD τ).loc main_arg1)) := by
  refine (dats m 0 c).arrAt_eq_of_covers 9 _ (by decide +kernel) fun t hf y => ?_
  have ht : t.val < 6 := lt_of_lt_of_eq t.isLt N_0
  have h5 : t.val % 6 = 5 := (flush0_9 t).mp hf
  blk_simp
  rw [after0_9]
  have e : (outsAt0 m c t.val t.isLt).2.2.2.2.1 y = k0_pay4 (F := Ideal) (outsAt0 m c t.val t.isLt).2.2.2.2.2.2 := by
    rw [outsAt0_C m c t (by omega) h5]
    frame_out
  rw [e]
  refine eq_of_forall_ge_iff (α := EReal) fun z => ?_
  show (k0_pay4 (F := Ideal) (outsAt0 m c t.val t.isLt).2.2.2.2.2.2 : EReal) ≤ z ↔ (Cert.Prep.amax _ _ : EReal) ≤ z
  rw [pay4_le, Cert.Prep.amax_le]
  refine and_congr_right fun hb => ?_
  constructor
  · intro h i d
    exact ((runY m c t.val t.isLt (ix2 0 d) z).mp (h d)).2.2 i (by have := i.isLt; omega)
  · intro h d
    exact (runY m c t.val t.isLt (ix2 0 d) z).mpr ⟨(Cert.Prep.absf_nonneg _).trans (h 0 0), hb, fun i _ => h i d⟩

end Cert.PrepIdeal.Final

end
-- ==== Proof.PrepRef.lean ====
module

public import proofs.«01_k».proof.Proof.Gen.PrepRefIdeal.Value
public import proofs.«01_k».proof.Proof.PrepSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepRefIdeal.Final

open Cert.PrepRefIdeal Cert.PrepRefIdeal.Gen

variable (m : (ℓ : Loc nD τ sig) → Buf (Elt Ideal) ℓ)

/-- The block index of every window at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- What result 0 holds after the run. -/
theorem final5 (c : Dev nD) : (dats m 0 c).arrAt 5 (cfgs 0).N
    = Cert.Prep.hc (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay6, k0_pay5, k0_pay4, k0_pay3, Cert.Prep.hc, Cert.Prep.h, Cert.Prep.rr]
  blk_point [iblk, V, idx t]

/-- What result 1 holds after the run. -/
theorem final6 (c : Dev nD) : (dats m 0 c).arrAt 6 (cfgs 0).N
    = Cert.Prep.dyc (m ((c : Thread nD τ).loc main_arg1)) (m ((c : Thread nD τ).loc main_arg4)) := by
  refine (dats m 0 c).arrAt_eq_of_covers 6 _ (by decide +kernel) fun t hf y => ?_
  blk_simp
  rw [after0_6]
  frame_out
  pointwise [k0_pay8, k0_pay7, Cert.Prep.dyc]
  blk_point [iblk, V, idx t]

/-- What result 2 holds after the run. -/
theorem final7 (c : Dev nD) : (dats m 0 c).arrAt 7 (cfgs 0).N
    = Cert.Prep.rr (m ((c : Thread nD τ).loc main_arg0)) := by
  refine (dats m 0 c).arrAt_eq_of_covers 7 _ (by decide +kernel) fun t hf y => ?_
  blk_simp
  rw [after0_7]
  frame_out
  pointwise [k0_pay4, k0_pay3, Cert.Prep.rr]
  blk_point [iblk, V, idx t]

/-- What result 3 holds after the run. -/
theorem final8 (c : Dev nD) : (dats m 0 c).arrAt 8 (cfgs 0).N
    = Cert.Prep.amaxH (m ((c : Thread nD τ).loc main_arg0)) (m ((c : Thread nD τ).loc main_arg2)) := by
  refine (dats m 0 c).arrAt_eq_of_covers 8 _ (by decide +kernel) fun t hf y => ?_
  blk_simp
  rw [after0_8]
  frame_out
  pointwise [k0_pay1, k0_pay5, k0_pay4, k0_pay3, Cert.Prep.amaxH, Cert.Prep.amax, Cert.Prep.h, Cert.Prep.rr]
  blk_point [iblk, V, idx t]

/-- What result 4 holds after the run. -/
theorem final9 (c : Dev nD) : (dats m 0 c).arrAt 9 (cfgs 0).N
    = Cert.Prep.amaxDy (m ((c : Thread nD τ).loc main_arg1)) := by
  refine (dats m 0 c).arrAt_eq_of_covers 9 _ (by decide +kernel) fun t hf y => ?_
  blk_simp
  rw [after0_9]
  frame_out
  pointwise [k0_pay2, k0_pay7, Cert.Prep.amaxDy, Cert.Prep.amax]
  blk_point [iblk, V, idx t]

end Cert.PrepRefIdeal.Final

end
-- ==== Proof.PrepPair.lean ====
module

public import proofs.«01_k».proof.Defs
public import proofs.«01_k».proof.Proof.PrepCodes
public import proofs.«01_k».proof.Proof.PrepMax
public import proofs.«01_k».proof.Proof.PrepRef
public import Idealize.ShloMosaic.Lib.Claim

@[expose] public section

set_option maxRecDepth 16384

noncomputable section

open Idealize.ShloMosaic Idealize.ShloMosaic.TcCoe Idealize.SL.Sem

namespace Cert.Prep

set_option maxHeartbeats 1600000 in
/-- The kernel's results are the reference's. -/
theorem pair : Cert.algebraic_PrepIdeal_PrepRefIdeal := by
  pair_intro
  · run_from Cert.PrepIdeal.Gen.run_main m g
  · run_from Cert.PrepRefIdeal.Gen.run_main m' g'
    · refine (Cert.PrepRefIdeal.Final.final5 m' c).trans (Eq.trans ?_ (Cert.PrepIdeal.Final.final5 m c).symm)
      simp only [hagree c]
    · refine (Cert.PrepRefIdeal.Final.final6 m' c).trans (Eq.trans ?_ (Cert.PrepIdeal.Final.final6 m c).symm)
      simp only [hagree c]
    · refine (Cert.PrepRefIdeal.Final.final7 m' c).trans (Eq.trans ?_ (Cert.PrepIdeal.Final.final7 m c).symm)
      simp only [hagree c]
    · refine (Cert.PrepRefIdeal.Final.final8 m' c).trans (Eq.trans ?_ (Cert.PrepIdeal.Final.final8 m c).symm)
      simp only [hagree c]
    · refine (Cert.PrepRefIdeal.Final.final9 m' c).trans (Eq.trans ?_ (Cert.PrepIdeal.Final.final9 m c).symm)
      simp only [hagree c]

end Cert.Prep

end
-- ==== Proof.InProjValue.lean ====
module

public import proofs.«01_k».proof.Proof.Gen.InProjIdeal.Value
public import proofs.«01_k».proof.Proof.Gen.InProjRefIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProj

/-- The row of the sequence that position `l` of chunk `c` is. -/
def row (c : Fin 12) (l : Fin 128) : Fin 1536 := ⟨c.val * 128 + l.val, by omega⟩

/-- The product of the codes with the weight, times the product of the two scales, cut in chunks of 128 rows. -/
def prod (A : FVec Ideal ⟨2, ![1536, 4096]⟩ .fp8e4m3) (W : FVec Ideal ⟨2, ![4096, 4640]⟩ .fp8e4m3)
    (sa sw : FVec Ideal ⟨0, ![]⟩ .f32) : FVec Ideal ⟨3, ![12, 4640, 128]⟩ .f32 := fun j =>
  (∑ k : Fin 4096, A (ix2 (row (j 0) (j 2)) k) * W (ix2 k (j 1))) * (sa ix0 * sw ix0)

/-- The same with the factors of every term exchanged. -/
theorem prod_comm (A : FVec Ideal ⟨2, ![1536, 4096]⟩ .fp8e4m3) (W : FVec Ideal ⟨2, ![4096, 4640]⟩ .fp8e4m3)
    (sa sw : FVec Ideal ⟨0, ![]⟩ .f32) :
    prod A W sa sw = fun j => (∑ k : Fin 4096, W (ix2 k (j 1)) * A (ix2 (row (j 0) (j 2)) k)) * (sa ix0 * sw ix0) :=
  funext fun j => congrArg (fun z : EReal => z * (sa ix0 * sw ix0)) (Finset.sum_congr rfl fun k _ => mul_comm _ _)

end Cert.InProj

namespace Cert.InProjIdeal.Final

open Cert.InProjIdeal Cert.InProjIdeal.Gen

variable (m : (ℓ : Loc nD τ sig) → Buf (Elt Ideal) ℓ)

/-- The block index of every window at every grid point. -/
theorem idx : ∀ t : Fin cfg0.N, win0_0.index t = ![0, 0] ∧ win0_1.index t = ![0, 0] ∧ win0_2.index t = ![t.val, 0]
    ∧ win0_3.index t = ![0, 0] ∧ win0_4.index t = ![0, t.val, 0] :=
  (by decide +kernel : ∀ t : Fin grid0.N, _)

/-- One entry of the product a grid point computes, at the place of the result it is stored to. -/
theorem core (c : Dev nD) (t : Fin cfg0.N) (i : S928x1536.Idx) (j : S12x4640x128.Idx)
    (hi0 : (j 1 : ℕ) = t.val * 928 + i 0) (hi1 : (i 1 : ℕ) = (j 0 : ℕ) * 128 + j 2) (s0 s1 : Elt Ideal .f32)
    (hs0 : s0 = m ((c : Thread nD τ).loc main_arg2) ix0) (hs1 : s1 = m ((c : Thread nD τ).loc main_arg3) ix0) :
    k0_pay8 (F := Ideal) s0 s1 (iblk m c 2 t) (iblk m c 3 t) i
      = Cert.InProj.prod (m ((c : Thread nD τ).loc main_arg0)) (m ((c : Thread nD τ).loc main_arg1))
        (m ((c : Thread nD τ).loc main_arg2)) (m ((c : Thread nD τ).loc main_arg3)) j := by
  rw [Cert.InProj.prod_comm]
  subst hs0 hs1
  pointwise [k0_pay8, Cert.InProj.row]
  blk_point [iblk, V, idx t]

/-- What the result holds after the run. -/
theorem final (c : Dev nD) : (dats m 0 c).arrAt 4 (cfgs 0).N
    = Cert.InProj.prod (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  obtain ⟨s0, hs0⟩ : ∃ s, s = View.ld (iblk m c 0 t) (Rect.unit ![0, 0] ![1, 1] inb_S1x1_S1x1_0_0)
    (Shape.Idx.first (show 0 < S1x1.numel by decide)) := ⟨_, rfl⟩
  obtain ⟨s1, hs1⟩ : ∃ s, s = View.ld (iblk m c 1 t) (Rect.unit ![0, 0] ![1, 1] inb_S1x1_S1x1_0_0)
    (Shape.Idx.first (show 0 < S1x1.numel by decide)) := ⟨_, rfl⟩
  rw [← hs0, ← hs1]
  obtain_idx i : S928x1536 := [(y 1 : ℕ), (y 0 : ℕ) * 128 + (y 2 : ℕ)] with hi
  refine Eq.trans (b := k0_pay8 (F := Ideal) s0 s1 (iblk m c 2 t) (iblk m c 3 t) i) ?_
    (core m c t i _ ?_ ?_ s0 s1 ?_ ?_)
  · clear hs0 hs1
    canon_tiles x h
    all_goals (open_payloads; pointwise; blk_ext)
  · blk_simp [idx t] <;> try omega
  · blk_simp [idx t] <;> try omega
  · rw [hs0]; pointwise; blk_point [iblk, V, idx t]
  · rw [hs1]; pointwise; blk_point [iblk, V, idx t]

end Cert.InProjIdeal.Final

namespace Cert.InProjRefIdeal.Final

open Cert.InProjRefIdeal Cert.InProjRefIdeal.Gen

variable (m : (ℓ : Loc nD τ sig) → Buf (Elt Ideal) ℓ)

/-- The block index of every window at the one grid point. -/
theorem idx : ∀ t : Fin cfg0.N, win0_0.index t = ![0, 0] ∧ win0_1.index t = ![0, 0] ∧ win0_2.index t = ![0, 0]
    ∧ win0_3.index t = ![0, 0] ∧ win0_4.index t = ![0, 0, 0] :=
  (by decide +kernel : ∀ t : Fin grid0.N, _)

/-- What the result holds after the run. -/
theorem final (c : Dev nD) : (dats m 0 c).arrAt 4 (cfgs 0).N
    = Cert.InProj.prod (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, Cert.InProj.prod, Cert.InProj.row]
  blk_point [iblk, V, idx t]

end Cert.InProjRefIdeal.Final

end
-- ==== Proof.InProjPair.lean ====
module

public import proofs.«01_k».proof.Defs
public import proofs.«01_k».proof.Proof.InProjValue
public import Idealize.ShloMosaic.Lib.Claim

@[expose] public section

set_option maxRecDepth 16384

noncomputable section

open Idealize.ShloMosaic Idealize.ShloMosaic.TcCoe Idealize.SL.Sem

namespace Cert.InProj

/-- The kernel's results are the reference's. -/
theorem pair : Cert.algebraic_InProjIdeal_InProjRefIdeal := by
  pair_intro
  · run_from Cert.InProjIdeal.Gen.run_main m g
  · run_from Cert.InProjRefIdeal.Gen.run_main m' g'
    · refine (Cert.InProjRefIdeal.Final.final m' c).trans (Eq.trans ?_ (Cert.InProjIdeal.Final.final m c).symm)
      simp only [hagree c]

end Cert.InProj

end
-- ==== Proof.DgradValue.lean ====
module

public import proofs.«01_k».proof.Proof.Gen.DgradIdeal.Value
public import proofs.«01_k».proof.Proof.Gen.DgradRefIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dgrad

/-- The row of the sequence that position `l` of chunk `c` is. -/
def row (c : Fin 12) (l : Fin 128) : Fin 1536 := ⟨c.val * 128 + l.val, by omega⟩

/-- The product of the codes with the weight, times the product of the two scales, cut in chunks of 128 rows. -/
def prod (A : FVec Ideal ⟨2, ![1536, 4096]⟩ .fp8e5m2) (W : FVec Ideal ⟨2, ![2048, 4096]⟩ .fp8e4m3)
    (sa sw : FVec Ideal ⟨0, ![]⟩ .f32) : FVec Ideal ⟨3, ![12, 2048, 128]⟩ .f32 := fun j =>
  (∑ k : Fin 4096, A (ix2 (row (j 0) (j 2)) k) * W (ix2 (j 1) k)) * (sa ix0 * sw ix0)

/-- The same with the factors of every term exchanged. -/
theorem prod_comm (A : FVec Ideal ⟨2, ![1536, 4096]⟩ .fp8e5m2) (W : FVec Ideal ⟨2, ![2048, 4096]⟩ .fp8e4m3)
    (sa sw : FVec Ideal ⟨0, ![]⟩ .f32) :
    prod A W sa sw = fun j => (∑ k : Fin 4096, W (ix2 (j 1) k) * A (ix2 (row (j 0) (j 2)) k)) * (sa ix0 * sw ix0) :=
  funext fun j => congrArg (fun z : EReal => z * (sa ix0 * sw ix0)) (Finset.sum_congr rfl fun k _ => mul_comm _ _)

end Cert.Dgrad

namespace Cert.DgradIdeal.Final

open Cert.DgradIdeal Cert.DgradIdeal.Gen

variable (m : (ℓ : Loc nD τ sig) → Buf (Elt Ideal) ℓ)

/-- The block index of every window at every grid point. -/
theorem idx : ∀ t : Fin cfg0.N, win0_0.index t = ![0, 0] ∧ win0_1.index t = ![0, 0] ∧ win0_2.index t = ![t.val, 0]
    ∧ win0_3.index t = ![0, 0] ∧ win0_4.index t = ![0, t.val, 0] :=
  (by decide +kernel : ∀ t : Fin grid0.N, _)

/-- One entry of the product a grid point computes, at the place of the result it is stored to. -/
theorem core (c : Dev nD) (t : Fin cfg0.N) (i : S512x1536.Idx) (j : S12x2048x128.Idx)
    (hi0 : (j 1 : ℕ) = t.val * 512 + i 0) (hi1 : (i 1 : ℕ) = (j 0 : ℕ) * 128 + j 2) (s0 s1 : Elt Ideal .f32)
    (hs0 : s0 = m ((c : Thread nD τ).loc main_arg2) ix0) (hs1 : s1 = m ((c : Thread nD τ).loc main_arg3) ix0) :
    k0_pay8 (F := Ideal) s0 s1 (iblk m c 2 t) (iblk m c 3 t) i
      = Cert.Dgrad.prod (m ((c : Thread nD τ).loc main_arg0)) (m ((c : Thread nD τ).loc main_arg1))
        (m ((c : Thread nD τ).loc main_arg2)) (m ((c : Thread nD τ).loc main_arg3)) j := by
  rw [Cert.Dgrad.prod_comm]
  subst hs0 hs1
  pointwise [k0_pay8, Cert.Dgrad.row]
  blk_point [iblk, V, idx t]

/-- What the result holds after the run. -/
theorem final (c : Dev nD) : (dats m 0 c).arrAt 4 (cfgs 0).N
    = Cert.Dgrad.prod (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  obtain ⟨s0, hs0⟩ : ∃ s, s = View.ld (iblk m c 0 t) (Rect.unit ![0, 0] ![1, 1] inb_S1x1_S1x1_0_0)
    (Shape.Idx.first (show 0 < S1x1.numel by decide)) := ⟨_, rfl⟩
  obtain ⟨s1, hs1⟩ : ∃ s, s = View.ld (iblk m c 1 t) (Rect.unit ![0, 0] ![1, 1] inb_S1x1_S1x1_0_0)
    (Shape.Idx.first (show 0 < S1x1.numel by decide)) := ⟨_, rfl⟩
  rw [← hs0, ← hs1]
  obtain_idx i : S512x1536 := [(y 1 : ℕ), (y 0 : ℕ) * 128 + (y 2 : ℕ)] with hi
  refine Eq.trans (b := k0_pay8 (F := Ideal) s0 s1 (iblk m c 2 t) (iblk m c 3 t) i) ?_
    (core m c t i _ ?_ ?_ s0 s1 ?_ ?_)
  · clear hs0 hs1
    canon_tiles x h
    all_goals (open_payloads; pointwise; blk_ext)
  · blk_simp [idx t] <;> try omega
  · blk_simp [idx t] <;> try omega
  · rw [hs0]; pointwise; blk_point [iblk, V, idx t]
  · rw [hs1]; pointwise; blk_point [iblk, V, idx t]

end Cert.DgradIdeal.Final

namespace Cert.DgradRefIdeal.Final

open Cert.DgradRefIdeal Cert.DgradRefIdeal.Gen

variable (m : (ℓ : Loc nD τ sig) → Buf (Elt Ideal) ℓ)

/-- The block index of every window at the one grid point. -/
theorem idx : ∀ t : Fin cfg0.N, win0_0.index t = ![0, 0] ∧ win0_1.index t = ![0, 0] ∧ win0_2.index t = ![0, 0]
    ∧ win0_3.index t = ![0, 0] ∧ win0_4.index t = ![0, 0, 0] :=
  (by decide +kernel : ∀ t : Fin grid0.N, _)

/-- What the result holds after the run. -/
theorem final (c : Dev nD) : (dats m 0 c).arrAt 4 (cfgs 0).N
    = Cert.Dgrad.prod (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, Cert.Dgrad.prod, Cert.Dgrad.row]
  blk_point [iblk, V, idx t]

end Cert.DgradRefIdeal.Final

end
-- ==== Proof.DgradPair.lean ====
module

public import proofs.«01_k».proof.Defs
public import proofs.«01_k».proof.Proof.DgradValue
public import Idealize.ShloMosaic.Lib.Claim

@[expose] public section

set_option maxRecDepth 16384

noncomputable section

open Idealize.ShloMosaic Idealize.ShloMosaic.TcCoe Idealize.SL.Sem

namespace Cert.Dgrad

/-- The kernel's results are the reference's. -/
theorem pair : Cert.algebraic_DgradIdeal_DgradRefIdeal := by
  pair_intro
  · run_from Cert.DgradIdeal.Gen.run_main m g
  · run_from Cert.DgradRefIdeal.Gen.run_main m' g'
    · refine (Cert.DgradRefIdeal.Final.final m' c).trans (Eq.trans ?_ (Cert.DgradIdeal.Final.final m c).symm)
      simp only [hagree c]

end Cert.Dgrad

end
-- ==== Proof.YProjValue.lean ====
module

public import proofs.«01_k».proof.Proof.Gen.YProjIdeal.Value
public import proofs.«01_k».proof.Proof.Gen.YProjRefIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.YProj

/-- The gated activation divided by its scale and clamped to the range of the narrow format. -/
def codes (G : FVec Ideal Cert.YProjIdeal.S1536x2048 .f32) (gs : FVec Ideal Cert.YProjIdeal.S1x128 .f32) :
    FVec Ideal Cert.YProjIdeal.S1536x2048 .fp8e4m3 := fun j =>
  min (Ideal.ofBits .f32 0x43E00000#32) (max (Ideal.ofBits .f32 0xC3E00000#32) (Ideal.div (G j) (gs (ix2 0 0))))

/-- The product of the codes with the output weight, times the product of the two scales. -/
def prod (G : FVec Ideal Cert.YProjIdeal.S1536x2048 .f32) (W : FVec Ideal Cert.YProjIdeal.S2048x4096 .fp8e4m3)
    (gs : FVec Ideal Cert.YProjIdeal.S1x128 .f32) (sw : FVec Ideal ⟨0, ![]⟩ .f32) :
    FVec Ideal Cert.YProjIdeal.S1536x4096 .bf16 := fun j =>
  (∑ k : Fin 2048, codes G gs (ix2 (j 0) k) * W (ix2 k (j 1))) * (gs (ix2 0 0) * sw ix0)

end Cert.YProj

namespace Cert.YProjIdeal.Final

open Cert.YProjIdeal Cert.YProjIdeal.Gen

variable (m : (ℓ : Loc nD τ sig) → Buf (Elt Ideal) ℓ)

/-- The block index of every window at every grid point. -/
theorem idx : ∀ t : Fin cfg0.N, win0_0.index t = ![0, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- What the product holds after the run. -/
theorem final4 (c : Dev nD) : (dats m 0 c).arrAt 4 (cfgs 0).N
    = Cert.YProj.prod (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  pointwise [k0_pay1, k0_pay2, Cert.YProj.prod, Cert.YProj.codes]
  blk_point [iblk, V, idx t]

/-- What the codes hold after the run. -/
theorem final5 (c : Dev nD) : (dats m 0 c).arrAt 5 (cfgs 0).N
    = Cert.YProj.codes (m ((c : Thread nD τ).loc main_arg0)) (m ((c : Thread nD τ).loc main_arg2)) := by
  refine (dats m 0 c).arrAt_eq_of_covers 5 _ (by decide +kernel) fun t hf y => ?_
  blk_simp
  rw [after0_5]
  unfold outsAt0
  frame_out
  pointwise [k0_pay1, Cert.YProj.codes]
  blk_point [iblk, V, idx t]

end Cert.YProjIdeal.Final

namespace Cert.YProjRefIdeal.Final

open Cert.YProjRefIdeal Cert.YProjRefIdeal.Gen

variable (m : (ℓ : Loc nD τ sig) → Buf (Elt Ideal) ℓ)

/-- The block index of every window at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- What the product holds after the run. -/
theorem final4 (c : Dev nD) : (dats m 0 c).arrAt 4 (cfgs 0).N
    = Cert.YProj.prod (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, Cert.YProj.prod, Cert.YProj.codes]
  blk_point [iblk, V, idx t]

/-- What the codes hold after the run. -/
theorem final5 (c : Dev nD) : (dats m 0 c).arrAt 5 (cfgs 0).N
    = Cert.YProj.codes (m ((c : Thread nD τ).loc main_arg0)) (m ((c : Thread nD τ).loc main_arg2)) := by
  refine (dats m 0 c).arrAt_eq_of_covers 5 _ (by decide +kernel) fun t hf y => ?_
  blk_simp
  rw [after0_5]
  frame_out
  pointwise [k0_pay1, k0_pay2, Cert.YProj.codes]
  blk_point [iblk, V, idx t]

end Cert.YProjRefIdeal.Final

end
-- ==== Proof.YProjPair.lean ====
module

public import proofs.«01_k».proof.Defs
public import proofs.«01_k».proof.Proof.YProjValue
public import Idealize.ShloMosaic.Lib.Claim

@[expose] public section

set_option maxRecDepth 16384

noncomputable section

open Idealize.ShloMosaic Idealize.ShloMosaic.TcCoe Idealize.SL.Sem

namespace Cert.YProj

/-- The kernel's results are the reference's. -/
theorem pair : Cert.algebraic_YProjIdeal_YProjRefIdeal := by
  pair_intro
  · run_from Cert.YProjIdeal.Gen.run_main m g
  · run_from Cert.YProjRefIdeal.Gen.run_main m' g'
    · refine (Cert.YProjRefIdeal.Final.final4 m' c).trans (Eq.trans ?_ (Cert.YProjIdeal.Final.final4 m c).symm)
      simp only [hagree c]
    · refine (Cert.YProjRefIdeal.Final.final5 m' c).trans (Eq.trans ?_ (Cert.YProjIdeal.Final.final5 m c).symm)
      simp only [hagree c]

end Cert.YProj

end
-- ==== Proof.GradWOutValue.lean ====
module

public import proofs.«01_k».proof.Proof.Gen.GradWOutIdeal.Value
public import proofs.«01_k».proof.Proof.Gen.GradWOutRefIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWOut

/-- The product of the transposed codes with the codes of the incoming gradient, times the product of the two scales. -/
def prod (G : FVec Ideal Cert.GradWOutIdeal.S1536x2048 .fp8e4m3) (D : FVec Ideal Cert.GradWOutIdeal.S1536x4096 .fp8e5m2)
    (gs : FVec Ideal Cert.GradWOutIdeal.S1x128 .f32) (sd : FVec Ideal ⟨0, ![]⟩ .f32) :
    FVec Ideal Cert.GradWOutIdeal.S2048x4096 .f32 := fun j =>
  (∑ k : Fin 1536, G (ix2 k (j 0)) * D (ix2 k (j 1))) * (gs (ix2 0 0) * sd ix0)

end Cert.GradWOut

namespace Cert.GradWOutIdeal.Final

open Cert.GradWOutIdeal Cert.GradWOutIdeal.Gen

variable (m : (ℓ : Loc nD τ sig) → Buf (Elt Ideal) ℓ)

/-- The block index of every window at every grid point. -/
theorem idx : ∀ t : Fin cfg0.N, win0_0.index t = ![0, 0] ∧ win0_1.index t = ![0, 0] ∧ win0_2.index t = ![0, t.val]
    ∧ win0_3.index t = ![0, 0] ∧ win0_4.index t = ![t.val, 0] :=
  (by decide +kernel : ∀ t : Fin grid0.N, _)

theorem final (c : Dev nD) : (dats m 0 c).arrAt 4 (cfgs 0).N
    = Cert.GradWOut.prod (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  pointwise [k0_pay1, Cert.GradWOut.prod]
  blk_point [iblk, V, idx t]

end Cert.GradWOutIdeal.Final

namespace Cert.GradWOutRefIdeal.Final

open Cert.GradWOutRefIdeal Cert.GradWOutRefIdeal.Gen

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

theorem final (c : Dev nD) : (dats m 0 c).arrAt 4 (cfgs 0).N
    = Cert.GradWOut.prod (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, Cert.GradWOut.prod]
  blk_point [iblk, V, idx t]

end Cert.GradWOutRefIdeal.Final

end
-- ==== Proof.GradWOutPair.lean ====
module

public import proofs.«01_k».proof.Defs
public import proofs.«01_k».proof.Proof.GradWOutValue
public import Idealize.ShloMosaic.Lib.Claim

@[expose] public section

set_option maxRecDepth 16384

noncomputable section

open Idealize.ShloMosaic Idealize.ShloMosaic.TcCoe Idealize.SL.Sem

namespace Cert.GradWOut

/-- The kernel's results are the reference's. -/
theorem pair : Cert.algebraic_GradWOutIdeal_GradWOutRefIdeal := by
  pair_intro
  · run_from Cert.GradWOutIdeal.Gen.run_main m g
  · run_from Cert.GradWOutRefIdeal.Gen.run_main m' g'
    · refine (Cert.GradWOutRefIdeal.Final.final m' c).trans (Eq.trans ?_ (Cert.GradWOutIdeal.Final.final m c).symm)
      simp only [hagree c]

end Cert.GradWOut

end
-- ==== Proof.DpQuantValue.lean ====
module

public import proofs.«01_k».proof.Proof.Gen.DpQuantIdeal.Value
public import proofs.«01_k».proof.Proof.Gen.DpQuantRefIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DpQuant

/-- The five gradients one below the other, position `l` of chunk `b` being column `128 b + l`. -/
def stacked (dz : FVec Ideal ⟨3, ![12, 2048, 128]⟩ .f32) (dux : FVec Ideal ⟨3, ![12, 2048, 128]⟩ .f32) (dub : FVec Ideal ⟨3, ![12, 256, 128]⟩ .f32) (duc : FVec Ideal ⟨3, ![12, 256, 128]⟩ .f32) (ddt : FVec Ideal ⟨3, ![12, 32, 128]⟩ .f32) :
    FVec Ideal ⟨2, ![4640, 1536]⟩ .f32 := fun j =>
  have hj0 : (j 0 : ℕ) < 4640 := (j 0).isLt
  have hj1 : (j 1 : ℕ) < 1536 := (j 1).isLt
  if h0 : (j 0 : ℕ) < 2048 then dz (ix3 ⟨(j 1 : ℕ) / 128, by omega⟩ ⟨(j 0 : ℕ) - 0, by omega⟩ ⟨(j 1 : ℕ) % 128, by omega⟩)
  else if h1 : (j 0 : ℕ) < 4096 then dux (ix3 ⟨(j 1 : ℕ) / 128, by omega⟩ ⟨(j 0 : ℕ) - 2048, by omega⟩ ⟨(j 1 : ℕ) % 128, by omega⟩)
  else if h2 : (j 0 : ℕ) < 4352 then dub (ix3 ⟨(j 1 : ℕ) / 128, by omega⟩ ⟨(j 0 : ℕ) - 4096, by omega⟩ ⟨(j 1 : ℕ) % 128, by omega⟩)
  else if h3 : (j 0 : ℕ) < 4608 then duc (ix3 ⟨(j 1 : ℕ) / 128, by omega⟩ ⟨(j 0 : ℕ) - 4352, by omega⟩ ⟨(j 1 : ℕ) % 128, by omega⟩)
  else ddt (ix3 ⟨(j 1 : ℕ) / 128, by omega⟩ ⟨(j 0 : ℕ) - 4608, by omega⟩ ⟨(j 1 : ℕ) % 128, by omega⟩)

/-- Rows 0 to 2047 are those of `dz`. -/
theorem stacked_dz (dz : FVec Ideal ⟨3, ![12, 2048, 128]⟩ .f32) (dux : FVec Ideal ⟨3, ![12, 2048, 128]⟩ .f32) (dub : FVec Ideal ⟨3, ![12, 256, 128]⟩ .f32) (duc : FVec Ideal ⟨3, ![12, 256, 128]⟩ .f32) (ddt : FVec Ideal ⟨3, ![12, 32, 128]⟩ .f32) (j : (⟨2, ![4640, 1536]⟩ : Shape).Idx)
    (a : Fin 2048) (b : Fin 12) (l : Fin 128) (h0 : (j 0 : ℕ) = 0 + a.val) (h1 : (j 1 : ℕ) = b.val * 128 + l.val) :
    stacked dz dux dub duc ddt j = dz (ix3 b a l) := by
  unfold stacked
  rw [dif_pos (by omega)]
  blk_ext

/-- Rows 2048 to 4095 are those of `dux`. -/
theorem stacked_dux (dz : FVec Ideal ⟨3, ![12, 2048, 128]⟩ .f32) (dux : FVec Ideal ⟨3, ![12, 2048, 128]⟩ .f32) (dub : FVec Ideal ⟨3, ![12, 256, 128]⟩ .f32) (duc : FVec Ideal ⟨3, ![12, 256, 128]⟩ .f32) (ddt : FVec Ideal ⟨3, ![12, 32, 128]⟩ .f32) (j : (⟨2, ![4640, 1536]⟩ : Shape).Idx)
    (a : Fin 2048) (b : Fin 12) (l : Fin 128) (h0 : (j 0 : ℕ) = 2048 + a.val) (h1 : (j 1 : ℕ) = b.val * 128 + l.val) :
    stacked dz dux dub duc ddt j = dux (ix3 b a l) := by
  unfold stacked
  rw [dif_neg (by omega)]
  rw [dif_pos (by omega)]
  blk_ext

/-- Rows 4096 to 4351 are those of `dub`. -/
theorem stacked_dub (dz : FVec Ideal ⟨3, ![12, 2048, 128]⟩ .f32) (dux : FVec Ideal ⟨3, ![12, 2048, 128]⟩ .f32) (dub : FVec Ideal ⟨3, ![12, 256, 128]⟩ .f32) (duc : FVec Ideal ⟨3, ![12, 256, 128]⟩ .f32) (ddt : FVec Ideal ⟨3, ![12, 32, 128]⟩ .f32) (j : (⟨2, ![4640, 1536]⟩ : Shape).Idx)
    (a : Fin 256) (b : Fin 12) (l : Fin 128) (h0 : (j 0 : ℕ) = 4096 + a.val) (h1 : (j 1 : ℕ) = b.val * 128 + l.val) :
    stacked dz dux dub duc ddt j = dub (ix3 b a l) := by
  unfold stacked
  rw [dif_neg (by omega)]
  rw [dif_neg (by omega)]
  rw [dif_pos (by omega)]
  blk_ext

/-- Rows 4352 to 4607 are those of `duc`. -/
theorem stacked_duc (dz : FVec Ideal ⟨3, ![12, 2048, 128]⟩ .f32) (dux : FVec Ideal ⟨3, ![12, 2048, 128]⟩ .f32) (dub : FVec Ideal ⟨3, ![12, 256, 128]⟩ .f32) (duc : FVec Ideal ⟨3, ![12, 256, 128]⟩ .f32) (ddt : FVec Ideal ⟨3, ![12, 32, 128]⟩ .f32) (j : (⟨2, ![4640, 1536]⟩ : Shape).Idx)
    (a : Fin 256) (b : Fin 12) (l : Fin 128) (h0 : (j 0 : ℕ) = 4352 + a.val) (h1 : (j 1 : ℕ) = b.val * 128 + l.val) :
    stacked dz dux dub duc ddt j = duc (ix3 b a l) := by
  unfold stacked
  rw [dif_neg (by omega)]
  rw [dif_neg (by omega)]
  rw [dif_neg (by omega)]
  rw [dif_pos (by omega)]
  blk_ext

/-- Rows 4608 to 4639 are those of `ddt`. -/
theorem stacked_ddt (dz : FVec Ideal ⟨3, ![12, 2048, 128]⟩ .f32) (dux : FVec Ideal ⟨3, ![12, 2048, 128]⟩ .f32) (dub : FVec Ideal ⟨3, ![12, 256, 128]⟩ .f32) (duc : FVec Ideal ⟨3, ![12, 256, 128]⟩ .f32) (ddt : FVec Ideal ⟨3, ![12, 32, 128]⟩ .f32) (j : (⟨2, ![4640, 1536]⟩ : Shape).Idx)
    (a : Fin 32) (b : Fin 12) (l : Fin 128) (h0 : (j 0 : ℕ) = 4608 + a.val) (h1 : (j 1 : ℕ) = b.val * 128 + l.val) :
    stacked dz dux dub duc ddt j = ddt (ix3 b a l) := by
  unfold stacked
  rw [dif_neg (by omega)]
  rw [dif_neg (by omega)]
  rw [dif_neg (by omega)]
  rw [dif_neg (by omega)]
  blk_ext

/-- The five gradients divided by their common scale and clamped to the range of the narrow format. -/
def quant (s : FVec Ideal ⟨2, ![1, 128]⟩ .f32) (dz : FVec Ideal ⟨3, ![12, 2048, 128]⟩ .f32) (dux : FVec Ideal ⟨3, ![12, 2048, 128]⟩ .f32) (dub : FVec Ideal ⟨3, ![12, 256, 128]⟩ .f32) (duc : FVec Ideal ⟨3, ![12, 256, 128]⟩ .f32) (ddt : FVec Ideal ⟨3, ![12, 32, 128]⟩ .f32) :
    FVec Ideal ⟨2, ![4640, 1536]⟩ .fp8e5m2 := fun j =>
  min (Ideal.ofBits .f32 0x47600000#32) (max (Ideal.ofBits .f32 0xC7600000#32)
    (Ideal.div (stacked dz dux dub duc ddt j) (s (ix2 0 0))))

/-- Rows 0 to 2047 of the result come from `dz`. -/
theorem quant_dz (s : FVec Ideal ⟨2, ![1, 128]⟩ .f32) (dz : FVec Ideal ⟨3, ![12, 2048, 128]⟩ .f32) (dux : FVec Ideal ⟨3, ![12, 2048, 128]⟩ .f32) (dub : FVec Ideal ⟨3, ![12, 256, 128]⟩ .f32) (duc : FVec Ideal ⟨3, ![12, 256, 128]⟩ .f32) (ddt : FVec Ideal ⟨3, ![12, 32, 128]⟩ .f32) (j : (⟨2, ![4640, 1536]⟩ : Shape).Idx)
    (a : Fin 2048) (b : Fin 12) (l : Fin 128) (h0 : (j 0 : ℕ) = 0 + a.val) (h1 : (j 1 : ℕ) = b.val * 128 + l.val) :
    quant s dz dux dub duc ddt j = min (Ideal.ofBits .f32 0x47600000#32) (max (Ideal.ofBits .f32 0xC7600000#32)
      (Ideal.div (dz (ix3 b a l)) (s (ix2 0 0)))) := by
  unfold quant
  rw [stacked_dz dz dux dub duc ddt j a b l h0 h1]

/-- Rows 2048 to 4095 of the result come from `dux`. -/
theorem quant_dux (s : FVec Ideal ⟨2, ![1, 128]⟩ .f32) (dz : FVec Ideal ⟨3, ![12, 2048, 128]⟩ .f32) (dux : FVec Ideal ⟨3, ![12, 2048, 128]⟩ .f32) (dub : FVec Ideal ⟨3, ![12, 256, 128]⟩ .f32) (duc : FVec Ideal ⟨3, ![12, 256, 128]⟩ .f32) (ddt : FVec Ideal ⟨3, ![12, 32, 128]⟩ .f32) (j : (⟨2, ![4640, 1536]⟩ : Shape).Idx)
    (a : Fin 2048) (b : Fin 12) (l : Fin 128) (h0 : (j 0 : ℕ) = 2048 + a.val) (h1 : (j 1 : ℕ) = b.val * 128 + l.val) :
    quant s dz dux dub duc ddt j = min (Ideal.ofBits .f32 0x47600000#32) (max (Ideal.ofBits .f32 0xC7600000#32)
      (Ideal.div (dux (ix3 b a l)) (s (ix2 0 0)))) := by
  unfold quant
  rw [stacked_dux dz dux dub duc ddt j a b l h0 h1]

/-- Rows 4096 to 4351 of the result come from `dub`. -/
theorem quant_dub (s : FVec Ideal ⟨2, ![1, 128]⟩ .f32) (dz : FVec Ideal ⟨3, ![12, 2048, 128]⟩ .f32) (dux : FVec Ideal ⟨3, ![12, 2048, 128]⟩ .f32) (dub : FVec Ideal ⟨3, ![12, 256, 128]⟩ .f32) (duc : FVec Ideal ⟨3, ![12, 256, 128]⟩ .f32) (ddt : FVec Ideal ⟨3, ![12, 32, 128]⟩ .f32) (j : (⟨2, ![4640, 1536]⟩ : Shape).Idx)
    (a : Fin 256) (b : Fin 12) (l : Fin 128) (h0 : (j 0 : ℕ) = 4096 + a.val) (h1 : (j 1 : ℕ) = b.val * 128 + l.val) :
    quant s dz dux dub duc ddt j = min (Ideal.ofBits .f32 0x47600000#32) (max (Ideal.ofBits .f32 0xC7600000#32)
      (Ideal.div (dub (ix3 b a l)) (s (ix2 0 0)))) := by
  unfold quant
  rw [stacked_dub dz dux dub duc ddt j a b l h0 h1]

/-- Rows 4352 to 4607 of the result come from `duc`. -/
theorem quant_duc (s : FVec Ideal ⟨2, ![1, 128]⟩ .f32) (dz : FVec Ideal ⟨3, ![12, 2048, 128]⟩ .f32) (dux : FVec Ideal ⟨3, ![12, 2048, 128]⟩ .f32) (dub : FVec Ideal ⟨3, ![12, 256, 128]⟩ .f32) (duc : FVec Ideal ⟨3, ![12, 256, 128]⟩ .f32) (ddt : FVec Ideal ⟨3, ![12, 32, 128]⟩ .f32) (j : (⟨2, ![4640, 1536]⟩ : Shape).Idx)
    (a : Fin 256) (b : Fin 12) (l : Fin 128) (h0 : (j 0 : ℕ) = 4352 + a.val) (h1 : (j 1 : ℕ) = b.val * 128 + l.val) :
    quant s dz dux dub duc ddt j = min (Ideal.ofBits .f32 0x47600000#32) (max (Ideal.ofBits .f32 0xC7600000#32)
      (Ideal.div (duc (ix3 b a l)) (s (ix2 0 0)))) := by
  unfold quant
  rw [stacked_duc dz dux dub duc ddt j a b l h0 h1]

/-- Rows 4608 to 4639 of the result come from `ddt`. -/
theorem quant_ddt (s : FVec Ideal ⟨2, ![1, 128]⟩ .f32) (dz : FVec Ideal ⟨3, ![12, 2048, 128]⟩ .f32) (dux : FVec Ideal ⟨3, ![12, 2048, 128]⟩ .f32) (dub : FVec Ideal ⟨3, ![12, 256, 128]⟩ .f32) (duc : FVec Ideal ⟨3, ![12, 256, 128]⟩ .f32) (ddt : FVec Ideal ⟨3, ![12, 32, 128]⟩ .f32) (j : (⟨2, ![4640, 1536]⟩ : Shape).Idx)
    (a : Fin 32) (b : Fin 12) (l : Fin 128) (h0 : (j 0 : ℕ) = 4608 + a.val) (h1 : (j 1 : ℕ) = b.val * 128 + l.val) :
    quant s dz dux dub duc ddt j = min (Ideal.ofBits .f32 0x47600000#32) (max (Ideal.ofBits .f32 0xC7600000#32)
      (Ideal.div (ddt (ix3 b a l)) (s (ix2 0 0)))) := by
  unfold quant
  rw [stacked_ddt dz dux dub duc ddt j a b l h0 h1]

end Cert.DpQuant

namespace Cert.DpQuantIdeal.Final

open Cert.DpQuantIdeal Cert.DpQuantIdeal.Gen

variable (m : (ℓ : Loc nD τ sig) → Buf (Elt Ideal) ℓ)

/-- The block index of every window at every grid point. -/
theorem idx : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![0, t.val] :=
  (by decide +kernel : ∀ t : Fin grid0.N, _)

/-- What the result holds after the run. -/
theorem final (c : Dev nD) : (dats m 0 c).arrAt 6 (cfgs 0).N
    = Cert.DpQuant.quant (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  have ht : t.val < 12 := lt_of_lt_of_eq t.isLt N_0
  obtain ⟨b, hb⟩ : ∃ b : Fin 12, b.val = t.val := ⟨⟨t.val, ht⟩, rfl⟩
  blk_simp
  rw [after0_6]
  unfold outsAt0
  frame_out
  canon_tiles x h using (View.cover_of_tiledBy _ ![32, 128] (by sl_kernel_rfl) _)
  · refine Eq.trans ?_ (Cert.DpQuant.quant_ddt _ _ _ _ _ _ _ (x 0) b (x 1) ?_ ?_).symm
    · pointwise [k0_pay2]
      blk_point [iblk, V, idx t]
    · blk_simp [idx t] <;> try omega
    · blk_simp [idx t] <;> try omega
  · refine Eq.trans ?_ (Cert.DpQuant.quant_duc _ _ _ _ _ _ _ (x 0) b (x 1) ?_ ?_).symm
    · pointwise [k0_pay1]
      blk_point [iblk, V, idx t]
    · blk_simp [idx t] <;> try omega
    · blk_simp [idx t] <;> try omega
  · refine Eq.trans ?_ (Cert.DpQuant.quant_dub _ _ _ _ _ _ _ (x 0) b (x 1) ?_ ?_).symm
    · pointwise [k0_pay5]
      blk_point [iblk, V, idx t]
    · blk_simp [idx t] <;> try omega
    · blk_simp [idx t] <;> try omega
  · refine Eq.trans ?_ (Cert.DpQuant.quant_dux _ _ _ _ _ _ _ (x 0) b (x 1) ?_ ?_).symm
    · pointwise [k0_pay4]
      blk_point [iblk, V, idx t]
    · blk_simp [idx t] <;> try omega
    · blk_simp [idx t] <;> try omega
  · refine Eq.trans ?_ (Cert.DpQuant.quant_dz _ _ _ _ _ _ _ (x 0) b (x 1) ?_ ?_).symm
    · pointwise [k0_pay3]
      blk_point [iblk, V, idx t]
    · blk_simp [idx t] <;> try omega
    · blk_simp [idx t] <;> try omega

end Cert.DpQuantIdeal.Final

namespace Cert.DpQuantRefIdeal.Final

open Cert.DpQuantRefIdeal Cert.DpQuantRefIdeal.Gen

variable (m : (ℓ : Loc nD τ sig) → Buf (Elt Ideal) ℓ)

/-- The block index of every window at the one grid point. -/
theorem idx : ∀ t : Fin cfg0.N, win0_0.index t = ![0, 0] ∧ win0_1.index t = ![0, 0] ∧ win0_2.index t = ![0, 0] :=
  (by decide +kernel : ∀ t : Fin grid0.N, _)

/-- The stacked gradients as the program lays them out before its region. -/
theorem V_stacked (c : Dev nD) (j : S4640x1536.Idx) : V m c main_v2 j
    = Cert.DpQuant.stacked (m ((c : Thread nD τ).loc main_arg1))
        (m ((c : Thread nD τ).loc main_arg2)) (m ((c : Thread nD τ).loc main_arg3)) (m ((c : Thread nD τ).loc main_arg4))
        (m ((c : Thread nD τ).loc main_arg5)) j := by
  have hj0 : (j 0 : ℕ) < 4640 := (j 0).isLt
  entry_read
  pointwise
  split
  · refine (Cert.DpQuant.stacked_dz _ _ _ _ _ j _ _ _ ?_ ?_).symm <;> dsimp only <;> omega
  split
  · refine (Cert.DpQuant.stacked_dux _ _ _ _ _ j _ _ _ ?_ ?_).symm <;> dsimp only <;> omega
  split
  · refine (Cert.DpQuant.stacked_dub _ _ _ _ _ j _ _ _ ?_ ?_).symm <;> dsimp only <;> omega
  split
  · refine (Cert.DpQuant.stacked_duc _ _ _ _ _ j _ _ _ ?_ ?_).symm <;> dsimp only <;> omega
  · refine (Cert.DpQuant.stacked_ddt _ _ _ _ _ j _ _ _ ?_ ?_).symm <;> dsimp only <;> omega

/-- What the result holds after the run. -/
theorem final (c : Dev nD) : (dats m 0 c).arrAt 2 (cfgs 0).N
    = Cert.DpQuant.quant (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 2 _ (by decide +kernel) fun t hf y => ?_
  blk_simp
  rw [after0_2]
  frame_out
  pointwise [k0_pay1, Cert.DpQuant.quant]
  have e1 : iblk m c 1 t y = Cert.DpQuant.stacked (m ((c : Thread nD τ).loc main_arg1))
        (m ((c : Thread nD τ).loc main_arg2)) (m ((c : Thread nD τ).loc main_arg3)) (m ((c : Thread nD τ).loc main_arg4))
        (m ((c : Thread nD τ).loc main_arg5)) (((cfg0.win 2).blk t).view.emb y) :=
    Eq.trans (by blk_ext [iblk, idx t]) (V_stacked m c (((cfg0.win 2).blk t).view.emb y))
  have e0 : iblk m c 0 t (ix2 0 0) = m ((c : Thread nD τ).loc main_arg0) (ix2 0 0) := by blk_point [iblk, V, idx t]
  rw [e0, e1]
  try rfl

end Cert.DpQuantRefIdeal.Final

end
-- ==== Proof.DpQuantPair.lean ====
module

public import proofs.«01_k».proof.Defs
public import proofs.«01_k».proof.Proof.DpQuantValue
public import Idealize.ShloMosaic.Lib.Claim

@[expose] public section

set_option maxRecDepth 16384

noncomputable section

open Idealize.ShloMosaic Idealize.ShloMosaic.TcCoe Idealize.SL.Sem

namespace Cert.DpQuant

/-- The kernel's results are the reference's. -/
theorem pair : Cert.algebraic_DpQuantIdeal_DpQuantRefIdeal := by
  pair_intro
  · run_from Cert.DpQuantIdeal.Gen.run_main m g
  · run_from Cert.DpQuantRefIdeal.Gen.run_main m' g'
    · refine (Cert.DpQuantRefIdeal.Final.final m' c).trans (Eq.trans ?_ (Cert.DpQuantIdeal.Final.final m c).symm)
      simp only [hagree c]

end Cert.DpQuant

end
-- ==== Proof.GradXValue.lean ====
module

public import proofs.«01_k».proof.Proof.Gen.GradXIdeal.Value
public import proofs.«01_k».proof.Proof.Gen.GradXRefIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradX

/-- The gradient of the normalized activation. -/
def dh (D : FVec Ideal ⟨2, ![4640, 1536]⟩ .fp8e5m2) (W : FVec Ideal ⟨2, ![4096, 4640]⟩ .fp8e4m3)
    (X : FVec Ideal ⟨3, ![1, 1536, 4096]⟩ .bf16) (R : FVec Ideal ⟨2, ![1536, 1]⟩ .f32) (nw : FVec Ideal ⟨1, ![4096]⟩ .f32)
    (ds : FVec Ideal ⟨2, ![1, 128]⟩ .f32) (sw : FVec Ideal ⟨0, ![]⟩ .f32) (i : Fin 1536) (d : Fin 4096) : EReal :=
  (∑ k : Fin 4640, D (ix2 k i) * W (ix2 d k)) * (ds (ix2 0 0) * sw ix0)

/-- The row's mean of the weighted gradient times the activation, times the reciprocal root. -/
def xdot (D : FVec Ideal ⟨2, ![4640, 1536]⟩ .fp8e5m2) (W : FVec Ideal ⟨2, ![4096, 4640]⟩ .fp8e4m3)
    (X : FVec Ideal ⟨3, ![1, 1536, 4096]⟩ .bf16) (R : FVec Ideal ⟨2, ![1536, 1]⟩ .f32) (nw : FVec Ideal ⟨1, ![4096]⟩ .f32)
    (ds : FVec Ideal ⟨2, ![1, 128]⟩ .f32) (sw : FVec Ideal ⟨0, ![]⟩ .f32) : FVec Ideal ⟨2, ![1536, 1]⟩ .f32 := fun j =>
  R (ix2 (j 0) 0) * Ideal.div (∑ d : Fin 4096, nw (ix1 d) * dh D W X R nw ds sw (j 0) d * X (ix3 0 (j 0) d))
    (Ideal.ofBits .f32 0x45800000#32)

/-- The gradient of the input. -/
def dx (D : FVec Ideal ⟨2, ![4640, 1536]⟩ .fp8e5m2) (W : FVec Ideal ⟨2, ![4096, 4640]⟩ .fp8e4m3)
    (X : FVec Ideal ⟨3, ![1, 1536, 4096]⟩ .bf16) (R : FVec Ideal ⟨2, ![1536, 1]⟩ .f32) (nw : FVec Ideal ⟨1, ![4096]⟩ .f32)
    (ds : FVec Ideal ⟨2, ![1, 128]⟩ .f32) (sw : FVec Ideal ⟨0, ![]⟩ .f32) : FVec Ideal ⟨2, ![1536, 4096]⟩ .bf16 := fun j =>
  R (ix2 (j 0) 0) * (nw (ix1 (j 1)) * dh D W X R nw ds sw (j 0) (j 1)
    - X (ix3 0 (j 0) (j 1)) * R (ix2 (j 0) 0) * xdot D W X R nw ds sw (ix2 (j 0) 0))

/-- The gradient of the norm's weight. -/
def gnw (D : FVec Ideal ⟨2, ![4640, 1536]⟩ .fp8e5m2) (W : FVec Ideal ⟨2, ![4096, 4640]⟩ .fp8e4m3)
    (X : FVec Ideal ⟨3, ![1, 1536, 4096]⟩ .bf16) (R : FVec Ideal ⟨2, ![1536, 1]⟩ .f32) (nw : FVec Ideal ⟨1, ![4096]⟩ .f32)
    (ds : FVec Ideal ⟨2, ![1, 128]⟩ .f32) (sw : FVec Ideal ⟨0, ![]⟩ .f32) : FVec Ideal ⟨2, ![1, 4096]⟩ .f32 := fun j =>
  ∑ i : Fin 1536, dh D W X R nw ds sw i (j 1) * X (ix3 0 i (j 1)) * R (ix2 i 0)

end Cert.GradX

namespace Cert.GradXIdeal.Final

open Cert.GradXIdeal Cert.GradXIdeal.Gen

variable (m : (ℓ : Loc nD τ sig) → Buf (Elt Ideal) ℓ)

/-- The block index of every window at every grid point. -/
theorem idx : ∀ t : Fin cfg0.N, win0_0.index t = ![0, 0] ∧ win0_1.index t = ![0, 0] ∧ win0_2.index t = ![0, 0]
    ∧ win0_3.index t = ![0, t.val] ∧ win0_4.index t = ![0, 0] ∧ win0_5.index t = ![t.val, 0] ∧ win0_6.index t = ![t.val, 0]
    ∧ win0_7.index t = ![t.val, 0] ∧ win0_8.index t = ![t.val, 0] ∧ win0_9.index t = ![0, 0] :=
  (by decide +kernel : ∀ t : Fin grid0.N, _)

/-- The scale a grid point reads. -/
abbrev sc0 (c : Dev nD) (t : Fin cfg0.N) : Elt Ideal .f32 :=
  View.ld (iblk m c 0 t) (Rect.unit ![0, 0] ![1, 1] inb_S1x1_S1x1_0_0) (Shape.Idx.first (show 0 < S1x1.numel by decide))

/-- The gradient scale a grid point reads. -/
abbrev ld1 (c : Dev nD) (t : Fin cfg0.N) : Vec Ideal S1x1 .f32 :=
  View.ld (iblk m c 1 t) (Rect.unit ![0, 0] ![1, 1] inb_S1x128_S1x1_0_0)

theorem point8 (c : Dev nD) (t : Fin cfg0.N) (y : S256x1.Idx) :
    k0_pay7 (F := Ideal) (iblk m c 3 t) (iblk m c 4 t) (ld1 m c t) (sc0 m c t) (iblk m c 5 t) (iblk m c 6 t) (iblk m c 2 t) y
      = Cert.GradX.xdot (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (((cfg0.win 8).blk t).view.emb y) := by
  unfold ld1 sc0
  pointwise [k0_pay7, k0_pay6, k0_pay5, k0_pay4, Cert.GradX.xdot, Cert.GradX.dh]
  blk_point [iblk, V, idx t]

theorem point7 (c : Dev nD) (t : Fin cfg0.N) (y : S256x4096.Idx) :
    k0_pay8 (F := Ideal) (iblk m c 3 t) (iblk m c 4 t) (ld1 m c t) (sc0 m c t) (iblk m c 5 t) (iblk m c 6 t) (iblk m c 2 t) y
      = Cert.GradX.dx (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (((cfg0.win 7).blk t).view.emb y) := by
  unfold ld1 sc0
  pointwise [k0_pay8, k0_pay7, k0_pay6, k0_pay5, k0_pay4, Cert.GradX.dx, Cert.GradX.xdot, Cert.GradX.dh]
  blk_point [iblk, V, idx t]

/-- What result 0 holds after the run. -/
theorem final7 (c : Dev nD) : (dats m 0 c).arrAt 7 (cfgs 0).N
    = Cert.GradX.dx (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 7 _ (by decide +kernel) fun t hf y => ?_
  have ht : t.val < 6 := lt_of_lt_of_eq t.isLt N_0
  blk_simp
  rw [after0_7]
  by_cases h0 : t.val % 6 = 0
  · rw [outsAt0_A m c t h0 (by omega)]
    frame_out
    exact point7 m c t y
  · rw [outsAt0_B m c t h0 (by omega)]
    frame_out
    exact point7 m c t y

/-- What result 1 holds after the run. -/
theorem final8 (c : Dev nD) : (dats m 0 c).arrAt 8 (cfgs 0).N
    = Cert.GradX.xdot (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 8 _ (by decide +kernel) fun t hf y => ?_
  have ht : t.val < 6 := lt_of_lt_of_eq t.isLt N_0
  blk_simp
  rw [after0_8]
  by_cases h0 : t.val % 6 = 0
  · rw [outsAt0_A m c t h0 (by omega)]
    frame_out
    exact point8 m c t y
  · rw [outsAt0_B m c t h0 (by omega)]
    frame_out
    exact point8 m c t y

/-- One point's share of the norm weight's gradient. -/
theorem part9 (c : Dev nD) (t : Fin cfg0.N) (k : Fin 256) (j : S1x4096.Idx) (d : Fin 4096) (hd : d.val = (j 1).val)
    (i : Fin 1536) (hi : i.val = 256 * t.val + k.val) :
    k0_pay9 (F := Ideal) (iblk m c 3 t) (iblk m c 4 t) (ld1 m c t) (sc0 m c t) (iblk m c 5 t) (ix2 k (j 1))
        * k0_pay10 (F := Ideal) (iblk m c 6 t) (ix2 k (j 1))
      = Cert.GradX.dh (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) i d
        * (m ((c : Thread nD τ).loc main_arg2)) (ix3 0 i d) * (m ((c : Thread nD τ).loc main_arg3)) (ix2 i 0) := by
  unfold ld1 sc0
  pointwise [k0_pay10, k0_pay9, k0_pay5, k0_pay4, Cert.GradX.dh]
  blk_point [iblk, V, idx t]

/-- A scratch carried from the point before, read back. -/
theorem read_whole {κ : Kind} {Val : EltTy → Type} (b : Ref sig κ) (h : (Memref.whole b).IsWhole)
    (X : b.ty.shape.Idx → Val b.ty.elt) : View.read Val (View.whole b) (h.unread X) = X := h.read_unread X

theorem hpay2 (a b : FVec Ideal S256x4096 .f32) (j : S1x4096.Idx) :
    k0_pay2 (F := Ideal) a b j = (0 : EReal) + ∑ k : Fin 256, a (ix2 k (j 1)) * b (ix2 k (j 1)) := by
  pointwise [k0_pay2, k0_pay1]

theorem hpay3 (a b : FVec Ideal S256x4096 .f32) (p : FVec Ideal S1x4096 .f32) (j : S1x4096.Idx) :
    k0_pay3 (F := Ideal) a b p j = p j + ∑ k : Fin 256, a (ix2 k (j 1)) * b (ix2 k (j 1)) := by
  pointwise [k0_pay3, k0_pay1]

/-- What result 2 holds after the run. -/
theorem final9 (c : Dev nD) : (dats m 0 c).arrAt 9 (cfgs 0).N
    = Cert.GradX.gnw (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 9 _ (by decide +kernel) fun t hf y => ?_
  have ht : t.val < 6 := lt_of_lt_of_eq t.isLt N_0
  have h5 : t.val % 6 = 5 := (flush0_9 t).mp hf
  blk_simp
  rw [after0_9]
  have e : (outsAt0 m c t.val t.isLt).2.2.1 = (outsAt0 m c t.val t.isLt).2.2.2 := by
    rw [outsAt0_B m c t (by omega) (by omega)]
    frame_out
  rw [e]
  rw [Pipeline.eq_sum_fin_of_reset_step_apply_of_flush (fun n h => (outsAt0 m c n h).2.2.2) 6 (fun _ => 0) _
    (fun t h j => by
      have ht : t.val < 6 := lt_of_lt_of_eq t.isLt N_0
      rw [outsAt0_A m c t h (by omega)]; frame_out; rw [hpay2])
    (fun t h j => by
      have ht : t.val < 6 := lt_of_lt_of_eq t.isLt N_0
      rw [outsAt0_B m c t h (by omega)]; frame_out; rw [hpay3, read_whole])
    t h5 _, zero_add]
  refine Fin.sum_mul_add_congr fun s k hl => ?_
  have hs : s.val < 6 := s.isLt
  exact part9 m c _ k _ _ (by simp [win0_9, idx t]) _ (by simp; omega)

end Cert.GradXIdeal.Final

namespace Cert.GradXRefIdeal.Final

open Cert.GradXRefIdeal Cert.GradXRefIdeal.Gen

variable (m : (ℓ : Loc nD τ sig) → Buf (Elt Ideal) ℓ)

/-- The block index of every window at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- What result 0 holds after the run. -/
theorem final7 (c : Dev nD) : (dats m 0 c).arrAt 7 (cfgs 0).N
    = Cert.GradX.dx (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 7 _ (by decide +kernel) fun t hf y => ?_
  blk_simp
  rw [after0_7]
  frame_out
  pointwise [k0_pay6, k0_pay5, k0_pay4, k0_pay3, k0_pay2, Cert.GradX.dx, Cert.GradX.xdot, Cert.GradX.dh]
  blk_point [iblk, V, idx t]

/-- What result 1 holds after the run. -/
theorem final8 (c : Dev nD) : (dats m 0 c).arrAt 8 (cfgs 0).N
    = Cert.GradX.xdot (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 8 _ (by decide +kernel) fun t hf y => ?_
  blk_simp
  rw [after0_8]
  frame_out
  pointwise [k0_pay5, k0_pay4, k0_pay3, k0_pay2, Cert.GradX.xdot, Cert.GradX.dh]
  blk_point [iblk, V, idx t]

/-- What result 2 holds after the run. -/
theorem final9 (c : Dev nD) : (dats m 0 c).arrAt 9 (cfgs 0).N
    = Cert.GradX.gnw (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 9 _ (by decide +kernel) fun t hf y => ?_
  blk_simp
  rw [after0_9]
  frame_out
  pointwise [k0_pay1, k0_pay7, k0_pay3, k0_pay2, Cert.GradX.gnw, Cert.GradX.dh]
  blk_point [iblk, V, idx t]

end Cert.GradXRefIdeal.Final

end
-- ==== Proof.GradXPair.lean ====
module

public import proofs.«01_k».proof.Defs
public import proofs.«01_k».proof.Proof.GradXValue
public import Idealize.ShloMosaic.Lib.Claim

@[expose] public section

set_option maxRecDepth 16384

noncomputable section

open Idealize.ShloMosaic Idealize.ShloMosaic.TcCoe Idealize.SL.Sem

namespace Cert.GradX

set_option maxHeartbeats 1600000 in
/-- The kernel's results are the reference's. -/
theorem pair : Cert.algebraic_GradXIdeal_GradXRefIdeal := by
  pair_intro
  · run_from Cert.GradXIdeal.Gen.run_main m g
  · run_from Cert.GradXRefIdeal.Gen.run_main m' g'
    · refine (Cert.GradXRefIdeal.Final.final7 m' c).trans (Eq.trans ?_ (Cert.GradXIdeal.Final.final7 m c).symm)
      simp only [hagree c]
    · refine (Cert.GradXRefIdeal.Final.final8 m' c).trans (Eq.trans ?_ (Cert.GradXIdeal.Final.final8 m c).symm)
      simp only [hagree c]
    · refine (Cert.GradXRefIdeal.Final.final9 m' c).trans (Eq.trans ?_ (Cert.GradXIdeal.Final.final9 m c).symm)
      simp only [hagree c]

end Cert.GradX

end
-- ==== Proof.GradWInValue.lean ====
module

public import proofs.«01_k».proof.Proof.Gen.GradWInIdeal.Value
public import proofs.«01_k».proof.Proof.Gen.GradWInRefIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWIn

/-- The product of the gradient codes with the activation codes, times the product of the two scales. -/
def prod (D : FVec Ideal Cert.GradWInIdeal.S4640x1536 .fp8e5m2) (H : FVec Ideal Cert.GradWInIdeal.S1536x4096 .fp8e4m3)
    (ds : FVec Ideal Cert.GradWInIdeal.S1x128 .f32) (sh : FVec Ideal ⟨0, ![]⟩ .f32) :
    FVec Ideal Cert.GradWInIdeal.S4640x4096 .f32 := fun j =>
  (∑ k : Fin 1536, D (ix2 (j 0) k) * H (ix2 k (j 1))) * (sh ix0 * ds (ix2 0 0))

/-- The same with the factors of every term exchanged. -/
theorem prod_comm (D : FVec Ideal Cert.GradWInIdeal.S4640x1536 .fp8e5m2) (H : FVec Ideal Cert.GradWInIdeal.S1536x4096 .fp8e4m3)
    (ds : FVec Ideal Cert.GradWInIdeal.S1x128 .f32) (sh : FVec Ideal ⟨0, ![]⟩ .f32) :
    prod D H ds sh = fun j => (∑ k : Fin 1536, H (ix2 k (j 1)) * D (ix2 (j 0) k)) * (sh ix0 * ds (ix2 0 0)) :=
  funext fun j => congrArg (fun z : EReal => z * (sh ix0 * ds (ix2 0 0))) (Finset.sum_congr rfl fun k _ => mul_comm _ _)

end Cert.GradWIn

namespace Cert.GradWInIdeal.Final

open Cert.GradWInIdeal Cert.GradWInIdeal.Gen

variable (m : (ℓ : Loc nD τ sig) → Buf (Elt Ideal) ℓ)

/-- The block index of every window at every grid point. -/
theorem idx : ∀ t : Fin cfg0.N, win0_0.index t = ![0, 0] ∧ win0_1.index t = ![0, 0] ∧ win0_2.index t = ![t.val, 0]
    ∧ win0_3.index t = ![0, 0] ∧ win0_4.index t = ![t.val, 0] :=
  (by decide +kernel : ∀ t : Fin grid0.N, _)

/-- What the result holds after the run. -/
theorem final (c : Dev nD) : (dats m 0 c).arrAt 4 (cfgs 0).N
    = Cert.GradWIn.prod (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  pointwise [k0_pay1, Cert.GradWIn.prod]
  blk_point [iblk, V, idx t]

end Cert.GradWInIdeal.Final

namespace Cert.GradWInRefIdeal.Final

open Cert.GradWInRefIdeal Cert.GradWInRefIdeal.Gen

variable (m : (ℓ : Loc nD τ sig) → Buf (Elt Ideal) ℓ)

/-- The block index of every window at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- What the result holds after the run. -/
theorem final (c : Dev nD) : (dats m 0 c).arrAt 4 (cfgs 0).N
    = Cert.GradWIn.prod (m ((c : Thread nD τ).loc main_arg0)) (m ((c : Thread nD τ).loc main_arg1))
        (m ((c : Thread nD τ).loc main_arg2)) (m ((c : Thread nD τ).loc main_arg3)) := by
  rw [Cert.GradWIn.prod_comm]
  refine (dats m 0 c).arrAt_eq_of_covers 4 _ (by decide +kernel) fun t hf y => ?_
  blk_simp
  rw [after0_4]
  frame_out
  pointwise [k0_pay1]
  blk_point [iblk, V, idx t]

end Cert.GradWInRefIdeal.Final

end
-- ==== Proof.GradWInPair.lean ====
module

public import proofs.«01_k».proof.Defs
public import proofs.«01_k».proof.Proof.GradWInValue
public import Idealize.ShloMosaic.Lib.Claim

@[expose] public section

set_option maxRecDepth 16384

noncomputable section

open Idealize.ShloMosaic Idealize.ShloMosaic.TcCoe Idealize.SL.Sem

namespace Cert.GradWIn

/-- The kernel's results are the reference's. -/
theorem pair : Cert.algebraic_GradWInIdeal_GradWInRefIdeal := by
  pair_intro
  · run_from Cert.GradWInIdeal.Gen.run_main m g
  · run_from Cert.GradWInRefIdeal.Gen.run_main m' g'
    · refine (Cert.GradWInRefIdeal.Final.final m' c).trans (Eq.trans ?_ (Cert.GradWInIdeal.Final.final m c).symm)
      simp only [hagree c]

end Cert.GradWIn

end
-- ==== Proof.ConvSpec.lean ====
/-
The causal convolution with its activation, and the codes of one group of its channels.
-/
module

public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Conv

section Spec
variable (X : FVec Ideal ⟨3, ![12, 4640, 128]⟩ .f32) (W : FVec Ideal ⟨2, ![2560, 4]⟩ .f32) (b : FVec Ideal ⟨1, ![2560]⟩ .f32)

/-- Channel `d` of the convolution's input, `k` positions before position `s`: zero before the first. -/
def tapAt (d : Fin 2560) (s : Fin 1536) (k : ℕ) : EReal :=
  if k ≤ s.val then X (ix3 ⟨(s.val - k) / 128, by omega⟩ ⟨2048 + d.val, by omega⟩ ⟨(s.val - k) % 128, by omega⟩) else 0

/-- The convolution with its bias. -/
def pre (d : Fin 2560) (s : Fin 1536) : EReal :=
  b (ix1 d) + W (ix2 d 3) * tapAt X d s 0 + W (ix2 d 2) * tapAt X d s 1 + W (ix2 d 1) * tapAt X d s 2 + W (ix2 d 0) * tapAt X d s 3

/-- The activation. -/
def act (d : Fin 2560) (s : Fin 1536) : EReal := pre X W b d s * Ideal.logistic (pre X W b d s)

end Spec

/-- The largest magnitude along the state axis. -/
def mag (v : Fin 128 → EReal) : EReal :=
  Finset.fold max (Ideal.ofBits .f32 0xFF800000#32 : EReal) (fun n => (FloatOps.absf (F := Ideal) (φ := .f32) (v n) : EReal)) Finset.univ

/-- A value's code under the scale of its row. -/
def code (v : Fin 128 → EReal) (n : Fin 128) : EReal :=
  min (Ideal.ofBits .f32 0x43E00000#32) (max (Ideal.ofBits .f32 0xC3E00000#32)
    (Ideal.div (v n) (if 0 < mag v then Ideal.div (mag v) (Ideal.ofBits .f32 0x43E00000#32) else 1)))

/-- The channel of state `n` of group `g`, the operand's channels starting at `o`. -/
def chan (o : ℕ) (ho : o ≤ 2304) (g : Fin 2) (n : Fin 128) : Fin 2560 := ⟨o + 128 * g.val + n.val, by omega⟩

/-- One operand's codes: groups, positions, states. -/
def codes (o : ℕ) (ho : o ≤ 2304) (X : FVec Ideal ⟨3, ![12, 4640, 128]⟩ .f32) (W : FVec Ideal ⟨2, ![2560, 4]⟩ .f32)
    (b : FVec Ideal ⟨1, ![2560]⟩ .f32) : FVec Ideal ⟨3, ![2, 1536, 128]⟩ .fp8e4m3 := fun j =>
  code (fun n => act X W b (chan o ho (j 0) n) (j 1)) (j 2)

section Block
variable (u p : FVec Ideal ⟨3, ![1, 128, 128]⟩ .f32) (w : FVec Ideal ⟨3, ![5, 128, 128]⟩ .f32)

/-- A block's row shifted by `k` lanes, the block before it running in. -/
def shifted (k : ℕ) (n l : Fin 128) : EReal :=
  if k ≤ l.val then u (ix3 0 n ⟨l.val - k, by omega⟩) else p (ix3 0 n ⟨(l.val + 128 - k) % 128, by omega⟩)

/-- The convolution of one block. -/
def conv (n l : Fin 128) : EReal :=
  w (ix3 4 n l) + w (ix3 3 n l) * u (ix3 0 n l) + w (ix3 2 n l) * shifted u p 1 n l + w (ix3 1 n l) * shifted u p 2 n l
    + w (ix3 0 n l) * shifted u p 3 n l

/-- The codes of one block. -/
def blockCode (j : Shape.Idx ⟨3, ![1, 128, 128]⟩) : EReal :=
  code (fun n => conv u p w n (j 1) * Ideal.logistic (conv u p w n (j 1))) (j 2)

variable (X : FVec Ideal ⟨3, ![12, 4640, 128]⟩ .f32) (W : FVec Ideal ⟨2, ![2560, 4]⟩ .f32) (b : FVec Ideal ⟨1, ![2560]⟩ .f32)

/-- A block of the input at chunk `q`, rows `o` on of the channels, with the chunk before it and the taps beside it. -/
structure At (q : Fin 12) (o : ℕ) (ho : o ≤ 2432) : Prop where
  hu : ∀ n l : Fin 128, u (ix3 0 n l) = X (ix3 q ⟨2048 + o + n.val, by omega⟩ l)
  hz : q.val = 0 → ∀ n l : Fin 128, p (ix3 0 n l) = 0
  hp : q.val ≠ 0 → ∀ n l : Fin 128, p (ix3 0 n l) = X (ix3 ⟨q.val - 1, by omega⟩ ⟨2048 + o + n.val, by omega⟩ l)
  hb : ∀ n l : Fin 128, w (ix3 4 n l) = b (ix1 ⟨o + n.val, by omega⟩)
  hw : ∀ (k : Fin 5) (hk : k.val < 4) (n l : Fin 128), w (ix3 k n l) = W (ix2 ⟨o + n.val, by omega⟩ ⟨k.val, hk⟩)

variable {u p w X W b} {q : Fin 12} {o : ℕ} {ho : o ≤ 2432} (h : At u p w X W b q o ho)
include h

theorem At.shifted (k : ℕ) (hk : k ≤ 3) (n l : Fin 128) (d : Fin 2560) (s : Fin 1536) (hd : d.val = o + n.val)
    (hs : s.val = 128 * q.val + l.val) : shifted u p k n l = tapAt X d s k := by
  unfold Cert.Conv.shifted tapAt
  by_cases hl : k ≤ l.val
  · rw [if_pos hl, if_pos (by omega), h.hu]
    congr 2 <;> exact Fin.ext (by simp only []; omega)
  · rw [if_neg hl]
    by_cases hq : q.val = 0
    · rw [if_neg (by omega), h.hz hq]
    · rw [if_pos (by omega), h.hp hq]
      congr 2 <;> exact Fin.ext (by simp only []; omega)

theorem At.conv (n l : Fin 128) (d : Fin 2560) (s : Fin 1536) (hd : d.val = o + n.val)
    (hs : s.val = 128 * q.val + l.val) : conv u p w n l = pre X W b d s := by
  have hd' : d = ⟨o + n.val, by omega⟩ := Fin.ext hd
  have h0 : u (ix3 0 n l) = tapAt X d s 0 := by
    rw [← h.shifted 0 (by omega) n l d s hd hs]; unfold Cert.Conv.shifted; rw [if_pos (Nat.zero_le _)]; rfl
  unfold Cert.Conv.conv pre
  rw [h0, h.shifted 1 (by omega) n l d s hd hs, h.shifted 2 (by omega) n l d s hd hs, h.shifted 3 (by omega) n l d s hd hs,
    h.hb, h.hw 3 (by decide), h.hw 2 (by decide), h.hw 1 (by decide), h.hw 0 (by decide), hd']
  rfl

/-- The block's codes are the whole operand's. -/
theorem At.codes (c : ℕ) (hc : c ≤ 2304) (j : Shape.Idx ⟨3, ![1, 128, 128]⟩) (i : Shape.Idx ⟨3, ![2, 1536, 128]⟩)
    (h0 : o = c + 128 * (i 0 : ℕ)) (h1 : (i 1 : ℕ) = 128 * q.val + (j 1 : ℕ)) (h2 : (i 2 : ℕ) = (j 2 : ℕ)) :
    blockCode u p w j = Cert.Conv.codes c hc X W b i := by
  unfold blockCode Cert.Conv.codes
  rw [show (j 2 : Fin 128) = (i 2 : Fin 128) from Fin.ext h2.symm]
  congr 1
  funext n
  unfold act
  rw [h.conv n (j 1) (chan c hc (i 0) n) (i 1) (by unfold chan; simp only []; omega) h1]

end Block

end Cert.Conv

end
-- ==== Proof.ConvIdealRun.lean ====
module

public import proofs.«01_k».proof.Proof.Gen.ConvIdeal.Skeleton
public import proofs.«01_k».proof.Proof.Gen.ConvIdeal.Frame

@[expose] public section

set_option maxRecDepth 65536

noncomputable section

namespace Cert.ConvIdeal.Hand

open Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

set_option maxHeartbeats 40000000 in
/-- The body at a point whose chunk is not the first, over the contents it finds: the stores it leaves in each block and in the carried rows. -/
noncomputable def run_0 (c : Dev nD) (i : grid0.Coords) (arg2 : Memref sig .tc .vmem S1x128x128 .f32) (harg2 : arg2.IsWhole) (arg3 : Memref sig .tc .vmem S1x128x128 .f32) (harg3 : arg3.IsWhole) (arg4 : Memref sig .tc .vmem S5x128x128 .f32) (harg4 : arg4.IsWhole) (arg5 : Memref sig .tc .vmem S5x128x128 .f32) (harg5 : arg5.IsWhole) (arg6 : Memref sig .tc .vmem S1x128x128 .fp8e4m3) (harg6 : arg6.IsWhole) (arg7 : Memref sig .tc .vmem S1x128x128 .fp8e4m3) (harg7 : arg7.IsWhole) (arg8 : Memref sig .tc .vmem S2x1280x128 .f32) (harg8 : arg8.IsWhole) (hc0 : ¬(k0_cond1 i = 1#1))
    (x0 : Vec F S1x128x128 .f32) (x1 : Vec F S1x128x128 .f32) (x2 : Vec F S5x128x128 .f32) (x3 : Vec F S5x128x128 .f32) (x6 : Vec F S2x1280x128 .f32) :
    Σ' (L_arg6 : List (View.Piece (Elt F) S1x128x128 .fp8e4m3)), Σ' (L_arg7 : List (View.Piece (Elt F) S1x128x128 .fp8e4m3)), { L_arg8 : List (View.Piece (Elt F) S2x1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L_arg6) ∗ (∃ f, arg7.view.loc (c : Thread nD τ) ↦[arg7.view.set]{fullShare} arg7.view.writes (Elt F) f L_arg7) ∗ (arg8.view.loc (c : Thread nD τ) ↦[arg8.view.set]{fullShare} arg8.view.writes (Elt F) (harg8.unread x6) L_arg8)) -∗ K ⟨⟩))
          ⊢ wp frame (wpE (defs₀ (F := F)) Variants.none c none) E (cc0_ssd_fwd i arg2 harg2 arg3 harg3 arg4 harg4 arg5 harg5 arg6 harg6 arg7 harg7 arg8 harg8) K } := by
  refine ⟨?_, ?_, ?_, fun E K => ?run⟩
  case run =>
    simp only [cc0_ssd_fwd_eq_skeleton]; unfold cc0_ssd_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexact H6

set_option maxHeartbeats 40000000 in
/-- The body at a point of the first chunk, which clears the carried rows first. -/
noncomputable def run_1 (c : Dev nD) (i : grid0.Coords) (arg2 : Memref sig .tc .vmem S1x128x128 .f32) (harg2 : arg2.IsWhole) (arg3 : Memref sig .tc .vmem S1x128x128 .f32) (harg3 : arg3.IsWhole) (arg4 : Memref sig .tc .vmem S5x128x128 .f32) (harg4 : arg4.IsWhole) (arg5 : Memref sig .tc .vmem S5x128x128 .f32) (harg5 : arg5.IsWhole) (arg6 : Memref sig .tc .vmem S1x128x128 .fp8e4m3) (harg6 : arg6.IsWhole) (arg7 : Memref sig .tc .vmem S1x128x128 .fp8e4m3) (harg7 : arg7.IsWhole) (arg8 : Memref sig .tc .vmem S2x1280x128 .f32) (harg8 : arg8.IsWhole) (hc0 : (k0_cond1 i = 1#1))
    (x0 : Vec F S1x128x128 .f32) (x1 : Vec F S1x128x128 .f32) (x2 : Vec F S5x128x128 .f32) (x3 : Vec F S5x128x128 .f32) (x6 : Vec F S2x1280x128 .f32) :
    Σ' (L_arg6 : List (View.Piece (Elt F) S1x128x128 .fp8e4m3)), Σ' (L_arg7 : List (View.Piece (Elt F) S1x128x128 .fp8e4m3)), { L_arg8 : List (View.Piece (Elt F) S2x1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L_arg6) ∗ (∃ f, arg7.view.loc (c : Thread nD τ) ↦[arg7.view.set]{fullShare} arg7.view.writes (Elt F) f L_arg7) ∗ (arg8.view.loc (c : Thread nD τ) ↦[arg8.view.set]{fullShare} arg8.view.writes (Elt F) (harg8.unread x6) L_arg8)) -∗ K ⟨⟩))
          ⊢ wp frame (wpE (defs₀ (F := F)) Variants.none c none) E (cc0_ssd_fwd i arg2 harg2 arg3 harg3 arg4 harg4 arg5 harg5 arg6 harg6 arg7 harg7 arg8 harg8) K } := by
  refine ⟨?_, ?_, ?_, fun E K => ?run⟩
  case run =>
    simp only [cc0_ssd_fwd_eq_skeleton]; unfold cc0_ssd_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexact H6

end Cert.ConvIdeal.Hand

end
-- ==== Proof.ConvIdealOut.lean ====
/-
The two blocks the body stores, as functions of the block it reads, the block before it and the taps; what the
carried rows hold after a point.
-/
module

public import proofs.«01_k».proof.Proof.ConvIdealRun
public import Idealize.ShloMosaic.Lib.Pipeline.Value
public import Idealize.ShloMosaic.Lib.VecWindow
public import Idealize.ShloMosaic.Lib.WritesUnit

@[expose] public section

set_option maxRecDepth 65536

noncomputable section

namespace Cert.ConvIdeal.Hand

open Cert.ConvIdeal.Gen
open Idealize.ShloMosaic Idealize.ShloMosaic.TcCoe Idealize.ShloMosaic.Tactic
open Idealize.ShloMosaic.VecWindow

variable {F : FTy → Type} [FloatOps F]

/-- Row block `k` of the taps. -/
abbrev tap (w : Vec F S5x128x128 .f32) (k : ℕ) (inb : ∀ a, (![k, 0, 0] : Fin 3 → ℕ) a + S1x128x128.size a ≤ S5x128x128.size a) :
    Vec F S1x128x128 .f32 := window (s := S5x128x128) w ![k, 0, 0] S1x128x128.size inb

/-- What the body stores into its first result: from the block `u`, the block before it `p`, the taps and the bias. -/
def outBof (u p : Vec F S1x128x128 .f32) (w4 w3 w2 w1 w0 : Vec F S1x128x128 .f32) : Vec F S1x128x128 .fp8e4m3 :=
  k0_pay1 (k0_pay16 (k0_pay9 (k0_pay4 u) (k0_pay5 p) (k0_pay6 u p w4 w3 w2 w1) k0_pay7 w0))

/-- The row numbers the body compares with. -/
abbrev lanes : IVec S128x128 32 := iota .tc S128x128 32 [1] iota_S128x128_d1_w32

/-- What the body stores into its second result. -/
def outCof (u p : Vec F S1x128x128 .f32) (w4 w3 w2 w1 w0 : Vec F S1x128x128 .f32) : Vec F S1x128x128 .fp8e4m3 :=
  k0_pay2 (k0_pay15 lanes (k0_pay10 u) (k0_pay11 p) (k0_pay12 lanes u p w4 w3 w2) (k0_pay13 lanes u p) w1 w0)
    (k0_pay17 lanes (k0_pay10 u) (k0_pay11 p) (k0_pay12 lanes u p w4 w3 w2) (k0_pay13 lanes u p) w1 w0)
    (k0_pay18 lanes (k0_pay10 u) (k0_pay11 p) (k0_pay12 lanes u p w4 w3 w2) (k0_pay13 lanes u p) w1 w0) k0_pay19

/-- The first result's block, the taps stacked. -/
def outB (u p : Vec F S1x128x128 .f32) (w : Vec F S5x128x128 .f32) : Vec F S1x128x128 .fp8e4m3 :=
  outBof u p (tap w 4 inb_S5x128x128_S1x128x128_4_0_0) (tap w 3 inb_S5x128x128_S1x128x128_3_0_0)
    (tap w 2 inb_S5x128x128_S1x128x128_2_0_0) (tap w 1 inb_S5x128x128_S1x128x128_1_0_0) (tap w 0 inb_S5x128x128_S1x128x128_0_0_0)

/-- The second result's block, the taps stacked. -/
def outC (u p : Vec F S1x128x128 .f32) (w : Vec F S5x128x128 .f32) : Vec F S1x128x128 .fp8e4m3 :=
  outCof u p (tap w 4 inb_S5x128x128_S1x128x128_4_0_0) (tap w 3 inb_S5x128x128_S1x128x128_3_0_0)
    (tap w 2 inb_S5x128x128_S1x128x128_2_0_0) (tap w 1 inb_S5x128x128_S1x128x128_1_0_0) (tap w 0 inb_S5x128x128_S1x128x128_0_0_0)

variable (c : Dev nD) (i : grid0.Coords) (arg2 : Memref sig .tc .vmem S1x128x128 .f32) (harg2 : arg2.IsWhole) (arg3 : Memref sig .tc .vmem S1x128x128 .f32) (harg3 : arg3.IsWhole) (arg4 : Memref sig .tc .vmem S5x128x128 .f32) (harg4 : arg4.IsWhole) (arg5 : Memref sig .tc .vmem S5x128x128 .f32) (harg5 : arg5.IsWhole) (arg6 : Memref sig .tc .vmem S1x128x128 .fp8e4m3) (harg6 : arg6.IsWhole) (arg7 : Memref sig .tc .vmem S1x128x128 .fp8e4m3) (harg7 : arg7.IsWhole) (arg8 : Memref sig .tc .vmem S2x1280x128 .f32) (harg8 : arg8.IsWhole)
  (x0 x1 : Vec F S1x128x128 .f32) (x2 x3 : Vec F S5x128x128 .f32) (x6 : Vec F S2x1280x128 .f32)

/-- The carried rows a point reads or stores: 128 rows of the point's half, from row `o`. -/
theorem rows_inb {g o : ℕ} (hg : g < 2) (ho : o + 128 ≤ 1280) :
    ∀ a, (![g, o, 0] : Fin 3 → ℕ) a + S1x128x128.size a ≤ S2x1280x128.size a := fun a => by
  match a with
  | ⟨0, _⟩ => exact hg
  | ⟨1, _⟩ => exact ho
  | ⟨2, _⟩ => exact Nat.le_refl 128

abbrev rows (X : Vec F S2x1280x128 .f32) (g o : ℕ) (hg : g < 2) (ho : o + 128 ≤ 1280) : Vec F S1x128x128 .f32 :=
  window (s := S2x1280x128) X ![g, o, 0] S1x128x128.size (rows_inb hg ho)

theorem off2_eq : ∀ i : grid0.Coords, k0_off2 i = ![(i 1).val, 1024, 0] := by decide +kernel
theorem off3_eq : ∀ i : grid0.Coords, k0_off3 i = ![(i 1).val, 1152, 0] := by decide +kernel
theorem off1_eq : ∀ i : grid0.Coords, k0_off1 i = ![(i 1).val, 0, 0] := by decide +kernel
theorem half_lt : ∀ i : grid0.Coords, (i 1).val < 2 := by decide +kernel

/-- The block before the first one: zeros. -/
abbrev zeros : Vec F S1x128x128 .f32 := fun _ => Scalar.ofBits .f32 0x00000000#32

theorem pay3_apply (x : S1x1280x128.Idx) : (k0_pay3 : FVec F S1x1280x128 .f32) x = Scalar.ofBits .f32 0x00000000#32 := rfl

/-- The body's loads: a row block of the taps, a whole block, and the point's two rows of the carried buffer. -/
abbrev ldTap (m : Memref sig .tc .vmem S5x128x128 .f32) (hm : m.IsWhole) (x : Vec F S5x128x128 .f32) (k : ℕ) (inb : ∀ a, (![k, 0, 0] : Fin 3 → ℕ) a + S1x128x128.size a ≤ S5x128x128.size a) : Vec F S1x128x128 .f32 :=
  m.view.readAt (Elt F) (Rect.unit (s := S5x128x128) ![k, 0, 0] S1x128x128.size inb).toLoadRect (hm.unread x)
abbrev ldBlk (m : Memref sig .tc .vmem S1x128x128 .f32) (hm : m.IsWhole) (x : Vec F S1x128x128 .f32) : Vec F S1x128x128 .f32 :=
  m.view.readAt (Elt F) (Rect.unit ![0, 0, 0] S1x128x128.size inb_S1x128x128_S1x128x128_0_0_0).toLoadRect (hm.unread x)
abbrev ld2 : Vec F S1x128x128 .f32 :=
  arg8.view.readAt (Elt F) (Rect.unit (s := S2x1280x128) (k0_off2 i) S1x128x128.size (k0_off2_inb i)).toLoadRect (harg8.unread x6)
abbrev ld3 : Vec F S1x128x128 .f32 :=
  arg8.view.readAt (Elt F) (Rect.unit (s := S2x1280x128) (k0_off3 i) S1x128x128.size (k0_off3_inb i)).toLoadRect (harg8.unread x6)

theorem load2 (inb) : arg8.view.readAt (Elt F) (Rect.unit (s := S2x1280x128) (k0_off2 i) S1x128x128.size inb).toLoadRect (harg8.unread x6)
    = rows x6 (i 1).val 1024 (half_lt i) (by omega) := by
  rw [View.readAt_unit _ _ _ (off2_eq i) (rows_inb (half_lt i) (by omega)), harg8.read_unread]

theorem load3 (inb) : arg8.view.readAt (Elt F) (Rect.unit (s := S2x1280x128) (k0_off3 i) S1x128x128.size inb).toLoadRect (harg8.unread x6)
    = rows x6 (i 1).val 1152 (half_lt i) (by omega) := by
  rw [View.readAt_unit _ _ _ (off3_eq i) (rows_inb (half_lt i) (by omega)), harg8.read_unread]

theorem loadTap (x : Vec F S5x128x128 .f32) (m : Memref sig .tc .vmem S5x128x128 .f32) (hm : m.IsWhole) (k : ℕ) (inb) :
    m.view.readAt (Elt F) (Rect.unit (s := S5x128x128) ![k, 0, 0] S1x128x128.size inb).toLoadRect (hm.unread x) = tap x k inb := by
  rw [View.readAt_unit _ _ _ rfl inb, hm.read_unread]

theorem loadBlk (x : Vec F S1x128x128 .f32) (m : Memref sig .tc .vmem S1x128x128 .f32) (hm : m.IsWhole) (inb) :
    m.view.readAt (Elt F) (Rect.unit ![0, 0, 0] S1x128x128.size inb).toLoadRect (hm.unread x) = x := by
  rw [View.readAt_full, hm.read_unread]

theorem ldBlk_eq (x : Vec F S1x128x128 .f32) (m : Memref sig .tc .vmem S1x128x128 .f32) (hm : m.IsWhole) : ldBlk m hm x = x := loadBlk x m hm _

/-- Rows read off the carried buffer just cleared, with the body's own store of other rows over it. -/
theorem cleared (v : View sig .tc .vmem S2x1280x128 .f32) (f) (inb) (y : S2x1280x128.Idx) (hy : (y 0).val = (i 1).val) :
    v.read (Elt F) (v.writes (Elt F) f [⟨Rect.unit (k0_off1 i) S1x1280x128.size inb, k0_pay3⟩]) y = Scalar.ofBits .f32 0x00000000#32 := by
  refine (View.read_writes_cons_unit_of_mem v f inb k0_pay3 [] y (fun a => ⟨(y a).val - (![(i 1).val, 0, 0] : Fin 3 → ℕ) a, by
      match a with
      | ⟨0, _⟩ => show (y 0).val - (i 1).val < 1; omega
      | ⟨1, _⟩ => exact (y 1).isLt
      | ⟨2, _⟩ => exact (y 2).isLt⟩) (off1_eq i) (fun a => by
      match a with
      | ⟨0, _⟩ => show (y 0).val = (i 1).val + ((y 0).val - (i 1).val); omega
      | ⟨1, _⟩ => show (y 1).val = 0 + ((y 1).val - 0); omega
      | ⟨2, _⟩ => show (y 2).val = 0 + ((y 2).val - 0); omega)).trans ?_
  exact pay3_apply _

theorem cov2 (inb inb') : arg8.view.readCov [⟨Rect.unit (k0_off1 i) S1x1280x128.size inb, k0_pay3⟩] (Rect.unit (s := S2x1280x128) (k0_off2 i) S1x128x128.size inb').toLoadRect
    = (zeros : Vec F S1x128x128 .f32) := by
  funext y
  refine (congrFun (View.readAt_unit arg8.view _ inb' (off2_eq i) (rows_inb (half_lt i) (by omega))) y).trans ?_
  exact cleared i _ _ inb _ (by show (i 1).val + 1 * (y 0).val = _; have : (y 0).val < 1 := (y 0).isLt; omega)

theorem cov3 (inb inb' inb'' w) : arg8.view.readCov [⟨Rect.unit (k0_off2 i) S1x128x128.size inb'', w⟩, ⟨Rect.unit (k0_off1 i) S1x1280x128.size inb, k0_pay3⟩] (Rect.unit (s := S2x1280x128) (k0_off3 i) S1x128x128.size inb').toLoadRect
    = (zeros : Vec F S1x128x128 .f32) := by
  funext y
  refine (congrFun (View.readAt_unit arg8.view _ inb' (off3_eq i) (rows_inb (half_lt i) (by omega))) y).trans ?_
  refine (View.read_writes_cons_unit_of_not_mem arg8.view _ inb'' w _ _ (off2_eq i) 1 (Or.inr ?_)).trans ?_
  · show 1024 + 128 ≤ 1152 + 1 * (y 1).val; omega
  exact cleared i _ _ inb _ (by show (i 1).val + 1 * (y 0).val = _; have : (y 0).val < 1 := (y 0).isLt; omega)

section Later
variable (hc0 : ¬ k0_cond1 i = 1#1)

theorem run_0_1 : (run_0 c i arg2 harg2 arg3 harg3 arg4 harg4 arg5 harg5 arg6 harg6 arg7 harg7 arg8 harg8 hc0 x0 x1 x2 x3 x6).1 = [⟨Rect.unit ![0, 0, 0] S1x128x128.size inb_S1x128x128_S1x128x128_0_0_0,
    outBof (ldBlk arg2 harg2 x0) (ld2 i arg8 harg8 x6) (ldTap arg4 harg4 x2 4 inb_S5x128x128_S1x128x128_4_0_0) (ldTap arg4 harg4 x2 3 inb_S5x128x128_S1x128x128_3_0_0) (ldTap arg4 harg4 x2 2 inb_S5x128x128_S1x128x128_2_0_0) (ldTap arg4 harg4 x2 1 inb_S5x128x128_S1x128x128_1_0_0) (ldTap arg4 harg4 x2 0 inb_S5x128x128_S1x128x128_0_0_0)⟩] := rfl

theorem run_0_2 : (run_0 c i arg2 harg2 arg3 harg3 arg4 harg4 arg5 harg5 arg6 harg6 arg7 harg7 arg8 harg8 hc0 x0 x1 x2 x3 x6).2.1 = [⟨Rect.unit ![0, 0, 0] S1x128x128.size inb_S1x128x128_S1x128x128_0_0_0,
    outCof (ldBlk arg3 harg3 x1) (ld3 i arg8 harg8 x6) (ldTap arg5 harg5 x3 4 inb_S5x128x128_S1x128x128_4_0_0) (ldTap arg5 harg5 x3 3 inb_S5x128x128_S1x128x128_3_0_0) (ldTap arg5 harg5 x3 2 inb_S5x128x128_S1x128x128_2_0_0) (ldTap arg5 harg5 x3 1 inb_S5x128x128_S1x128x128_1_0_0) (ldTap arg5 harg5 x3 0 inb_S5x128x128_S1x128x128_0_0_0)⟩] := rfl

theorem run_0_3 : (run_0 c i arg2 harg2 arg3 harg3 arg4 harg4 arg5 harg5 arg6 harg6 arg7 harg7 arg8 harg8 hc0 x0 x1 x2 x3 x6).2.2.1 = [⟨Rect.unit (s := S2x1280x128) (k0_off3 i) S1x128x128.size (k0_off3_inb i), k0_pay14 (k0_pay10 (ldBlk arg3 harg3 x1))⟩,
    ⟨Rect.unit (s := S2x1280x128) (k0_off2 i) S1x128x128.size (k0_off2_inb i), k0_pay8 (k0_pay4 (ldBlk arg2 harg2 x0))⟩] := rfl

theorem run_0_B (f) : arg6.view.read (Elt F) (arg6.view.writes (Elt F) f (run_0 c i arg2 harg2 arg3 harg3 arg4 harg4 arg5 harg5 arg6 harg6 arg7 harg7 arg8 harg8 hc0 x0 x1 x2 x3 x6).1) = outB x0 (rows x6 (i 1).val 1024 (half_lt i) (by omega)) x2 := by
  rw [run_0_1, View.read_writes_full]
  unfold outB
  rw [show (ld2 i arg8 harg8 x6) = (rows x6 (i 1).val 1024 (half_lt i) (by omega)) from load2 i arg8 harg8 x6 _]
  simp only [loadBlk, loadTap]

theorem run_0_C (f) : arg7.view.read (Elt F) (arg7.view.writes (Elt F) f (run_0 c i arg2 harg2 arg3 harg3 arg4 harg4 arg5 harg5 arg6 harg6 arg7 harg7 arg8 harg8 hc0 x0 x1 x2 x3 x6).2.1) = outC x1 (rows x6 (i 1).val 1152 (half_lt i) (by omega)) x3 := by
  rw [run_0_2, View.read_writes_full]
  unfold outC
  rw [show (ld3 i arg8 harg8 x6) = (rows x6 (i 1).val 1152 (half_lt i) (by omega)) from load3 i arg8 harg8 x6 _]
  simp only [loadBlk, loadTap]

end Later

section First
variable (hc0 : k0_cond1 i = 1#1)

theorem run_1_1 : (run_1 c i arg2 harg2 arg3 harg3 arg4 harg4 arg5 harg5 arg6 harg6 arg7 harg7 arg8 harg8 hc0 x0 x1 x2 x3 x6).1 = [⟨Rect.unit ![0, 0, 0] S1x128x128.size inb_S1x128x128_S1x128x128_0_0_0,
    outBof (ldBlk arg2 harg2 x0) (run_1.sl.v7 c i arg8 hc0) (ldTap arg4 harg4 x2 4 inb_S5x128x128_S1x128x128_4_0_0) (ldTap arg4 harg4 x2 3 inb_S5x128x128_S1x128x128_3_0_0) (ldTap arg4 harg4 x2 2 inb_S5x128x128_S1x128x128_2_0_0) (ldTap arg4 harg4 x2 1 inb_S5x128x128_S1x128x128_1_0_0) (ldTap arg4 harg4 x2 0 inb_S5x128x128_S1x128x128_0_0_0)⟩] := rfl

theorem run_1_2 : (run_1 c i arg2 harg2 arg3 harg3 arg4 harg4 arg5 harg5 arg6 harg6 arg7 harg7 arg8 harg8 hc0 x0 x1 x2 x3 x6).2.1 = [⟨Rect.unit ![0, 0, 0] S1x128x128.size inb_S1x128x128_S1x128x128_0_0_0,
    outCof (ldBlk arg3 harg3 x1) (run_1.sl.v48 c i arg2 harg2 arg8 hc0 x0) (ldTap arg5 harg5 x3 4 inb_S5x128x128_S1x128x128_4_0_0) (ldTap arg5 harg5 x3 3 inb_S5x128x128_S1x128x128_3_0_0) (ldTap arg5 harg5 x3 2 inb_S5x128x128_S1x128x128_2_0_0) (ldTap arg5 harg5 x3 1 inb_S5x128x128_S1x128x128_1_0_0) (ldTap arg5 harg5 x3 0 inb_S5x128x128_S1x128x128_0_0_0)⟩] := rfl

theorem run_1_3 : (run_1 c i arg2 harg2 arg3 harg3 arg4 harg4 arg5 harg5 arg6 harg6 arg7 harg7 arg8 harg8 hc0 x0 x1 x2 x3 x6).2.2.1 = [⟨Rect.unit (s := S2x1280x128) (k0_off3 i) S1x128x128.size (k0_off3_inb i), k0_pay14 (k0_pay10 (ldBlk arg3 harg3 x1))⟩,
    ⟨Rect.unit (s := S2x1280x128) (k0_off2 i) S1x128x128.size (k0_off2_inb i), k0_pay8 (k0_pay4 (ldBlk arg2 harg2 x0))⟩, ⟨Rect.unit (s := S2x1280x128) (k0_off1 i) S1x1280x128.size (k0_off1_inb i hc0), k0_pay3⟩] := rfl

theorem run_1_B (f) : arg6.view.read (Elt F) (arg6.view.writes (Elt F) f (run_1 c i arg2 harg2 arg3 harg3 arg4 harg4 arg5 harg5 arg6 harg6 arg7 harg7 arg8 harg8 hc0 x0 x1 x2 x3 x6).1) = outB x0 zeros x2 := by
  rw [run_1_1, View.read_writes_full]
  unfold outB
  rw [show (run_1.sl.v7 c i arg8 hc0) = zeros from cov2 i arg8 _ _]
  simp only [loadBlk, loadTap]

theorem run_1_C (f) : arg7.view.read (Elt F) (arg7.view.writes (Elt F) f (run_1 c i arg2 harg2 arg3 harg3 arg4 harg4 arg5 harg5 arg6 harg6 arg7 harg7 arg8 harg8 hc0 x0 x1 x2 x3 x6).2.1) = outC x1 zeros x3 := by
  rw [run_1_2, View.read_writes_full]
  unfold outC
  rw [show (run_1.sl.v48 c i arg2 harg2 arg8 hc0 x0) = zeros from cov3 i arg8 _ _ _ _]
  simp only [loadBlk, loadTap]

end First

/-- The two row blocks a point leaves in its half of the carried buffer, and the other half left as it was. -/
theorem pay8_pay4 (x : Vec F S1x128x128 .f32) : k0_pay8 (k0_pay4 x) = x := by
  unfold k0_pay8 k0_pay4; exact shapeCast_shapeCast _ _ _

theorem pay14_pay10 (x : Vec F S1x128x128 .f32) : k0_pay14 (k0_pay10 x) = x := by
  unfold k0_pay14 k0_pay10; exact shapeCast_shapeCast _ _ _

section Left
variable (v : View sig .tc .vmem S2x1280x128 .f32) (f : v.ty.Contents (Elt F)) (L : List (View.Piece (Elt F) S2x1280x128 .f32)) (inb2 inb3)

theorem left3 : rows (v.read (Elt F) (v.writes (Elt F) f (⟨Rect.unit (s := S2x1280x128) (k0_off3 i) S1x128x128.size inb3, k0_pay14 (k0_pay10 x1)⟩
      :: ⟨Rect.unit (s := S2x1280x128) (k0_off2 i) S1x128x128.size inb2, k0_pay8 (k0_pay4 x0)⟩ :: L))) (i 1).val 1152 (half_lt i) (by omega) = x1 := by
  rw [pay14_pay10]
  funext y
  exact View.read_writes_cons_unit_of_mem v f inb3 x1 _ _ y (off3_eq i) fun a => by
    match a with
    | ⟨0, _⟩ => show (i 1).val + 1 * (y 0).val = (i 1).val + (y 0).val; omega
    | ⟨1, _⟩ => show 1152 + 1 * (y 1).val = 1152 + (y 1).val; omega
    | ⟨2, _⟩ => show 0 + 1 * (y 2).val = 0 + (y 2).val; omega

theorem left2 : rows (v.read (Elt F) (v.writes (Elt F) f (⟨Rect.unit (s := S2x1280x128) (k0_off3 i) S1x128x128.size inb3, k0_pay14 (k0_pay10 x1)⟩
      :: ⟨Rect.unit (s := S2x1280x128) (k0_off2 i) S1x128x128.size inb2, k0_pay8 (k0_pay4 x0)⟩ :: L))) (i 1).val 1024 (half_lt i) (by omega) = x0 := by
  rw [pay8_pay4]
  funext y
  refine (View.read_writes_cons_unit_of_not_mem v f inb3 _ _ _ (off3_eq i) 1 (Or.inl ?_)).trans ?_
  · have : (y 1).val < 128 := (y 1).isLt
    show 1024 + 1 * (y 1).val < 1152; omega
  exact View.read_writes_cons_unit_of_mem v f inb2 x0 _ _ y (off2_eq i) fun a => by
    match a with
    | ⟨0, _⟩ => show (i 1).val + 1 * (y 0).val = (i 1).val + (y 0).val; omega
    | ⟨1, _⟩ => show 1024 + 1 * (y 1).val = 1024 + (y 1).val; omega
    | ⟨2, _⟩ => show 0 + 1 * (y 2).val = 0 + (y 2).val; omega

/-- A store into the point's half leaves the other half's rows. -/
theorem left_other {off size : Fin 3 → ℕ} {p q : ℕ} (h : off = ![(i 1).val, p, q]) (hs : size 0 = 1) (inb) (w) {g o : ℕ} (hg : g < 2) (ho : o + 128 ≤ 1280) (hne : g ≠ (i 1).val) :
    rows (v.read (Elt F) (v.writes (Elt F) f (⟨Rect.unit (s := S2x1280x128) off size inb, w⟩ :: L))) g o hg ho
      = rows (v.read (Elt F) (v.writes (Elt F) f L)) g o hg ho := by
  funext y
  have hy : (y 0).val < 1 := (y 0).isLt
  refine View.read_writes_cons_unit_of_not_mem v f inb w L _ h 0 ?_
  show g + 1 * (y 0).val < (i 1).val ∨ (i 1).val + size 0 ≤ g + 1 * (y 0).val
  omega
end Left

/-- What a point leaves in the carried rows, over what it found, whichever the chunk. -/
structure Left (X X' : Vec F S2x1280x128 .f32) : Prop where
  left2 : rows X' (i 1).val 1024 (half_lt i) (by omega) = x0
  left3 : rows X' (i 1).val 1152 (half_lt i) (by omega) = x1
  other : ∀ g o hg ho, g ≠ (i 1).val → rows X' g o hg ho = rows X g o hg ho

theorem run_0_left (hc0 : ¬ k0_cond1 i = 1#1) :
    Left i x0 x1 x6 (arg8.view.read (Elt F) (arg8.view.writes (Elt F) (harg8.unread x6) (run_0 c i arg2 harg2 arg3 harg3 arg4 harg4 arg5 harg5 arg6 harg6 arg7 harg7 arg8 harg8 hc0 x0 x1 x2 x3 x6).2.2.1)) := by
  rw [run_0_3, ldBlk_eq, ldBlk_eq]
  refine ⟨left2 i x0 x1 _ _ _ _ _, left3 i x0 x1 _ _ _ _ _, fun g o hg ho hne => ?_⟩
  rw [left_other i _ _ _ (off3_eq i) rfl _ _ hg ho hne, left_other i _ _ _ (off2_eq i) rfl _ _ hg ho hne]
  exact congrArg (fun X => rows X g o hg ho) (harg8.read_unread x6)

theorem run_1_left (hc0 : k0_cond1 i = 1#1) :
    Left i x0 x1 x6 (arg8.view.read (Elt F) (arg8.view.writes (Elt F) (harg8.unread x6) (run_1 c i arg2 harg2 arg3 harg3 arg4 harg4 arg5 harg5 arg6 harg6 arg7 harg7 arg8 harg8 hc0 x0 x1 x2 x3 x6).2.2.1)) := by
  rw [run_1_3, ldBlk_eq, ldBlk_eq]
  refine ⟨left2 i x0 x1 _ _ _ _ _, left3 i x0 x1 _ _ _ _ _, fun g o hg ho hne => ?_⟩
  rw [left_other i _ _ _ (off3_eq i) rfl _ _ hg ho hne, left_other i _ _ _ (off2_eq i) rfl _ _ hg ho hne,
    left_other i _ _ _ (off1_eq i) rfl _ _ hg ho hne]
  exact congrArg (fun X => rows X g o hg ho) (harg8.read_unread x6)

end Cert.ConvIdeal.Hand

end
-- ==== Proof.ConvIdealFrame.lean ====
/-
The launch of the convolution's call: what every point stores, point by point, and the frame.
-/
module

public import proofs.«01_k».proof.Proof.ConvIdealOut
public import Idealize.ShloMosaic.Lib.Claim

@[expose] public section

set_option maxRecDepth 65536

noncomputable section

namespace Cert.ConvIdeal.Hand

open Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carried buffer. -/
abbrev scM : Memref sig .tc .vmem S2x1280x128 .f32 := Memref.whole cc0_scratch0

theorem first_iff : ∀ t : Fin cfg0.N, k0_cond1 (grid0.coords t) = 1#1 ↔ t.val < 2 := by decide +kernel
theorem half_eq : ∀ t : Fin cfg0.N, (grid0.coords t 1).val = t.val % 2 := by decide +kernel

/-- The block two points back: the same half's, one chunk before. -/
def back (t : Fin cfg0.N) : Fin cfg0.N := ⟨t.val - 2, lt_of_le_of_lt (Nat.sub_le _ _) t.isLt⟩

/-- The blocks before point `t`'s: zeros at the first chunk. -/
def prevB (c : Dev nD) (t : Fin cfg0.N) : Vec F S1x128x128 .f32 := if t.val < 2 then zeros else X0_0 m c (back t)
def prevC (c : Dev nD) (t : Fin cfg0.N) : Vec F S1x128x128 .f32 := if t.val < 2 then zeros else X0_1 m c (back t)

/-- What the carried buffer holds before point `n`: each half's last block of both inputs. -/
def Holds (c : Dev nD) (n : ℕ) (X : Vec F S2x1280x128 .f32) : Prop :=
  ∀ t : Fin cfg0.N, t.val < n → n ≤ t.val + 2 →
    rows X (t.val % 2) 1024 (Nat.mod_lt _ (by decide)) (by omega) = X0_0 m c t ∧ rows X (t.val % 2) 1152 (Nat.mod_lt _ (by decide)) (by omega) = X0_1 m c t

theorem rows_congr (X : Vec F S2x1280x128 .f32) {g g' : ℕ} (h : g = g') (o) (hg) (hg') (ho) : rows X g o hg ho = rows X g' o hg' ho := by subst h; rfl

theorem holds_step (c : Dev nD) (t : Fin cfg0.N) (X X' : Vec F S2x1280x128 .f32) (h : Holds m c t.val X)
    (hl : Left (grid0.coords t) (X0_0 m c t) (X0_1 m c t) X X') : Holds m c (t.val + 1) X' := by
  intro t' h1 h2
  by_cases e : t' = t
  · subst e
    exact ⟨(rows_congr X' (half_eq t').symm _ _ (half_lt _) _).trans hl.left2, (rows_congr X' (half_eq t').symm _ _ (half_lt _) _).trans hl.left3⟩
  · have hlt : t'.val < t.val := by
      have : t'.val ≠ t.val := fun hh => e (Fin.ext hh)
      omega
    have hne : t'.val % 2 ≠ (grid0.coords t 1).val := by rw [half_eq t]; omega
    exact ⟨(hl.other _ _ _ _ hne).trans (h t' hlt (by omega)).1, (hl.other _ _ _ _ hne).trans (h t' hlt (by omega)).2⟩

theorem holds_back (c : Dev nD) (t : Fin cfg0.N) (X : Vec F S2x1280x128 .f32) (h : Holds m c t.val X) (ht : ¬ t.val < 2) :
    rows X (grid0.coords t 1).val 1024 (half_lt _) (by omega) = prevB m c t ∧ rows X (grid0.coords t 1).val 1152 (half_lt _) (by omega) = prevC m c t := by
  have hb : (back t).val = t.val - 2 := rfl
  have hh := h (back t) (by omega) (by omega)
  have e : (grid0.coords t 1).val = (back t).val % 2 := by rw [half_eq t, hb]; omega
  unfold prevB prevC
  rw [if_neg ht, if_neg ht]
  exact ⟨(rows_congr X e _ _ _ _).trans hh.1, (rows_congr X e _ _ _ _).trans hh.2⟩

/-- The proof data: what each window's buffer holds after each point, and the invariant. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => outB (X0_0 m c t) (prevB m c t) (iblk m c 2 t)
    | ⟨5, _⟩ => outC (X0_1 m c t) (prevC m c t) (iblk m c 3 t)
  Φ t := iprop((∃ X, ⌜Holds m c t.val X⌝ ∗ owns (c : Thread nD τ) scM fullShare X) ∗ (∃ r, prngReg c r))
  q w := Pipeline.shareOf spec0 w
  owed _ := 0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = iprop((∃ X, ⌜Holds m c t.val X⌝ ∗ owns (c : Thread nD τ) scM fullShare X) ∗ (∃ r, prngReg c r)) := by
  dsimp only [dats]
  exact Pipeline.Dat.Φ_castSucc (fun n _ => iprop((∃ X, ⌜Holds m c n X⌝ ∗ owns (c : Thread nD τ) scM fullShare X) ∗ (∃ r, prngReg c r))) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outB (X0_0 m c t) (prevB m c t) (iblk m c 2 t) := by dsimp only [dats]
theorem after0_5 (c : Dev nD) (t : Fin cfg0.N) : (dats m 0 c).after 5 t = outC (X0_1 m c t) (prevC m c t) (iblk m c 3 t) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

abbrev ms0_0 (t : Fin cfg0.N) : Memref sig .tc .vmem S1x128x128 .f32 := win0_0.stage (cfg0.slots t 0)
abbrev ms0_1 (t : Fin cfg0.N) : Memref sig .tc .vmem S1x128x128 .f32 := win0_1.stage (cfg0.slots t 1)
abbrev ms0_2 (t : Fin cfg0.N) : Memref sig .tc .vmem S5x128x128 .f32 := win0_2.stage (cfg0.slots t 2)
abbrev ms0_3 (t : Fin cfg0.N) : Memref sig .tc .vmem S5x128x128 .f32 := win0_3.stage (cfg0.slots t 3)
abbrev ms0_4 (t : Fin cfg0.N) : Memref sig .tc .vmem S1x128x128 .fp8e4m3 := win0_4.stage (cfg0.slots t 4)
abbrev ms0_5 (t : Fin cfg0.N) : Memref sig .tc .vmem S1x128x128 .fp8e4m3 := win0_5.stage (cfg0.slots t 5)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point, by whether its chunk is the first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, Phi_castSucc]
  rw [show (dats m 0 c).Φ t.succ = iprop((∃ X, ⌜Holds m c (t.val + 1) X⌝ ∗ owns (c : Thread nD τ) scM fullShare X) ∗ (∃ r, prngReg c r)) from rfl]
  by_cases ht : t.val < 2
  · have hp2 : prevB m c t = zeros := if_pos ht
    have hp3 : prevC m c t = zeros := if_pos ht
    iintro ⟨⟨⟨%X, %hX, HS⟩, Hg⟩, Ho, ⟨%d0, H0⟩, ⟨%d1, H1⟩, ⟨%d2, H2⟩, ⟨%d3, H3⟩, ⟨%d4, H4⟩, ⟨%d5, H5⟩⟩
    iapply ((run_1 c (grid0.coords t) _ _ _ _ _ _ _ _ _ _ _ _ _ _ ((first_iff t).mpr ht) (X0_0 m c t) (X0_1 m c t) (iblk m c 2 t) (iblk m c 3 t) X).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, HS⟩
    isplitl [HS Hg]
    · isplitl [HS]
      · iexists _; isplitr
        swap
        · unfold owns; iexists _; isplitr
          swap; · iexact HS
          ipureintro; rfl
        ipureintro; exact holds_step m c t X _ hX (run_1_left c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rw [hp2]; exact run_1_B c _ _ _ _ _ _ _ _ _ _ _ _ _ _ _ _ _ _ _ _ _ _
    unfold owns; iexists _; isplitr
    swap; · iexact H5
    ipureintro; rw [hp3]; exact run_1_C c _ _ _ _ _ _ _ _ _ _ _ _ _ _ _ _ _ _ _ _ _ _
  · iintro ⟨⟨⟨%X, %hX, HS⟩, Hg⟩, Ho, ⟨%d0, H0⟩, ⟨%d1, H1⟩, ⟨%d2, H2⟩, ⟨%d3, H3⟩, ⟨%d4, H4⟩, ⟨%d5, H5⟩⟩
    have hp := holds_back m c t X hX ht
    iapply ((run_0 c (grid0.coords t) _ _ _ _ _ _ _ _ _ _ _ _ _ _ (fun h => ht ((first_iff t).mp h)) (X0_0 m c t) (X0_1 m c t) (iblk m c 2 t) (iblk m c 3 t) X).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, HS⟩
    isplitl [HS Hg]
    · isplitl [HS]
      · iexists _; isplitr
        swap
        · unfold owns; iexists _; isplitr
          swap; · iexact HS
          ipureintro; rfl
        ipureintro; exact holds_step m c t X _ hX (run_0_left c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rw [← hp.1]; exact run_0_B c _ _ _ _ _ _ _ _ _ _ _ _ _ _ _ _ _ _ _ _ _ _
    unfold owns; iexists _; isplitr
    swap; · iexact H5
    ipureintro; rw [← hp.2]; exact run_0_C c _ _ _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the carried buffer at anything: before the first point nothing is stated of it. -/
theorem hin (c : Dev nD) : Pipeline.ΦA spec0 c ⊢ (dats m 0 c).Φ 0 := by
  rw [show (dats m 0 c).Φ 0 = iprop((∃ X, ⌜Holds m c 0 X⌝ ∗ owns (c : Thread nD τ) scM fullShare X) ∗ (∃ r, prngReg c r)) from rfl, PhiA_eq]
  iintro ⟨⟨%X, HS⟩, Hg⟩
  isplitl [HS]
  · iexists X; isplitr
    · ipureintro; exact fun t h _ => absurd h (Nat.not_lt_zero _)
    iexact HS
  iexact Hg

theorem hout (c : Dev nD) : (dats m 0 c).Φ (Fin.last cfg0.N) ⊢ Pipeline.ΦA spec0 c := by
  rw [show (dats m 0 c).Φ (Fin.last cfg0.N) = iprop((∃ X, ⌜Holds m c (Fin.last cfg0.N).val X⌝ ∗ owns (c : Thread nD τ) scM fullShare X) ∗ (∃ r, prngReg c r)) from rfl, PhiA_eq]
  iintro ⟨⟨%X, %hX, HS⟩, Hg⟩
  isplitl [HS]
  · iexists X; iexact HS
  iexact Hg

-- the launch rule's implicit arguments are found by unifying its conclusion, which takes unfolding plain definitions in a type
set_option backward.isDefEq.respectTransparency.types false in
/-- The launch: every array of the pipeline ends at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.ConvIdeal.Hand

end
-- ==== Proof.ConvValue.lean ====
/-
What the convolution step's kernel leaves in its two results.
-/
module

public import proofs.«01_k».proof.Proof.ConvSpec
public import proofs.«01_k».proof.Proof.ConvIdealFrame

@[expose] public section

set_option maxRecDepth 16384

noncomputable section

open Idealize.ShloMosaic Idealize.ShloMosaic.TcCoe Idealize.SL.Sem
open Idealize.ShloMosaic.Pipeline (Dat)

namespace Cert.ConvIdeal.Hand

open Cert.ConvIdeal.Gen

theorem ge1 : ∀ l : Fin 128, IntOp.cmpi .sge (BitVec.ofNat 32 ((l.val + 128 - 1) % 128)) 127#32 = BitVec.ofBool (decide (¬ 1 ≤ l.val)) := by decide +kernel
theorem ge2 : ∀ l : Fin 128, IntOp.cmpi .sge (BitVec.ofNat 32 ((l.val + 128 - 2) % 128)) 126#32 = BitVec.ofBool (decide (¬ 2 ≤ l.val)) := by decide +kernel
theorem ge3 : ∀ l : Fin 128, IntOp.cmpi .sge (BitVec.ofNat 32 ((l.val + 128 - 3) % 128)) 125#32 = BitVec.ofBool (decide (¬ 3 ≤ l.val)) := by decide +kernel

/-- A row picked by the lane number is the shifted row. -/
theorem pick (u p : FVec Ideal S1x128x128 .f32) (k : ℕ) (hk : k ≤ 3) (n l : Fin 128) (h : (l.val + 128 - k) % 128 < 128) (b : BitVec 1)
    (hb : b = BitVec.ofBool (decide (¬ k ≤ l.val))) :
    (Scalar.select b (p (ix3 0 n ⟨(l.val + 128 - k) % 128, h⟩)) (u (ix3 0 n ⟨(l.val + 128 - k) % 128, h⟩)) : EReal) = Cert.Conv.shifted u p k n l := by
  subst hb
  unfold Cert.Conv.shifted
  by_cases hl : k ≤ l.val
  · rw [if_pos hl, decide_eq_false (not_not.mpr hl)]
    show u _ = _
    congr 2; exact Fin.ext (by simp only []; omega)
  · rw [if_neg hl, decide_eq_true hl]
    rfl

/-- A row block of the taps at an index. -/
theorem tap_apply (w : Vec Ideal S5x128x128 .f32) (k : ℕ) (k' : Fin 5) (hk : k'.val = k) (inb) (n l : Fin 128) :
    tap w k inb (ix3 0 n l) = w (ix3 k' n l) := by
  subst hk
  refine congrArg w (funext fun a => Fin.ext ?_)
  match a with
  | ⟨0, _⟩ => show k'.val + 1 * 0 = k'.val; omega
  | ⟨1, _⟩ => show 0 + 1 * n.val = n.val; omega
  | ⟨2, _⟩ => show 0 + 1 * l.val = l.val; omega

/-- The activation of one block. -/
theorem act_apply (u p : Vec Ideal S1x128x128 .f32) (w : Vec Ideal S5x128x128 .f32) (j : S128x128.Idx) :
    k0_pay9 (k0_pay4 u) (k0_pay5 p) (k0_pay6 u p (tap w 4 inb_S5x128x128_S1x128x128_4_0_0) (tap w 3 inb_S5x128x128_S1x128x128_3_0_0)
      (tap w 2 inb_S5x128x128_S1x128x128_2_0_0) (tap w 1 inb_S5x128x128_S1x128x128_1_0_0)) k0_pay7 (tap w 0 inb_S5x128x128_S1x128x128_0_0_0) j
    = Cert.Conv.conv u p w (j 0) (j 1) * Ideal.logistic (Cert.Conv.conv u p w (j 0) (j 1)) := by
  pointwise [k0_pay9, k0_pay4, k0_pay5, k0_pay6, k0_pay7]
  rw [pick u p 1 (by decide) (j 0) (j 1) _ _ (ge1 (j 1)), pick u p 2 (by decide) (j 0) (j 1) _ _ (ge2 (j 1)), pick u p 3 (by decide) (j 0) (j 1) _ _ (ge3 (j 1))]
  rw [tap_apply w 4 4 rfl _ (j 0) (j 1), tap_apply w 3 3 rfl _ (j 0) (j 1), tap_apply w 2 2 rfl _ (j 0) (j 1),
    tap_apply w 1 1 rfl _ (j 0) (j 1), tap_apply w 0 0 rfl _ (j 0) (j 1)]
  rfl

theorem pay_apply (v : FVec Ideal S128x128 .f32) (j : S1x128x128.Idx) :
    (k0_pay1 (k0_pay16 v) j : EReal) = Cert.Conv.code (fun n => v (ix2 n (j 1))) (j 2) := by
  pointwise [k0_pay1, k0_pay16]
  rfl

/-- The codes of one block of the first result. -/
theorem outB_apply (u p : Vec Ideal S1x128x128 .f32) (w : Vec Ideal S5x128x128 .f32) (j : S1x128x128.Idx) :
    (outB u p w j : EReal) = Cert.Conv.blockCode u p w j := by
  unfold outB outBof
  rw [pay_apply]
  unfold Cert.Conv.blockCode
  congr 1
  funext n
  exact act_apply u p w (ix2 n (j 1))

/-- The two results' blocks are the same function. -/
theorem outC_eq (u p : Vec Ideal S1x128x128 .f32) (w : Vec Ideal S5x128x128 .f32) : outC u p w = outB u p w := by
  funext j
  rfl

variable (m : (ℓ : Loc nD τ sig) → Buf (Elt Ideal) ℓ)

/-- The block indices at a point. -/
theorem idx : ∀ t : Fin cfg0.N, win0_0.index t = ![t.val / 2, 32 + t.val % 2, 0] ∧ win0_1.index t = ![t.val / 2, 34 + t.val % 2, 0]
    ∧ win0_2.index t = ![0, 16 + t.val % 2, 0] ∧ win0_3.index t = ![0, 18 + t.val % 2, 0]
    ∧ win0_4.index t = ![t.val % 2, t.val / 2, 0] ∧ win0_5.index t = ![t.val % 2, t.val / 2, 0] :=
  (by decide +kernel : ∀ t : Fin grid0.N, _)

/-- The taps beside the bias, as the program lays them out before its region. -/
theorem V_taps (c : Dev nD) (j : S5x2560x128.Idx) : V m c main_v4 j
    = if h : (j 0 : ℕ) < 4 then m ((c : Thread nD τ).loc main_arg1) (ix2 (j 1) ⟨(j 0 : ℕ), h⟩)
      else m ((c : Thread nD τ).loc main_arg2) (ix1 (j 1)) := by
  entry_read
  pointwise

/-- The chunk of a point. -/
def chunk (t : Fin cfg0.N) : Fin 12 := ⟨t.val / 2, by have : t.val < 24 := t.isLt; omega⟩

/-- The first input's block at a point, read off the projection. -/
theorem blkB (c : Dev nD) (t : Fin cfg0.N) (q : Fin 12) (hq : q.val = t.val / 2) (n l : Fin 128) (d : Fin 4640)
    (hd : d.val = 4096 + 128 * (t.val % 2) + n.val) :
    X0_0 m c t (ix3 0 n l) = m ((c : Thread nD τ).loc main_arg0) (ix3 q d l) := by
  unfold X0_0 Pipeline.Window.fill
  rw [dif_pos (moved0_0 t _)]
  blk_point [iblk, V, idx t]

/-- The second input's. -/
theorem blkC (c : Dev nD) (t : Fin cfg0.N) (q : Fin 12) (hq : q.val = t.val / 2) (n l : Fin 128) (d : Fin 4640)
    (hd : d.val = 4352 + 128 * (t.val % 2) + n.val) :
    X0_1 m c t (ix3 0 n l) = m ((c : Thread nD τ).loc main_arg0) (ix3 q d l) := by
  unfold X0_1 Pipeline.Window.fill
  rw [dif_pos (moved0_1 t _)]
  blk_point [iblk, V, idx t]

/-- The rows of the taps a window reads: row `k` of channels `o` on. -/
theorem taps_w {c : Dev nD} (k : Fin 5) (hk : k.val < 4) (d : Fin 2560) (l : Fin 128) :
    V m c main_v4 (ix3 k d l) = m ((c : Thread nD τ).loc main_arg1) (ix2 d ⟨k.val, hk⟩) := by
  rw [V_taps]; exact dif_pos hk

theorem taps_b {c : Dev nD} (d : Fin 2560) (l : Fin 128) :
    V m c main_v4 (ix3 4 d l) = m ((c : Thread nD τ).loc main_arg2) (ix1 d) := by
  rw [V_taps]; exact dif_neg (by decide : ¬ (4 : ℕ) < 4)

theorem tap2 (c : Dev nD) (t : Fin cfg0.N) (k : Fin 5) (n l : Fin 128) (d : Fin 2560) (hd : d.val = 2048 + 128 * (t.val % 2) + n.val) :
    iblk m c 2 t (ix3 k n l) = V m c main_v4 (ix3 k d l) := by
  refine congrArg (V m c main_v4) ?_
  blk_ext [idx t]

theorem tap3 (c : Dev nD) (t : Fin cfg0.N) (k : Fin 5) (n l : Fin 128) (d : Fin 2560) (hd : d.val = 2304 + 128 * (t.val % 2) + n.val) :
    iblk m c 3 t (ix3 k n l) = V m c main_v4 (ix3 k d l) := by
  refine congrArg (V m c main_v4) ?_
  blk_ext [idx t]

theorem zeros_apply (x : S1x128x128.Idx) : (zeros (F := Ideal) x : EReal) = 0 := by
  pointwise [zeros]

theorem atB (c : Dev nD) (t : Fin cfg0.N) (ho) : Cert.Conv.At (X0_0 m c t) (prevB m c t) (iblk m c 2 t) (m ((c : Thread nD τ).loc main_arg0))
    (m ((c : Thread nD τ).loc main_arg1)) (m ((c : Thread nD τ).loc main_arg2)) (chunk t) (2048 + 128 * (t.val % 2)) ho where
  hu n l := blkB m c t (chunk t) rfl n l _ (by simp only []; omega)
  hz hq n l := by
    have : t.val / 2 = 0 := hq
    unfold prevB; rw [if_pos (by omega)]; exact zeros_apply _
  hp hq n l := by
    have : ¬ t.val / 2 = 0 := hq
    unfold prevB; rw [if_neg (by omega)]
    exact blkB m c (back t) _ (by show t.val / 2 - 1 = (t.val - 2) / 2; omega) n l _
      (by show _ = 4096 + 128 * ((t.val - 2) % 2) + n.val; simp only []; omega)
  hb n l := (tap2 m c t 4 n l _ rfl).trans (taps_b m _ l)
  hw k hk n l := (tap2 m c t k n l _ rfl).trans (taps_w m k hk _ l)

theorem atC (c : Dev nD) (t : Fin cfg0.N) (ho) : Cert.Conv.At (X0_1 m c t) (prevC m c t) (iblk m c 3 t) (m ((c : Thread nD τ).loc main_arg0))
    (m ((c : Thread nD τ).loc main_arg1)) (m ((c : Thread nD τ).loc main_arg2)) (chunk t) (2304 + 128 * (t.val % 2)) ho where
  hu n l := blkC m c t (chunk t) rfl n l _ (by simp only []; omega)
  hz hq n l := by
    have : t.val / 2 = 0 := hq
    unfold prevC; rw [if_pos (by omega)]; exact zeros_apply _
  hp hq n l := by
    have : ¬ t.val / 2 = 0 := hq
    unfold prevC; rw [if_neg (by omega)]
    exact blkC m c (back t) _ (by show t.val / 2 - 1 = (t.val - 2) / 2; omega) n l _
      (by show _ = 4352 + 128 * ((t.val - 2) % 2) + n.val; simp only []; omega)
  hb n l := (tap3 m c t 4 n l _ rfl).trans (taps_b m _ l)
  hw k hk n l := (tap3 m c t k n l _ rfl).trans (taps_w m k hk _ l)

/-- What the first result holds after the run. -/
theorem final4 (c : Dev nD) : (dats m 0 c).arrAt 4 (cfgs 0).N
    = Cert.Conv.codes 2048 (by decide) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  refine (outB_apply _ _ _ _).trans ((atB m c t (by omega)).codes 2048 (by decide) _ _ ?_ ?_ ?_)
  all_goals blk_simp [idx t, chunk] <;> (try dsimp only) <;> (try omega)

/-- What the second result holds. -/
theorem final5 (c : Dev nD) : (dats m 0 c).arrAt 5 (cfgs 0).N
    = Cert.Conv.codes 2304 (by decide) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, outC_eq]
  refine (outB_apply _ _ _ _).trans ((atC m c t (by omega)).codes 2304 (by decide) _ _ ?_ ?_ ?_)
  all_goals blk_simp [idx t, chunk] <;> (try dsimp only) <;> (try omega)

end Cert.ConvIdeal.Hand

end
-- ==== Proof.ConvRef.lean ====
/-
The reference's arrays of the convolution step, one per line of the program, and what they hold at an index.
-/
module

public import proofs.«01_k».proof.Proof.Gen.ConvRefIdeal
public import Idealize.ShloMosaic.Lib.Claim
public import Idealize.ShloMosaic.Lib.Pointwise

@[expose] public section

set_option maxRecDepth 1000000

noncomputable section

open Idealize.ShloMosaic Idealize.ShloMosaic.TcCoe Idealize.SL.Sem

namespace Cert.ConvRefIdeal.Final

open Cert.ConvRefIdeal Cert.ConvRefIdeal.Gen

variable (X : FVec Ideal S12x4640x128 .f32) (W : FVec Ideal S2560x4 .f32) (b : FVec Ideal S2560 .f32)

/-- The convolution's channels, positions down the rows, three rows of zeros on top. -/
def upad : FVec Ideal S1539x2560 .f32 :=
  pad S1539x2560 ![3, 0] ![0, 0] ![0, 0]
    (shapeCast S1536x2560 (transpose S12x128x2560 [0, 2, 1]
      (extractStridedSlice S12x2560x128 ![0, 2048, 0] X slices_S12x4640x128_S12x2560x128_0_2048_0)
      transposes_S12x2560x128_S12x128x2560_0_2_1) shapeCasts_S12x128x2560_S1536x2560)
    (sitofp .f32 (constantI S_ 32 0#32)) pads_S1536x2560_S1539x2560_300_000 h_S_

/-- One tap's weights over the rows shifted by it. -/
def tapRow (k : ℕ) (hw : S2560x4.Slices ![0, k] S2560x1) (hu : S1539x2560.Slices ![k, 0] S1536x2560) : FVec Ideal S1536x2560 .f32 :=
  mulf (broadcastInDim S1536x2560 ![0, 1] bcast_S1x2560_S1536x2560_0_1 (broadcastInDim S1x2560 ![1] bcast_S2560_S1x2560_1
      (shapeCast S2560 (extractStridedSlice S2560x1 ![0, k] W hw) shapeCasts_S2560x1_S2560)))
    (extractStridedSlice S1536x2560 ![k, 0] (upad X) hu)

/-- The convolution with its bias. -/
def pre : FVec Ideal S1536x2560 .f32 :=
  addf (broadcastInDim S1536x2560 ![0, 1] bcast_S1x2560_S1536x2560_0_1 (broadcastInDim S1x2560 ![1] bcast_S2560_S1x2560_1 b))
    (addf (addf (addf (addf (broadcastInDim S1536x2560 ![] bcast_S_S1536x2560 (constant S_ .f32 0x00000000#32))
        (tapRow X W 0 slices_S2560x4_S2560x1_0_0 slices_S1539x2560_S1536x2560_0_0))
        (tapRow X W 1 slices_S2560x4_S2560x1_0_1 slices_S1539x2560_S1536x2560_1_0))
        (tapRow X W 2 slices_S2560x4_S2560x1_0_2 slices_S1539x2560_S1536x2560_2_0))
        (tapRow X W 3 slices_S2560x4_S2560x1_0_3 slices_S1539x2560_S1536x2560_3_0))

/-- The activation. -/
def act : FVec Ideal S1536x2560 .f32 :=
  mulf (pre X W b) (Host.divf (broadcastInDim S1536x2560 ![] bcast_S_S1536x2560 (constant S_ .f32 0x3F800000#32))
    (addf (broadcastInDim S1536x2560 ![] bcast_S_S1536x2560 (constant S_ .f32 0x3F800000#32)) (Host.exp (Host.negf (pre X W b)))))

/-- One of the two operands' values, its groups apart. -/
def part (o : ℕ) (h : S1536x2560.Slices ![0, o] S1536x256) : FVec Ideal S1536x2x128 .f32 :=
  shapeCast S1536x2x128 (extractStridedSlice S1536x256 ![0, o] (act X W b) h) shapeCasts_S1536x256_S1536x2x128

/-- The values' largest magnitude along the state axis. -/
def amax (v : FVec Ideal S1536x2x128 .f32) : FVec Ideal S1536x2x1 .f32 :=
  broadcastInDim S1536x2x1 ![0, 1] bcast_S1536x2_S1536x2x1_0_1
    (Host.reduce FloatOps.maximumf (Host.absf v) (constant S_ .f32 0xFF800000#32) reducesTo_S1536x2x128_S1536x2_d2 h_S_)

/-- Its scale. -/
def scale (v : FVec Ideal S1536x2x128 .f32) : FVec Ideal S1536x2x1 .f32 :=
  select (cmpf .ogt (amax v) (broadcastInDim S1536x2x1 ![] bcast_S_S1536x2x1 (constant S_ .f32 0x00000000#32)))
    (Host.divf (amax v) (broadcastInDim S1536x2x1 ![] bcast_S_S1536x2x1 (constant S_ .f32 0x43E00000#32)))
    (broadcastInDim S1536x2x1 ![] bcast_S_S1536x2x1 (constant S_ .f32 0x3F800000#32))

/-- Its codes, groups first. -/
def codes (v : FVec Ideal S1536x2x128 .f32) : FVec Ideal S2x1536x128 .fp8e4m3 :=
  transpose S2x1536x128 [1, 0, 2] (Host.convertf .fp8e4m3
    (minimumf (broadcastInDim S1536x2x128 ![] bcast_S_S1536x2x128 (constant S_ .f32 0x43E00000#32))
      (maximumf (broadcastInDim S1536x2x128 ![] bcast_S_S1536x2x128 (constant S_ .f32 0xC3E00000#32))
        (Host.divf v (broadcastInDim S1536x2x128 ![0, 1, 2] bcast_S1536x2x1_S1536x2x128_0_1_2 (scale v))))))
    transposes_S1536x2x128_S2x1536x128_1_0_2

/-- The two results. -/
def codesB : FVec Ideal S2x1536x128 .fp8e4m3 := codes (part X W b 2048 slices_S1536x2560_S1536x256_0_2048)
def codesC : FVec Ideal S2x1536x128 .fp8e4m3 := codes (part X W b 2304 slices_S1536x2560_S1536x256_0_2304)

variable (m : (ℓ : Loc nD τ sig) → Buf (Elt Ideal) ℓ) (g : Dev nD → PrngReg)

set_option maxHeartbeats 4000000 in
/-- The reference's run: both results, the arguments unchanged. -/
theorem run : θ_run (defs (F := Ideal)) (onTc (τ := τ) (main (F := Ideal))) ⟨m, fun _ => 0, g⟩ (fun r => ∀ c : Dev nD,
          r.2.mem ((c.tc : Thread nD τ).loc main_v57) = codesB (m ((c.tc : Thread nD τ).loc main_arg0)) (m ((c.tc : Thread nD τ).loc main_arg1)) (m ((c.tc : Thread nD τ).loc main_arg2))
          ∧ r.2.mem ((c.tc : Thread nD τ).loc main_v72) = codesC (m ((c.tc : Thread nD τ).loc main_arg0)) (m ((c.tc : Thread nD τ).loc main_arg1)) (m ((c.tc : Thread nD τ).loc main_arg2))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) := by
  hlo_run
  · rfl
  · rfl

end Cert.ConvRefIdeal.Final

end
-- ==== Proof.ConvRefValue.lean ====
/-
What the convolution step's reference leaves in its two results.
-/
module

public import proofs.«01_k».proof.Proof.ConvSpec
public import proofs.«01_k».proof.Proof.ConvRef

@[expose] public section

set_option maxRecDepth 16384

noncomputable section

open Idealize.ShloMosaic Idealize.ShloMosaic.TcCoe Idealize.SL.Sem

namespace Cert.ConvRefIdeal.Final

open Cert.ConvRefIdeal Cert.ConvRefIdeal.Gen

variable (X : FVec Ideal S12x4640x128 .f32) (W : FVec Ideal S2560x4 .f32) (b : FVec Ideal S2560 .f32)

/-- The taps summed from the oldest or from the newest. -/
theorem sum_order (a x0 x1 x2 x3 : EReal) : a + (x0 + x1 + x2 + x3) = a + x3 + x2 + x1 + x0 := by
  abel

/-- The padded input at a row is the channel some positions back, zero before the first. -/
theorem upad_apply (k : ℕ) (hk : k ≤ 3) (s : Fin 1536) (d : Fin 2560) (h) : (upad X (ix2 ⟨k + s.val, h⟩ d) : EReal) = Cert.Conv.tapAt X d s (3 - k) := by
  pointwise [upad]
  unfold Cert.Conv.tapAt
  by_cases hs : 3 - k ≤ s.val
  · rw [dif_pos (by omega), if_pos hs]
    congr 2 <;> exact Fin.ext (by first | omega | (dsimp only; omega))
  · rw [dif_neg (by omega), if_neg hs]
    show (((0#32 : BitVec 32).toInt : ℝ) : EReal) = 0
    simp

theorem tapRow_apply (k : ℕ) (hk : k ≤ 3) (hw hu) (j : S1536x2560.Idx) :
    (tapRow X W k hw hu j : EReal) = W (ix2 (j 1) ⟨k, by omega⟩) * Cert.Conv.tapAt X (j 1) (j 0) (3 - k) := by
  pointwise [tapRow]
  rw [upad_apply X k hk (j 0) (j 1)]

theorem pre_apply (j : S1536x2560.Idx) : (pre X W b j : EReal) = Cert.Conv.pre X W b (j 1) (j 0) := by
  pointwise [pre]
  rw [tapRow_apply X W 0 (by decide), tapRow_apply X W 1 (by decide), tapRow_apply X W 2 (by decide), tapRow_apply X W 3 (by decide)]
  unfold Cert.Conv.pre
  exact sum_order _ _ _ _ _

theorem act_apply (j : S1536x2560.Idx) : (act X W b j : EReal) = Cert.Conv.act X W b (j 1) (j 0) := by
  pointwise [act]
  rw [pre_apply]
  rfl

theorem part_apply (o : ℕ) (ho : o ≤ 2304) (h) (j : S1536x2x128.Idx) :
    (part X W b o h j : EReal) = Cert.Conv.act X W b (Cert.Conv.chan o ho (j 1) (j 2)) (j 0) := by
  pointwise [part]
  rw [act_apply]
  congr 1
  exact Fin.ext (by show o + ((j 1).val * 128 + (j 2).val) = o + 128 * (j 1).val + (j 2).val; omega)

theorem codes_apply (v : FVec Ideal S1536x2x128 .f32) (j : S2x1536x128.Idx) : (codes v j : EReal) = Cert.Conv.code (fun n => v (ix3 (j 1) (j 0) n)) (j 2) := by
  pointwise [codes, scale, amax]
  rfl

/-- One operand's codes are the ones asked for. -/
theorem codes_part (o : ℕ) (ho : o ≤ 2304) (h) : codes (part X W b o h) = Cert.Conv.codes o ho X W b := by
  funext j
  refine (codes_apply _ j).trans ?_
  unfold Cert.Conv.codes
  congr 1
  funext n
  exact part_apply X W b o ho h (ix3 (j 1) (j 0) n)

theorem codesB_eq : codesB X W b = Cert.Conv.codes 2048 (by decide) X W b := codes_part X W b 2048 (by decide) _
theorem codesC_eq : codesC X W b = Cert.Conv.codes 2304 (by decide) X W b := codes_part X W b 2304 (by decide) _

end Cert.ConvRefIdeal.Final

end
-- ==== Proof.ConvPair.lean ====
module

public import proofs.«01_k».proof.Defs
public import proofs.«01_k».proof.Proof.ConvValue
public import proofs.«01_k».proof.Proof.ConvRefValue
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Conv

/-- The reference runs, its arguments unchanged; the program has no semaphore. -/
theorem frame_ref : Cert.quiescent_ConvRefIdeal := by
  intro m g hpre
  refine θ_run_mono (Cert.ConvRefIdeal.Final.run m g) fun r h => ⟨fun c => (h c).2.2, funext fun x => ?_⟩
  obtain ⟨t, sm⟩ := x
  cases sm with
  | reg s => exact absurd s.isLt (Nat.not_lt_zero _)
  | dma s => exact absurd s.isLt (Nat.not_lt_zero _)

/-- The kernel's results are the reference's. -/
theorem pair : Cert.algebraic_ConvIdeal_ConvRefIdeal := by
  pair_intro
  · run_from Cert.ConvIdeal.Hand.run_main m g
  · refine θ_run_mono (Cert.ConvRefIdeal.Final.run m' g') fun r h => ?_
    intro c
    obtain ⟨h0, h1, h2⟩ := h c
    refine ⟨h0.trans (Eq.trans ?_ (Cert.ConvIdeal.Hand.final4 m c).symm), h1.trans (Eq.trans ?_ (Cert.ConvIdeal.Hand.final5 m c).symm), h2⟩
    · rw [Cert.ConvRefIdeal.Final.codesB_eq]; simp only [hagree c]
    · rw [Cert.ConvRefIdeal.Final.codesC_eq]; simp only [hagree c]

end Cert.Conv

end
-- ==== Proof.ConvRun.lean ====
module

public import proofs.«01_k».proof.Proof.Gen.Conv.Skeleton
public import proofs.«01_k».proof.Proof.Gen.Conv.Frame

@[expose] public section

set_option maxRecDepth 65536

noncomputable section

namespace Cert.Conv.Hand

open Cert.Conv.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

set_option maxHeartbeats 40000000 in
/-- The body at a point whose chunk is not the first, over the contents it finds: the stores it leaves in each block and in the carried rows. -/
noncomputable def run_0 (c : Dev nD) (i : grid0.Coords) (arg2 : Memref sig .tc .vmem S1x128x128 .f32) (harg2 : arg2.IsWhole) (arg3 : Memref sig .tc .vmem S1x128x128 .f32) (harg3 : arg3.IsWhole) (arg4 : Memref sig .tc .vmem S5x128x128 .f32) (harg4 : arg4.IsWhole) (arg5 : Memref sig .tc .vmem S5x128x128 .f32) (harg5 : arg5.IsWhole) (arg6 : Memref sig .tc .vmem S1x128x128 .fp8e4m3) (harg6 : arg6.IsWhole) (arg7 : Memref sig .tc .vmem S1x128x128 .fp8e4m3) (harg7 : arg7.IsWhole) (arg8 : Memref sig .tc .vmem S2x1280x128 .f32) (harg8 : arg8.IsWhole) (hc0 : ¬(k0_cond1 i = 1#1))
    (x0 : Vec F S1x128x128 .f32) (x1 : Vec F S1x128x128 .f32) (x2 : Vec F S5x128x128 .f32) (x3 : Vec F S5x128x128 .f32) (x6 : Vec F S2x1280x128 .f32) :
    Σ' (L_arg6 : List (View.Piece (Elt F) S1x128x128 .fp8e4m3)), Σ' (L_arg7 : List (View.Piece (Elt F) S1x128x128 .fp8e4m3)), { L_arg8 : List (View.Piece (Elt F) S2x1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L_arg6) ∗ (∃ f, arg7.view.loc (c : Thread nD τ) ↦[arg7.view.set]{fullShare} arg7.view.writes (Elt F) f L_arg7) ∗ (arg8.view.loc (c : Thread nD τ) ↦[arg8.view.set]{fullShare} arg8.view.writes (Elt F) (harg8.unread x6) L_arg8)) -∗ K ⟨⟩))
          ⊢ wp frame (wpE (defs₀ (F := F)) Variants.none c none) E (cc0_ssd_fwd i arg2 harg2 arg3 harg3 arg4 harg4 arg5 harg5 arg6 harg6 arg7 harg7 arg8 harg8) K } := by
  refine ⟨?_, ?_, ?_, fun E K => ?run⟩
  case run =>
    simp only [cc0_ssd_fwd_eq_skeleton]; unfold cc0_ssd_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexact H6

set_option maxHeartbeats 40000000 in
/-- The body at a point of the first chunk, which clears the carried rows first. -/
noncomputable def run_1 (c : Dev nD) (i : grid0.Coords) (arg2 : Memref sig .tc .vmem S1x128x128 .f32) (harg2 : arg2.IsWhole) (arg3 : Memref sig .tc .vmem S1x128x128 .f32) (harg3 : arg3.IsWhole) (arg4 : Memref sig .tc .vmem S5x128x128 .f32) (harg4 : arg4.IsWhole) (arg5 : Memref sig .tc .vmem S5x128x128 .f32) (harg5 : arg5.IsWhole) (arg6 : Memref sig .tc .vmem S1x128x128 .fp8e4m3) (harg6 : arg6.IsWhole) (arg7 : Memref sig .tc .vmem S1x128x128 .fp8e4m3) (harg7 : arg7.IsWhole) (arg8 : Memref sig .tc .vmem S2x1280x128 .f32) (harg8 : arg8.IsWhole) (hc0 : (k0_cond1 i = 1#1))
    (x0 : Vec F S1x128x128 .f32) (x1 : Vec F S1x128x128 .f32) (x2 : Vec F S5x128x128 .f32) (x3 : Vec F S5x128x128 .f32) (x6 : Vec F S2x1280x128 .f32) :
    Σ' (L_arg6 : List (View.Piece (Elt F) S1x128x128 .fp8e4m3)), Σ' (L_arg7 : List (View.Piece (Elt F) S1x128x128 .fp8e4m3)), { L_arg8 : List (View.Piece (Elt F) S2x1280x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L_arg6) ∗ (∃ f, arg7.view.loc (c : Thread nD τ) ↦[arg7.view.set]{fullShare} arg7.view.writes (Elt F) f L_arg7) ∗ (arg8.view.loc (c : Thread nD τ) ↦[arg8.view.set]{fullShare} arg8.view.writes (Elt F) (harg8.unread x6) L_arg8)) -∗ K ⟨⟩))
          ⊢ wp frame (wpE (defs₀ (F := F)) Variants.none c none) E (cc0_ssd_fwd i arg2 harg2 arg3 harg3 arg4 harg4 arg5 harg5 arg6 harg6 arg7 harg7 arg8 harg8) K } := by
  refine ⟨?_, ?_, ?_, fun E K => ?run⟩
  case run =>
    simp only [cc0_ssd_fwd_eq_skeleton]; unfold cc0_ssd_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexact H6

end Cert.Conv.Hand

end
-- ==== Proof.ConvOut.lean ====
/-
The two blocks the body stores, as functions of the block it reads, the block before it and the taps; what the
carried rows hold after a point.
-/
module

public import proofs.«01_k».proof.Proof.ConvRun
public import Idealize.ShloMosaic.Lib.Pipeline.Value
public import Idealize.ShloMosaic.Lib.VecWindow
public import Idealize.ShloMosaic.Lib.WritesUnit

@[expose] public section

set_option maxRecDepth 65536

noncomputable section

namespace Cert.Conv.Hand

open Cert.Conv.Gen
open Idealize.ShloMosaic Idealize.ShloMosaic.TcCoe Idealize.ShloMosaic.Tactic
open Idealize.ShloMosaic.VecWindow

variable {F : FTy → Type} [FloatOps F]

/-- Row block `k` of the taps. -/
abbrev tap (w : Vec F S5x128x128 .f32) (k : ℕ) (inb : ∀ a, (![k, 0, 0] : Fin 3 → ℕ) a + S1x128x128.size a ≤ S5x128x128.size a) :
    Vec F S1x128x128 .f32 := window (s := S5x128x128) w ![k, 0, 0] S1x128x128.size inb

/-- What the body stores into its first result: from the block `u`, the block before it `p`, the taps and the bias. -/
def outBof (u p : Vec F S1x128x128 .f32) (w4 w3 w2 w1 w0 : Vec F S1x128x128 .f32) : Vec F S1x128x128 .fp8e4m3 :=
  k0_pay1 (k0_pay16 (k0_pay9 (k0_pay4 u) (k0_pay5 p) (k0_pay6 u p w4 w3 w2 w1) k0_pay7 w0))

/-- The row numbers the body compares with. -/
abbrev lanes : IVec S128x128 32 := iota .tc S128x128 32 [1] iota_S128x128_d1_w32

/-- What the body stores into its second result. -/
def outCof (u p : Vec F S1x128x128 .f32) (w4 w3 w2 w1 w0 : Vec F S1x128x128 .f32) : Vec F S1x128x128 .fp8e4m3 :=
  k0_pay2 (k0_pay15 lanes (k0_pay10 u) (k0_pay11 p) (k0_pay12 lanes u p w4 w3 w2) (k0_pay13 lanes u p) w1 w0)
    (k0_pay17 lanes (k0_pay10 u) (k0_pay11 p) (k0_pay12 lanes u p w4 w3 w2) (k0_pay13 lanes u p) w1 w0)
    (k0_pay18 lanes (k0_pay10 u) (k0_pay11 p) (k0_pay12 lanes u p w4 w3 w2) (k0_pay13 lanes u p) w1 w0) k0_pay19

/-- The first result's block, the taps stacked. -/
def outB (u p : Vec F S1x128x128 .f32) (w : Vec F S5x128x128 .f32) : Vec F S1x128x128 .fp8e4m3 :=
  outBof u p (tap w 4 inb_S5x128x128_S1x128x128_4_0_0) (tap w 3 inb_S5x128x128_S1x128x128_3_0_0)
    (tap w 2 inb_S5x128x128_S1x128x128_2_0_0) (tap w 1 inb_S5x128x128_S1x128x128_1_0_0) (tap w 0 inb_S5x128x128_S1x128x128_0_0_0)

/-- The second result's block, the taps stacked. -/
def outC (u p : Vec F S1x128x128 .f32) (w : Vec F S5x128x128 .f32) : Vec F S1x128x128 .fp8e4m3 :=
  outCof u p (tap w 4 inb_S5x128x128_S1x128x128_4_0_0) (tap w 3 inb_S5x128x128_S1x128x128_3_0_0)
    (tap w 2 inb_S5x128x128_S1x128x128_2_0_0) (tap w 1 inb_S5x128x128_S1x128x128_1_0_0) (tap w 0 inb_S5x128x128_S1x128x128_0_0_0)

variable (c : Dev nD) (i : grid0.Coords) (arg2 : Memref sig .tc .vmem S1x128x128 .f32) (harg2 : arg2.IsWhole) (arg3 : Memref sig .tc .vmem S1x128x128 .f32) (harg3 : arg3.IsWhole) (arg4 : Memref sig .tc .vmem S5x128x128 .f32) (harg4 : arg4.IsWhole) (arg5 : Memref sig .tc .vmem S5x128x128 .f32) (harg5 : arg5.IsWhole) (arg6 : Memref sig .tc .vmem S1x128x128 .fp8e4m3) (harg6 : arg6.IsWhole) (arg7 : Memref sig .tc .vmem S1x128x128 .fp8e4m3) (harg7 : arg7.IsWhole) (arg8 : Memref sig .tc .vmem S2x1280x128 .f32) (harg8 : arg8.IsWhole)
  (x0 x1 : Vec F S1x128x128 .f32) (x2 x3 : Vec F S5x128x128 .f32) (x6 : Vec F S2x1280x128 .f32)

/-- The carried rows a point reads or stores: 128 rows of the point's half, from row `o`. -/
theorem rows_inb {g o : ℕ} (hg : g < 2) (ho : o + 128 ≤ 1280) :
    ∀ a, (![g, o, 0] : Fin 3 → ℕ) a + S1x128x128.size a ≤ S2x1280x128.size a := fun a => by
  match a with
  | ⟨0, _⟩ => exact hg
  | ⟨1, _⟩ => exact ho
  | ⟨2, _⟩ => exact Nat.le_refl 128

abbrev rows (X : Vec F S2x1280x128 .f32) (g o : ℕ) (hg : g < 2) (ho : o + 128 ≤ 1280) : Vec F S1x128x128 .f32 :=
  window (s := S2x1280x128) X ![g, o, 0] S1x128x128.size (rows_inb hg ho)

theorem off2_eq : ∀ i : grid0.Coords, k0_off2 i = ![(i 1).val, 1024, 0] := by decide +kernel
theorem off3_eq : ∀ i : grid0.Coords, k0_off3 i = ![(i 1).val, 1152, 0] := by decide +kernel
theorem off1_eq : ∀ i : grid0.Coords, k0_off1 i = ![(i 1).val, 0, 0] := by decide +kernel
theorem half_lt : ∀ i : grid0.Coords, (i 1).val < 2 := by decide +kernel

/-- The block before the first one: zeros. -/
abbrev zeros : Vec F S1x128x128 .f32 := fun _ => Scalar.ofBits .f32 0x00000000#32

theorem pay3_apply (x : S1x1280x128.Idx) : (k0_pay3 : FVec F S1x1280x128 .f32) x = Scalar.ofBits .f32 0x00000000#32 := rfl

/-- The body's loads: a row block of the taps, a whole block, and the point's two rows of the carried buffer. -/
abbrev ldTap (m : Memref sig .tc .vmem S5x128x128 .f32) (hm : m.IsWhole) (x : Vec F S5x128x128 .f32) (k : ℕ) (inb : ∀ a, (![k, 0, 0] : Fin 3 → ℕ) a + S1x128x128.size a ≤ S5x128x128.size a) : Vec F S1x128x128 .f32 :=
  m.view.readAt (Elt F) (Rect.unit (s := S5x128x128) ![k, 0, 0] S1x128x128.size inb).toLoadRect (hm.unread x)
abbrev ldBlk (m : Memref sig .tc .vmem S1x128x128 .f32) (hm : m.IsWhole) (x : Vec F S1x128x128 .f32) : Vec F S1x128x128 .f32 :=
  m.view.readAt (Elt F) (Rect.unit ![0, 0, 0] S1x128x128.size inb_S1x128x128_S1x128x128_0_0_0).toLoadRect (hm.unread x)
abbrev ld2 : Vec F S1x128x128 .f32 :=
  arg8.view.readAt (Elt F) (Rect.unit (s := S2x1280x128) (k0_off2 i) S1x128x128.size (k0_off2_inb i)).toLoadRect (harg8.unread x6)
abbrev ld3 : Vec F S1x128x128 .f32 :=
  arg8.view.readAt (Elt F) (Rect.unit (s := S2x1280x128) (k0_off3 i) S1x128x128.size (k0_off3_inb i)).toLoadRect (harg8.unread x6)

theorem load2 (inb) : arg8.view.readAt (Elt F) (Rect.unit (s := S2x1280x128) (k0_off2 i) S1x128x128.size inb).toLoadRect (harg8.unread x6)
    = rows x6 (i 1).val 1024 (half_lt i) (by omega) := by
  rw [View.readAt_unit _ _ _ (off2_eq i) (rows_inb (half_lt i) (by omega)), harg8.read_unread]

theorem load3 (inb) : arg8.view.readAt (Elt F) (Rect.unit (s := S2x1280x128) (k0_off3 i) S1x128x128.size inb).toLoadRect (harg8.unread x6)
    = rows x6 (i 1).val 1152 (half_lt i) (by omega) := by
  rw [View.readAt_unit _ _ _ (off3_eq i) (rows_inb (half_lt i) (by omega)), harg8.read_unread]

theorem loadTap (x : Vec F S5x128x128 .f32) (m : Memref sig .tc .vmem S5x128x128 .f32) (hm : m.IsWhole) (k : ℕ) (inb) :
    m.view.readAt (Elt F) (Rect.unit (s := S5x128x128) ![k, 0, 0] S1x128x128.size inb).toLoadRect (hm.unread x) = tap x k inb := by
  rw [View.readAt_unit _ _ _ rfl inb, hm.read_unread]

theorem loadBlk (x : Vec F S1x128x128 .f32) (m : Memref sig .tc .vmem S1x128x128 .f32) (hm : m.IsWhole) (inb) :
    m.view.readAt (Elt F) (Rect.unit ![0, 0, 0] S1x128x128.size inb).toLoadRect (hm.unread x) = x := by
  rw [View.readAt_full, hm.read_unread]

theorem ldBlk_eq (x : Vec F S1x128x128 .f32) (m : Memref sig .tc .vmem S1x128x128 .f32) (hm : m.IsWhole) : ldBlk m hm x = x := loadBlk x m hm _

/-- Rows read off the carried buffer just cleared, with the body's own store of other rows over it. -/
theorem cleared (v : View sig .tc .vmem S2x1280x128 .f32) (f) (inb) (y : S2x1280x128.Idx) (hy : (y 0).val = (i 1).val) :
    v.read (Elt F) (v.writes (Elt F) f [⟨Rect.unit (k0_off1 i) S1x1280x128.size inb, k0_pay3⟩]) y = Scalar.ofBits .f32 0x00000000#32 := by
  refine (View.read_writes_cons_unit_of_mem v f inb k0_pay3 [] y (fun a => ⟨(y a).val - (![(i 1).val, 0, 0] : Fin 3 → ℕ) a, by
      match a with
      | ⟨0, _⟩ => show (y 0).val - (i 1).val < 1; omega
      | ⟨1, _⟩ => exact (y 1).isLt
      | ⟨2, _⟩ => exact (y 2).isLt⟩) (off1_eq i) (fun a => by
      match a with
      | ⟨0, _⟩ => show (y 0).val = (i 1).val + ((y 0).val - (i 1).val); omega
      | ⟨1, _⟩ => show (y 1).val = 0 + ((y 1).val - 0); omega
      | ⟨2, _⟩ => show (y 2).val = 0 + ((y 2).val - 0); omega)).trans ?_
  exact pay3_apply _

theorem cov2 (inb inb') : arg8.view.readCov [⟨Rect.unit (k0_off1 i) S1x1280x128.size inb, k0_pay3⟩] (Rect.unit (s := S2x1280x128) (k0_off2 i) S1x128x128.size inb').toLoadRect
    = (zeros : Vec F S1x128x128 .f32) := by
  funext y
  refine (congrFun (View.readAt_unit arg8.view _ inb' (off2_eq i) (rows_inb (half_lt i) (by omega))) y).trans ?_
  exact cleared i _ _ inb _ (by show (i 1).val + 1 * (y 0).val = _; have : (y 0).val < 1 := (y 0).isLt; omega)

theorem cov3 (inb inb' inb'' w) : arg8.view.readCov [⟨Rect.unit (k0_off2 i) S1x128x128.size inb'', w⟩, ⟨Rect.unit (k0_off1 i) S1x1280x128.size inb, k0_pay3⟩] (Rect.unit (s := S2x1280x128) (k0_off3 i) S1x128x128.size inb').toLoadRect
    = (zeros : Vec F S1x128x128 .f32) := by
  funext y
  refine (congrFun (View.readAt_unit arg8.view _ inb' (off3_eq i) (rows_inb (half_lt i) (by omega))) y).trans ?_
  refine (View.read_writes_cons_unit_of_not_mem arg8.view _ inb'' w _ _ (off2_eq i) 1 (Or.inr ?_)).trans ?_
  · show 1024 + 128 ≤ 1152 + 1 * (y 1).val; omega
  exact cleared i _ _ inb _ (by show (i 1).val + 1 * (y 0).val = _; have : (y 0).val < 1 := (y 0).isLt; omega)

section Later
variable (hc0 : ¬ k0_cond1 i = 1#1)

theorem run_0_1 : (run_0 c i arg2 harg2 arg3 harg3 arg4 harg4 arg5 harg5 arg6 harg6 arg7 harg7 arg8 harg8 hc0 x0 x1 x2 x3 x6).1 = [⟨Rect.unit ![0, 0, 0] S1x128x128.size inb_S1x128x128_S1x128x128_0_0_0,
    outBof (ldBlk arg2 harg2 x0) (ld2 i arg8 harg8 x6) (ldTap arg4 harg4 x2 4 inb_S5x128x128_S1x128x128_4_0_0) (ldTap arg4 harg4 x2 3 inb_S5x128x128_S1x128x128_3_0_0) (ldTap arg4 harg4 x2 2 inb_S5x128x128_S1x128x128_2_0_0) (ldTap arg4 harg4 x2 1 inb_S5x128x128_S1x128x128_1_0_0) (ldTap arg4 harg4 x2 0 inb_S5x128x128_S1x128x128_0_0_0)⟩] := rfl

theorem run_0_2 : (run_0 c i arg2 harg2 arg3 harg3 arg4 harg4 arg5 harg5 arg6 harg6 arg7 harg7 arg8 harg8 hc0 x0 x1 x2 x3 x6).2.1 = [⟨Rect.unit ![0, 0, 0] S1x128x128.size inb_S1x128x128_S1x128x128_0_0_0,
    outCof (ldBlk arg3 harg3 x1) (ld3 i arg8 harg8 x6) (ldTap arg5 harg5 x3 4 inb_S5x128x128_S1x128x128_4_0_0) (ldTap arg5 harg5 x3 3 inb_S5x128x128_S1x128x128_3_0_0) (ldTap arg5 harg5 x3 2 inb_S5x128x128_S1x128x128_2_0_0) (ldTap arg5 harg5 x3 1 inb_S5x128x128_S1x128x128_1_0_0) (ldTap arg5 harg5 x3 0 inb_S5x128x128_S1x128x128_0_0_0)⟩] := rfl

theorem run_0_3 : (run_0 c i arg2 harg2 arg3 harg3 arg4 harg4 arg5 harg5 arg6 harg6 arg7 harg7 arg8 harg8 hc0 x0 x1 x2 x3 x6).2.2.1 = [⟨Rect.unit (s := S2x1280x128) (k0_off3 i) S1x128x128.size (k0_off3_inb i), k0_pay14 (k0_pay10 (ldBlk arg3 harg3 x1))⟩,
    ⟨Rect.unit (s := S2x1280x128) (k0_off2 i) S1x128x128.size (k0_off2_inb i), k0_pay8 (k0_pay4 (ldBlk arg2 harg2 x0))⟩] := rfl

theorem run_0_B (f) : arg6.view.read (Elt F) (arg6.view.writes (Elt F) f (run_0 c i arg2 harg2 arg3 harg3 arg4 harg4 arg5 harg5 arg6 harg6 arg7 harg7 arg8 harg8 hc0 x0 x1 x2 x3 x6).1) = outB x0 (rows x6 (i 1).val 1024 (half_lt i) (by omega)) x2 := by
  rw [run_0_1, View.read_writes_full]
  unfold outB
  rw [show (ld2 i arg8 harg8 x6) = (rows x6 (i 1).val 1024 (half_lt i) (by omega)) from load2 i arg8 harg8 x6 _]
  simp only [loadBlk, loadTap]

theorem run_0_C (f) : arg7.view.read (Elt F) (arg7.view.writes (Elt F) f (run_0 c i arg2 harg2 arg3 harg3 arg4 harg4 arg5 harg5 arg6 harg6 arg7 harg7 arg8 harg8 hc0 x0 x1 x2 x3 x6).2.1) = outC x1 (rows x6 (i 1).val 1152 (half_lt i) (by omega)) x3 := by
  rw [run_0_2, View.read_writes_full]
  unfold outC
  rw [show (ld3 i arg8 harg8 x6) = (rows x6 (i 1).val 1152 (half_lt i) (by omega)) from load3 i arg8 harg8 x6 _]
  simp only [loadBlk, loadTap]

end Later

section First
variable (hc0 : k0_cond1 i = 1#1)

theorem run_1_1 : (run_1 c i arg2 harg2 arg3 harg3 arg4 harg4 arg5 harg5 arg6 harg6 arg7 harg7 arg8 harg8 hc0 x0 x1 x2 x3 x6).1 = [⟨Rect.unit ![0, 0, 0] S1x128x128.size inb_S1x128x128_S1x128x128_0_0_0,
    outBof (ldBlk arg2 harg2 x0) (run_1.sl.v7 c i arg8 hc0) (ldTap arg4 harg4 x2 4 inb_S5x128x128_S1x128x128_4_0_0) (ldTap arg4 harg4 x2 3 inb_S5x128x128_S1x128x128_3_0_0) (ldTap arg4 harg4 x2 2 inb_S5x128x128_S1x128x128_2_0_0) (ldTap arg4 harg4 x2 1 inb_S5x128x128_S1x128x128_1_0_0) (ldTap arg4 harg4 x2 0 inb_S5x128x128_S1x128x128_0_0_0)⟩] := rfl

theorem run_1_2 : (run_1 c i arg2 harg2 arg3 harg3 arg4 harg4 arg5 harg5 arg6 harg6 arg7 harg7 arg8 harg8 hc0 x0 x1 x2 x3 x6).2.1 = [⟨Rect.unit ![0, 0, 0] S1x128x128.size inb_S1x128x128_S1x128x128_0_0_0,
    outCof (ldBlk arg3 harg3 x1) (run_1.sl.v48 c i arg2 harg2 arg8 hc0 x0) (ldTap arg5 harg5 x3 4 inb_S5x128x128_S1x128x128_4_0_0) (ldTap arg5 harg5 x3 3 inb_S5x128x128_S1x128x128_3_0_0) (ldTap arg5 harg5 x3 2 inb_S5x128x128_S1x128x128_2_0_0) (ldTap arg5 harg5 x3 1 inb_S5x128x128_S1x128x128_1_0_0) (ldTap arg5 harg5 x3 0 inb_S5x128x128_S1x128x128_0_0_0)⟩] := rfl

theorem run_1_3 : (run_1 c i arg2 harg2 arg3 harg3 arg4 harg4 arg5 harg5 arg6 harg6 arg7 harg7 arg8 harg8 hc0 x0 x1 x2 x3 x6).2.2.1 = [⟨Rect.unit (s := S2x1280x128) (k0_off3 i) S1x128x128.size (k0_off3_inb i), k0_pay14 (k0_pay10 (ldBlk arg3 harg3 x1))⟩,
    ⟨Rect.unit (s := S2x1280x128) (k0_off2 i) S1x128x128.size (k0_off2_inb i), k0_pay8 (k0_pay4 (ldBlk arg2 harg2 x0))⟩, ⟨Rect.unit (s := S2x1280x128) (k0_off1 i) S1x1280x128.size (k0_off1_inb i hc0), k0_pay3⟩] := rfl

theorem run_1_B (f) : arg6.view.read (Elt F) (arg6.view.writes (Elt F) f (run_1 c i arg2 harg2 arg3 harg3 arg4 harg4 arg5 harg5 arg6 harg6 arg7 harg7 arg8 harg8 hc0 x0 x1 x2 x3 x6).1) = outB x0 zeros x2 := by
  rw [run_1_1, View.read_writes_full]
  unfold outB
  rw [show (run_1.sl.v7 c i arg8 hc0) = zeros from cov2 i arg8 _ _]
  simp only [loadBlk, loadTap]

theorem run_1_C (f) : arg7.view.read (Elt F) (arg7.view.writes (Elt F) f (run_1 c i arg2 harg2 arg3 harg3 arg4 harg4 arg5 harg5 arg6 harg6 arg7 harg7 arg8 harg8 hc0 x0 x1 x2 x3 x6).2.1) = outC x1 zeros x3 := by
  rw [run_1_2, View.read_writes_full]
  unfold outC
  rw [show (run_1.sl.v48 c i arg2 harg2 arg8 hc0 x0) = zeros from cov3 i arg8 _ _ _ _]
  simp only [loadBlk, loadTap]

end First

/-- The two row blocks a point leaves in its half of the carried buffer, and the other half left as it was. -/
theorem pay8_pay4 (x : Vec F S1x128x128 .f32) : k0_pay8 (k0_pay4 x) = x := by
  unfold k0_pay8 k0_pay4; exact shapeCast_shapeCast _ _ _

theorem pay14_pay10 (x : Vec F S1x128x128 .f32) : k0_pay14 (k0_pay10 x) = x := by
  unfold k0_pay14 k0_pay10; exact shapeCast_shapeCast _ _ _

section Left
variable (v : View sig .tc .vmem S2x1280x128 .f32) (f : v.ty.Contents (Elt F)) (L : List (View.Piece (Elt F) S2x1280x128 .f32)) (inb2 inb3)

theorem left3 : rows (v.read (Elt F) (v.writes (Elt F) f (⟨Rect.unit (s := S2x1280x128) (k0_off3 i) S1x128x128.size inb3, k0_pay14 (k0_pay10 x1)⟩
      :: ⟨Rect.unit (s := S2x1280x128) (k0_off2 i) S1x128x128.size inb2, k0_pay8 (k0_pay4 x0)⟩ :: L))) (i 1).val 1152 (half_lt i) (by omega) = x1 := by
  rw [pay14_pay10]
  funext y
  exact View.read_writes_cons_unit_of_mem v f inb3 x1 _ _ y (off3_eq i) fun a => by
    match a with
    | ⟨0, _⟩ => show (i 1).val + 1 * (y 0).val = (i 1).val + (y 0).val; omega
    | ⟨1, _⟩ => show 1152 + 1 * (y 1).val = 1152 + (y 1).val; omega
    | ⟨2, _⟩ => show 0 + 1 * (y 2).val = 0 + (y 2).val; omega

theorem left2 : rows (v.read (Elt F) (v.writes (Elt F) f (⟨Rect.unit (s := S2x1280x128) (k0_off3 i) S1x128x128.size inb3, k0_pay14 (k0_pay10 x1)⟩
      :: ⟨Rect.unit (s := S2x1280x128) (k0_off2 i) S1x128x128.size inb2, k0_pay8 (k0_pay4 x0)⟩ :: L))) (i 1).val 1024 (half_lt i) (by omega) = x0 := by
  rw [pay8_pay4]
  funext y
  refine (View.read_writes_cons_unit_of_not_mem v f inb3 _ _ _ (off3_eq i) 1 (Or.inl ?_)).trans ?_
  · have : (y 1).val < 128 := (y 1).isLt
    show 1024 + 1 * (y 1).val < 1152; omega
  exact View.read_writes_cons_unit_of_mem v f inb2 x0 _ _ y (off2_eq i) fun a => by
    match a with
    | ⟨0, _⟩ => show (i 1).val + 1 * (y 0).val = (i 1).val + (y 0).val; omega
    | ⟨1, _⟩ => show 1024 + 1 * (y 1).val = 1024 + (y 1).val; omega
    | ⟨2, _⟩ => show 0 + 1 * (y 2).val = 0 + (y 2).val; omega

/-- A store into the point's half leaves the other half's rows. -/
theorem left_other {off size : Fin 3 → ℕ} {p q : ℕ} (h : off = ![(i 1).val, p, q]) (hs : size 0 = 1) (inb) (w) {g o : ℕ} (hg : g < 2) (ho : o + 128 ≤ 1280) (hne : g ≠ (i 1).val) :
    rows (v.read (Elt F) (v.writes (Elt F) f (⟨Rect.unit (s := S2x1280x128) off size inb, w⟩ :: L))) g o hg ho
      = rows (v.read (Elt F) (v.writes (Elt F) f L)) g o hg ho := by
  funext y
  have hy : (y 0).val < 1 := (y 0).isLt
  refine View.read_writes_cons_unit_of_not_mem v f inb w L _ h 0 ?_
  show g + 1 * (y 0).val < (i 1).val ∨ (i 1).val + size 0 ≤ g + 1 * (y 0).val
  omega
end Left

/-- What a point leaves in the carried rows, over what it found, whichever the chunk. -/
structure Left (X X' : Vec F S2x1280x128 .f32) : Prop where
  left2 : rows X' (i 1).val 1024 (half_lt i) (by omega) = x0
  left3 : rows X' (i 1).val 1152 (half_lt i) (by omega) = x1
  other : ∀ g o hg ho, g ≠ (i 1).val → rows X' g o hg ho = rows X g o hg ho

theorem run_0_left (hc0 : ¬ k0_cond1 i = 1#1) :
    Left i x0 x1 x6 (arg8.view.read (Elt F) (arg8.view.writes (Elt F) (harg8.unread x6) (run_0 c i arg2 harg2 arg3 harg3 arg4 harg4 arg5 harg5 arg6 harg6 arg7 harg7 arg8 harg8 hc0 x0 x1 x2 x3 x6).2.2.1)) := by
  rw [run_0_3, ldBlk_eq, ldBlk_eq]
  refine ⟨left2 i x0 x1 _ _ _ _ _, left3 i x0 x1 _ _ _ _ _, fun g o hg ho hne => ?_⟩
  rw [left_other i _ _ _ (off3_eq i) rfl _ _ hg ho hne, left_other i _ _ _ (off2_eq i) rfl _ _ hg ho hne]
  exact congrArg (fun X => rows X g o hg ho) (harg8.read_unread x6)

theorem run_1_left (hc0 : k0_cond1 i = 1#1) :
    Left i x0 x1 x6 (arg8.view.read (Elt F) (arg8.view.writes (Elt F) (harg8.unread x6) (run_1 c i arg2 harg2 arg3 harg3 arg4 harg4 arg5 harg5 arg6 harg6 arg7 harg7 arg8 harg8 hc0 x0 x1 x2 x3 x6).2.2.1)) := by
  rw [run_1_3, ldBlk_eq, ldBlk_eq]
  refine ⟨left2 i x0 x1 _ _ _ _ _, left3 i x0 x1 _ _ _ _ _, fun g o hg ho hne => ?_⟩
  rw [left_other i _ _ _ (off3_eq i) rfl _ _ hg ho hne, left_other i _ _ _ (off2_eq i) rfl _ _ hg ho hne,
    left_other i _ _ _ (off1_eq i) rfl _ _ hg ho hne]
  exact congrArg (fun X => rows X g o hg ho) (harg8.read_unread x6)

end Cert.Conv.Hand

end
-- ==== Proof.ConvFrame.lean ====
/-
The launch of the convolution's call: what every point stores, point by point, and the frame.
-/
module

public import proofs.«01_k».proof.Proof.ConvOut
public import Idealize.ShloMosaic.Lib.Claim

@[expose] public section

set_option maxRecDepth 65536

noncomputable section

namespace Cert.Conv.Hand

open Cert.Conv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carried buffer. -/
abbrev scM : Memref sig .tc .vmem S2x1280x128 .f32 := Memref.whole cc0_scratch0

theorem first_iff : ∀ t : Fin cfg0.N, k0_cond1 (grid0.coords t) = 1#1 ↔ t.val < 2 := by decide +kernel
theorem half_eq : ∀ t : Fin cfg0.N, (grid0.coords t 1).val = t.val % 2 := by decide +kernel

/-- The block two points back: the same half's, one chunk before. -/
def back (t : Fin cfg0.N) : Fin cfg0.N := ⟨t.val - 2, lt_of_le_of_lt (Nat.sub_le _ _) t.isLt⟩

/-- The blocks before point `t`'s: zeros at the first chunk. -/
def prevB (c : Dev nD) (t : Fin cfg0.N) : Vec F S1x128x128 .f32 := if t.val < 2 then zeros else X0_0 m c (back t)
def prevC (c : Dev nD) (t : Fin cfg0.N) : Vec F S1x128x128 .f32 := if t.val < 2 then zeros else X0_1 m c (back t)

/-- What the carried buffer holds before point `n`: each half's last block of both inputs. -/
def Holds (c : Dev nD) (n : ℕ) (X : Vec F S2x1280x128 .f32) : Prop :=
  ∀ t : Fin cfg0.N, t.val < n → n ≤ t.val + 2 →
    rows X (t.val % 2) 1024 (Nat.mod_lt _ (by decide)) (by omega) = X0_0 m c t ∧ rows X (t.val % 2) 1152 (Nat.mod_lt _ (by decide)) (by omega) = X0_1 m c t

theorem rows_congr (X : Vec F S2x1280x128 .f32) {g g' : ℕ} (h : g = g') (o) (hg) (hg') (ho) : rows X g o hg ho = rows X g' o hg' ho := by subst h; rfl

theorem holds_step (c : Dev nD) (t : Fin cfg0.N) (X X' : Vec F S2x1280x128 .f32) (h : Holds m c t.val X)
    (hl : Left (grid0.coords t) (X0_0 m c t) (X0_1 m c t) X X') : Holds m c (t.val + 1) X' := by
  intro t' h1 h2
  by_cases e : t' = t
  · subst e
    exact ⟨(rows_congr X' (half_eq t').symm _ _ (half_lt _) _).trans hl.left2, (rows_congr X' (half_eq t').symm _ _ (half_lt _) _).trans hl.left3⟩
  · have hlt : t'.val < t.val := by
      have : t'.val ≠ t.val := fun hh => e (Fin.ext hh)
      omega
    have hne : t'.val % 2 ≠ (grid0.coords t 1).val := by rw [half_eq t]; omega
    exact ⟨(hl.other _ _ _ _ hne).trans (h t' hlt (by omega)).1, (hl.other _ _ _ _ hne).trans (h t' hlt (by omega)).2⟩

theorem holds_back (c : Dev nD) (t : Fin cfg0.N) (X : Vec F S2x1280x128 .f32) (h : Holds m c t.val X) (ht : ¬ t.val < 2) :
    rows X (grid0.coords t 1).val 1024 (half_lt _) (by omega) = prevB m c t ∧ rows X (grid0.coords t 1).val 1152 (half_lt _) (by omega) = prevC m c t := by
  have hb : (back t).val = t.val - 2 := rfl
  have hh := h (back t) (by omega) (by omega)
  have e : (grid0.coords t 1).val = (back t).val % 2 := by rw [half_eq t, hb]; omega
  unfold prevB prevC
  rw [if_neg ht, if_neg ht]
  exact ⟨(rows_congr X e _ _ _ _).trans hh.1, (rows_congr X e _ _ _ _).trans hh.2⟩

/-- The proof data: what each window's buffer holds after each point, and the invariant. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => outB (X0_0 m c t) (prevB m c t) (iblk m c 2 t)
    | ⟨5, _⟩ => outC (X0_1 m c t) (prevC m c t) (iblk m c 3 t)
  Φ t := iprop((∃ X, ⌜Holds m c t.val X⌝ ∗ owns (c : Thread nD τ) scM fullShare X) ∗ (∃ r, prngReg c r))
  q w := Pipeline.shareOf spec0 w
  owed _ := 0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = iprop((∃ X, ⌜Holds m c t.val X⌝ ∗ owns (c : Thread nD τ) scM fullShare X) ∗ (∃ r, prngReg c r)) := by
  dsimp only [dats]
  exact Pipeline.Dat.Φ_castSucc (fun n _ => iprop((∃ X, ⌜Holds m c n X⌝ ∗ owns (c : Thread nD τ) scM fullShare X) ∗ (∃ r, prngReg c r))) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outB (X0_0 m c t) (prevB m c t) (iblk m c 2 t) := by dsimp only [dats]
theorem after0_5 (c : Dev nD) (t : Fin cfg0.N) : (dats m 0 c).after 5 t = outC (X0_1 m c t) (prevC m c t) (iblk m c 3 t) := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

abbrev ms0_0 (t : Fin cfg0.N) : Memref sig .tc .vmem S1x128x128 .f32 := win0_0.stage (cfg0.slots t 0)
abbrev ms0_1 (t : Fin cfg0.N) : Memref sig .tc .vmem S1x128x128 .f32 := win0_1.stage (cfg0.slots t 1)
abbrev ms0_2 (t : Fin cfg0.N) : Memref sig .tc .vmem S5x128x128 .f32 := win0_2.stage (cfg0.slots t 2)
abbrev ms0_3 (t : Fin cfg0.N) : Memref sig .tc .vmem S5x128x128 .f32 := win0_3.stage (cfg0.slots t 3)
abbrev ms0_4 (t : Fin cfg0.N) : Memref sig .tc .vmem S1x128x128 .fp8e4m3 := win0_4.stage (cfg0.slots t 4)
abbrev ms0_5 (t : Fin cfg0.N) : Memref sig .tc .vmem S1x128x128 .fp8e4m3 := win0_5.stage (cfg0.slots t 5)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point, by whether its chunk is the first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, Phi_castSucc]
  rw [show (dats m 0 c).Φ t.succ = iprop((∃ X, ⌜Holds m c (t.val + 1) X⌝ ∗ owns (c : Thread nD τ) scM fullShare X) ∗ (∃ r, prngReg c r)) from rfl]
  by_cases ht : t.val < 2
  · have hp2 : prevB m c t = zeros := if_pos ht
    have hp3 : prevC m c t = zeros := if_pos ht
    iintro ⟨⟨⟨%X, %hX, HS⟩, Hg⟩, Ho, ⟨%d0, H0⟩, ⟨%d1, H1⟩, ⟨%d2, H2⟩, ⟨%d3, H3⟩, ⟨%d4, H4⟩, ⟨%d5, H5⟩⟩
    iapply ((run_1 c (grid0.coords t) _ _ _ _ _ _ _ _ _ _ _ _ _ _ ((first_iff t).mpr ht) (X0_0 m c t) (X0_1 m c t) (iblk m c 2 t) (iblk m c 3 t) X).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, HS⟩
    isplitl [HS Hg]
    · isplitl [HS]
      · iexists _; isplitr
        swap
        · unfold owns; iexists _; isplitr
          swap; · iexact HS
          ipureintro; rfl
        ipureintro; exact holds_step m c t X _ hX (run_1_left c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rw [hp2]; exact run_1_B c _ _ _ _ _ _ _ _ _ _ _ _ _ _ _ _ _ _ _ _ _ _
    unfold owns; iexists _; isplitr
    swap; · iexact H5
    ipureintro; rw [hp3]; exact run_1_C c _ _ _ _ _ _ _ _ _ _ _ _ _ _ _ _ _ _ _ _ _ _
  · iintro ⟨⟨⟨%X, %hX, HS⟩, Hg⟩, Ho, ⟨%d0, H0⟩, ⟨%d1, H1⟩, ⟨%d2, H2⟩, ⟨%d3, H3⟩, ⟨%d4, H4⟩, ⟨%d5, H5⟩⟩
    have hp := holds_back m c t X hX ht
    iapply ((run_0 c (grid0.coords t) _ _ _ _ _ _ _ _ _ _ _ _ _ _ (fun h => ht ((first_iff t).mp h)) (X0_0 m c t) (X0_1 m c t) (iblk m c 2 t) (iblk m c 3 t) X).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, HS⟩
    isplitl [HS Hg]
    · isplitl [HS]
      · iexists _; isplitr
        swap
        · unfold owns; iexists _; isplitr
          swap; · iexact HS
          ipureintro; rfl
        ipureintro; exact holds_step m c t X _ hX (run_0_left c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rw [← hp.1]; exact run_0_B c _ _ _ _ _ _ _ _ _ _ _ _ _ _ _ _ _ _ _ _ _ _
    unfold owns; iexists _; isplitr
    swap; · iexact H5
    ipureintro; rw [← hp.2]; exact run_0_C c _ _ _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the carried buffer at anything: before the first point nothing is stated of it. -/
theorem hin (c : Dev nD) : Pipeline.ΦA spec0 c ⊢ (dats m 0 c).Φ 0 := by
  rw [show (dats m 0 c).Φ 0 = iprop((∃ X, ⌜Holds m c 0 X⌝ ∗ owns (c : Thread nD τ) scM fullShare X) ∗ (∃ r, prngReg c r)) from rfl, PhiA_eq]
  iintro ⟨⟨%X, HS⟩, Hg⟩
  isplitl [HS]
  · iexists X; isplitr
    · ipureintro; exact fun t h _ => absurd h (Nat.not_lt_zero _)
    iexact HS
  iexact Hg

theorem hout (c : Dev nD) : (dats m 0 c).Φ (Fin.last cfg0.N) ⊢ Pipeline.ΦA spec0 c := by
  rw [show (dats m 0 c).Φ (Fin.last cfg0.N) = iprop((∃ X, ⌜Holds m c (Fin.last cfg0.N).val X⌝ ∗ owns (c : Thread nD τ) scM fullShare X) ∗ (∃ r, prngReg c r)) from rfl, PhiA_eq]
  iintro ⟨⟨%X, %hX, HS⟩, Hg⟩
  isplitl [HS]
  · iexists X; iexact HS
  iexact Hg

-- the launch rule's implicit arguments are found by unifying its conclusion, which takes unfolding plain definitions in a type
set_option backward.isDefEq.respectTransparency.types false in
/-- The launch: every array of the pipeline ends at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Conv.Hand

end
-- ==== Proof.lean ====
module

public import proofs.«01_k».proof.Defs
public import proofs.«01_k».proof.Proof.PrepPair
public import proofs.«01_k».proof.Proof.InProjPair
public import proofs.«01_k».proof.Proof.DgradPair
public import proofs.«01_k».proof.Proof.YProjPair
public import proofs.«01_k».proof.Proof.GradWOutPair
public import proofs.«01_k».proof.Proof.DpQuantPair
public import proofs.«01_k».proof.Proof.GradXPair
public import proofs.«01_k».proof.Proof.GradWInPair
public import proofs.«01_k».proof.Proof.ConvPair
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepRefIdeal.Skeleton
public import proofs.«01_k».proof.Proof.Gen.PrepRefIdeal.Launch
public import proofs.«01_k».proof.Proof.Gen.PrepRefIdeal.Points
public import proofs.«01_k».proof.Proof.Gen.PrepRefIdeal.Frame
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Skeleton
public import proofs.«01_k».proof.Proof.Gen.InProjRefIdeal.Launch
public import proofs.«01_k».proof.Proof.Gen.InProjRefIdeal.Points
public import proofs.«01_k».proof.Proof.Gen.InProjRefIdeal.Frame
public import proofs.«01_k».proof.Proof.Gen.Dgrad
public import proofs.«01_k».proof.Proof.Gen.Dgrad.Skeleton
public import proofs.«01_k».proof.Proof.Gen.Dgrad.Launch
public import proofs.«01_k».proof.Proof.Gen.Dgrad.Points
public import proofs.«01_k».proof.Proof.Gen.Dgrad.Frame
public import proofs.«01_k».proof.Proof.Gen.DgradIdeal
public import proofs.«01_k».proof.Proof.Gen.DgradIdeal.Skeleton
public import proofs.«01_k».proof.Proof.Gen.DgradIdeal.Launch
public import proofs.«01_k».proof.Proof.Gen.DgradIdeal.Points
public import proofs.«01_k».proof.Proof.Gen.DgradIdeal.Frame
public import proofs.«01_k».proof.Proof.Gen.DgradRefIdeal
public import proofs.«01_k».proof.Proof.Gen.DgradRefIdeal.Skeleton
public import proofs.«01_k».proof.Proof.Gen.DgradRefIdeal.Launch
public import proofs.«01_k».proof.Proof.Gen.DgradRefIdeal.Points
public import proofs.«01_k».proof.Proof.Gen.DgradRefIdeal.Frame
public import proofs.«01_k».proof.Proof.Gen.YProj
public import proofs.«01_k».proof.Proof.Gen.YProj.Skeleton
public import proofs.«01_k».proof.Proof.Gen.YProj.Launch
public import proofs.«01_k».proof.Proof.Gen.YProj.Points
public import proofs.«01_k».proof.Proof.Gen.YProj.Frame
public import proofs.«01_k».proof.Proof.Gen.YProjIdeal
public import proofs.«01_k».proof.Proof.Gen.YProjIdeal.Skeleton
public import proofs.«01_k».proof.Proof.Gen.YProjIdeal.Launch
public import proofs.«01_k».proof.Proof.Gen.YProjIdeal.Points
public import proofs.«01_k».proof.Proof.Gen.YProjIdeal.Frame
public import proofs.«01_k».proof.Proof.Gen.YProjRefIdeal
public import proofs.«01_k».proof.Proof.Gen.YProjRefIdeal.Skeleton
public import proofs.«01_k».proof.Proof.Gen.YProjRefIdeal.Launch
public import proofs.«01_k».proof.Proof.Gen.YProjRefIdeal.Points
public import proofs.«01_k».proof.Proof.Gen.YProjRefIdeal.Frame
public import proofs.«01_k».proof.Proof.Gen.GradWOut
public import proofs.«01_k».proof.Proof.Gen.GradWOut.Skeleton
public import proofs.«01_k».proof.Proof.Gen.GradWOut.Launch
public import proofs.«01_k».proof.Proof.Gen.GradWOut.Points
public import proofs.«01_k».proof.Proof.Gen.GradWOut.Frame
public import proofs.«01_k».proof.Proof.Gen.GradWOutIdeal
public import proofs.«01_k».proof.Proof.Gen.GradWOutIdeal.Skeleton
public import proofs.«01_k».proof.Proof.Gen.GradWOutIdeal.Launch
public import proofs.«01_k».proof.Proof.Gen.GradWOutIdeal.Points
public import proofs.«01_k».proof.Proof.Gen.GradWOutIdeal.Frame
public import proofs.«01_k».proof.Proof.Gen.GradWOutRefIdeal
public import proofs.«01_k».proof.Proof.Gen.GradWOutRefIdeal.Skeleton
public import proofs.«01_k».proof.Proof.Gen.GradWOutRefIdeal.Launch
public import proofs.«01_k».proof.Proof.Gen.GradWOutRefIdeal.Points
public import proofs.«01_k».proof.Proof.Gen.GradWOutRefIdeal.Frame
public import proofs.«01_k».proof.Proof.Gen.DpQuant
public import proofs.«01_k».proof.Proof.Gen.DpQuant.Skeleton
public import proofs.«01_k».proof.Proof.Gen.DpQuant.Launch
public import proofs.«01_k».proof.Proof.Gen.DpQuant.Points
public import proofs.«01_k».proof.Proof.Gen.DpQuant.Frame
public import proofs.«01_k».proof.Proof.Gen.DpQuantIdeal
public import proofs.«01_k».proof.Proof.Gen.DpQuantIdeal.Skeleton
public import proofs.«01_k».proof.Proof.Gen.DpQuantIdeal.Launch
public import proofs.«01_k».proof.Proof.Gen.DpQuantIdeal.Points
public import proofs.«01_k».proof.Proof.Gen.DpQuantIdeal.Frame
public import proofs.«01_k».proof.Proof.Gen.DpQuantRefIdeal
public import proofs.«01_k».proof.Proof.Gen.DpQuantRefIdeal.Skeleton
public import proofs.«01_k».proof.Proof.Gen.DpQuantRefIdeal.Launch
public import proofs.«01_k».proof.Proof.Gen.DpQuantRefIdeal.Points
public import proofs.«01_k».proof.Proof.Gen.DpQuantRefIdeal.Frame
public import proofs.«01_k».proof.Proof.Gen.GradX
public import proofs.«01_k».proof.Proof.Gen.GradX.Skeleton
public import proofs.«01_k».proof.Proof.Gen.GradX.Launch
public import proofs.«01_k».proof.Proof.Gen.GradX.Points
public import proofs.«01_k».proof.Proof.Gen.GradX.Frame
public import proofs.«01_k».proof.Proof.Gen.GradXIdeal
public import proofs.«01_k».proof.Proof.Gen.GradXIdeal.Skeleton
public import proofs.«01_k».proof.Proof.Gen.GradXIdeal.Launch
public import proofs.«01_k».proof.Proof.Gen.GradXIdeal.Points
public import proofs.«01_k».proof.Proof.Gen.GradXIdeal.Frame
public import proofs.«01_k».proof.Proof.Gen.GradXRefIdeal
public import proofs.«01_k».proof.Proof.Gen.GradXRefIdeal.Skeleton
public import proofs.«01_k».proof.Proof.Gen.GradXRefIdeal.Launch
public import proofs.«01_k».proof.Proof.Gen.GradXRefIdeal.Points
public import proofs.«01_k».proof.Proof.Gen.GradXRefIdeal.Frame
public import proofs.«01_k».proof.Proof.Gen.GradWIn
public import proofs.«01_k».proof.Proof.Gen.GradWIn.Skeleton
public import proofs.«01_k».proof.Proof.Gen.GradWIn.Launch
public import proofs.«01_k».proof.Proof.Gen.GradWIn.Points
public import proofs.«01_k».proof.Proof.Gen.GradWIn.Frame
public import proofs.«01_k».proof.Proof.Gen.GradWInIdeal
public import proofs.«01_k».proof.Proof.Gen.GradWInIdeal.Skeleton
public import proofs.«01_k».proof.Proof.Gen.GradWInIdeal.Launch
public import proofs.«01_k».proof.Proof.Gen.GradWInIdeal.Points
public import proofs.«01_k».proof.Proof.Gen.GradWInIdeal.Frame
public import proofs.«01_k».proof.Proof.Gen.GradWInRefIdeal
public import proofs.«01_k».proof.Proof.Gen.GradWInRefIdeal.Skeleton
public import proofs.«01_k».proof.Proof.Gen.GradWInRefIdeal.Launch
public import proofs.«01_k».proof.Proof.Gen.GradWInRefIdeal.Points
public import proofs.«01_k».proof.Proof.Gen.GradWInRefIdeal.Frame
public import proofs.«01_k».proof.Proof.Gen.Conv
public import proofs.«01_k».proof.Proof.Gen.ConvIdeal
public import proofs.«01_k».proof.Proof.Gen.ConvRefIdeal
public import proofs.«01_k».proof.Proof.ConvFrame
public import proofs.«01_k».proof.Proof.ConvIdealFrame
public import Idealize.ShloMosaic.Adequacy
public import Idealize.ShloMosaic.Init

@[expose] public section

noncomputable section

namespace Cert.Proof

open Idealize.ShloMosaic Idealize.SL.Sem Cert.Prep

theorem claim : Cert.Claim := ⟨Cert.Prep.Gen.facts, Cert.PrepIdeal.Gen.facts, Cert.PrepRefIdeal.Gen.facts, Cert.InProj.Gen.facts, Cert.InProjIdeal.Gen.facts, Cert.InProjRefIdeal.Gen.facts, Cert.Dgrad.Gen.facts, Cert.DgradIdeal.Gen.facts, Cert.DgradRefIdeal.Gen.facts, Cert.YProj.Gen.facts, Cert.YProjIdeal.Gen.facts, Cert.YProjRefIdeal.Gen.facts, Cert.GradWOut.Gen.facts, Cert.GradWOutIdeal.Gen.facts, Cert.GradWOutRefIdeal.Gen.facts, Cert.DpQuant.Gen.facts, Cert.DpQuantIdeal.Gen.facts, Cert.DpQuantRefIdeal.Gen.facts, Cert.GradX.Gen.facts, Cert.GradXIdeal.Gen.facts, Cert.GradXRefIdeal.Gen.facts, Cert.GradWIn.Gen.facts, Cert.GradWInIdeal.Gen.facts, Cert.GradWInRefIdeal.Gen.facts, Cert.Conv.Gen.facts, Cert.ConvIdeal.Gen.facts, Cert.ConvRefIdeal.Gen.facts,
  fun m ρ _ => Cert.Prep.Gen.frame m ρ,
  fun m ρ _ => Cert.PrepIdeal.Gen.frame m ρ,
  fun m ρ _ => Cert.PrepRefIdeal.Gen.frame m ρ,
  fun m ρ _ => Cert.InProj.Gen.frame m ρ,
  fun m ρ _ => Cert.InProjIdeal.Gen.frame m ρ,
  fun m ρ _ => Cert.InProjRefIdeal.Gen.frame m ρ,
  fun m ρ _ => Cert.Dgrad.Gen.frame m ρ,
  fun m ρ _ => Cert.DgradIdeal.Gen.frame m ρ,
  fun m ρ _ => Cert.DgradRefIdeal.Gen.frame m ρ,
  fun m ρ _ => Cert.YProj.Gen.frame m ρ,
  fun m ρ _ => Cert.YProjIdeal.Gen.frame m ρ,
  fun m ρ _ => Cert.YProjRefIdeal.Gen.frame m ρ,
  fun m ρ _ => Cert.GradWOut.Gen.frame m ρ,
  fun m ρ _ => Cert.GradWOutIdeal.Gen.frame m ρ,
  fun m ρ _ => Cert.GradWOutRefIdeal.Gen.frame m ρ,
  fun m ρ _ => Cert.DpQuant.Gen.frame m ρ,
  fun m ρ _ => Cert.DpQuantIdeal.Gen.frame m ρ,
  fun m ρ _ => Cert.DpQuantRefIdeal.Gen.frame m ρ,
  fun m ρ _ => Cert.GradX.Gen.frame m ρ,
  fun m ρ _ => Cert.GradXIdeal.Gen.frame m ρ,
  fun m ρ _ => Cert.GradXRefIdeal.Gen.frame m ρ,
  fun m ρ _ => Cert.GradWIn.Gen.frame m ρ,
  fun m ρ _ => Cert.GradWInIdeal.Gen.frame m ρ,
  fun m ρ _ => Cert.GradWInRefIdeal.Gen.frame m ρ,
  fun m ρ _ => Cert.Conv.Hand.frame m ρ,
  fun m ρ _ => Cert.ConvIdeal.Hand.frame m ρ,
  Cert.Conv.frame_ref,
  trivial,
  Cert.Prep.pair,
  trivial,
  Cert.InProj.pair,
  trivial,
  Cert.Dgrad.pair,
  trivial,
  Cert.YProj.pair,
  trivial,
  Cert.GradWOut.pair,
  trivial,
  Cert.DpQuant.pair,
  trivial,
  Cert.GradX.pair,
  trivial,
  Cert.GradWIn.pair,
  trivial,
  Cert.Conv.pair⟩

end Cert.Proof

end
